-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite [hPre_scores_finite : Cert.Pre_scores_finite.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite [hPre_scores_finite : Cert.Pre_scores_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 [hPre_tiles_in_range : Cert.Pre_tiles_in_range.Facts] (m : (ℓ : Loc Cert.Kernel2.nD Cert.Kernel2.τ Cert.Kernel2.sig) → Buf (Elt Bits) ℓ) : Prop :=
  ∀ c : Dev Cert.Kernel2.nD,
    (Cert.Pre_tiles_in_range.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6))) = (fun _ => 1#1)

def Pre_Kernel2Ideal [hPre_tiles_in_range : Cert.Pre_tiles_in_range.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_tiles_in_range.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_tiles_in_range [hPre_tiles_in_range : Cert.Pre_tiles_in_range.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_tiles_in_range.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_scores_finite [hKernelIdeal : Cert.KernelIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_scores_finite [hReferenceIdeal : Cert.ReferenceIdeal.Facts] [hPre_scores_finite : Cert.Pre_scores_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] [hPre_tiles_in_range : Cert.Pre_tiles_in_range.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] [hPre_tiles_in_range : Cert.Pre_tiles_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_tiles_in_range [hReference2Ideal : Cert.Reference2Ideal.Facts] [hPre_tiles_in_range : Cert.Pre_tiles_in_range.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_tiles_in_range m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def preserves_Kernel_KernelIdeal : Prop :=
  True

def algebraic_KernelIdeal_ReferenceIdeal_pre_scores_finite [hKernelIdeal : Cert.KernelIdeal.Facts] [hReferenceIdeal : Cert.ReferenceIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] [hPre_tiles_in_range : Cert.Pre_tiles_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v139) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v10)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v10) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v21) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v3_0)) (v1 : (c : Dev Cert.Kernel4Ideal.nD) → Buf (Elt Ideal) ((c.tc : Thread Cert.Kernel4Ideal.nD Cert.Kernel4Ideal.τ).loc Cert.Kernel4Ideal.main_v3_1)) (v2 : (c : Dev Cert.Kernel4Ideal.nD) → Buf (Elt Ideal) ((c.tc : Thread Cert.Kernel4Ideal.nD Cert.Kernel4Ideal.τ).loc Cert.Kernel4Ideal.main_v3_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3_0) = v0 c
          ∧ r.2.mem ((c.tc : Thread Cert.Kernel4Ideal.nD Cert.Kernel4Ideal.τ).loc Cert.Kernel4Ideal.main_v3_1) = v1 c
          ∧ r.2.mem ((c.tc : Thread Cert.Kernel4Ideal.nD Cert.Kernel4Ideal.τ).loc Cert.Kernel4Ideal.main_v3_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v16) = v0 c
          ∧ r.2.mem ((c.tc : Thread Cert.Reference4Ideal.nD Cert.Reference4Ideal.τ).loc Cert.Reference4Ideal.main_v17) = v1 c
          ∧ r.2.mem ((c.tc : Thread Cert.Reference4Ideal.nD Cert.Reference4Ideal.τ).loc Cert.Reference4Ideal.main_v18) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v4_0)) (v1 : (c : Dev Cert.Kernel5Ideal.nD) → Buf (Elt Ideal) ((c.tc : Thread Cert.Kernel5Ideal.nD Cert.Kernel5Ideal.τ).loc Cert.Kernel5Ideal.main_v4_1)) (v2 : (c : Dev Cert.Kernel5Ideal.nD) → Buf (Elt Ideal) ((c.tc : Thread Cert.Kernel5Ideal.nD Cert.Kernel5Ideal.τ).loc Cert.Kernel5Ideal.main_v4_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4_0) = v0 c
          ∧ r.2.mem ((c.tc : Thread Cert.Kernel5Ideal.nD Cert.Kernel5Ideal.τ).loc Cert.Kernel5Ideal.main_v4_1) = v1 c
          ∧ r.2.mem ((c.tc : Thread Cert.Kernel5Ideal.nD Cert.Kernel5Ideal.τ).loc Cert.Kernel5Ideal.main_v4_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v19) = v0 c
          ∧ r.2.mem ((c.tc : Thread Cert.Reference5Ideal.nD Cert.Reference5Ideal.τ).loc Cert.Reference5Ideal.main_v23) = v1 c
          ∧ r.2.mem ((c.tc : Thread Cert.Reference5Ideal.nD Cert.Reference5Ideal.τ).loc Cert.Reference5Ideal.main_v27) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v4_0)) (v1 : (c : Dev Cert.Kernel6Ideal.nD) → Buf (Elt Ideal) ((c.tc : Thread Cert.Kernel6Ideal.nD Cert.Kernel6Ideal.τ).loc Cert.Kernel6Ideal.main_v4_1)) (v2 : (c : Dev Cert.Kernel6Ideal.nD) → Buf (Elt Ideal) ((c.tc : Thread Cert.Kernel6Ideal.nD Cert.Kernel6Ideal.τ).loc Cert.Kernel6Ideal.main_v4_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4_0) = v0 c
          ∧ r.2.mem ((c.tc : Thread Cert.Kernel6Ideal.nD Cert.Kernel6Ideal.τ).loc Cert.Kernel6Ideal.main_v4_1) = v1 c
          ∧ r.2.mem ((c.tc : Thread Cert.Kernel6Ideal.nD Cert.Kernel6Ideal.τ).loc Cert.Kernel6Ideal.main_v4_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v19) = v0 c
          ∧ r.2.mem ((c.tc : Thread Cert.Reference6Ideal.nD Cert.Reference6Ideal.τ).loc Cert.Reference6Ideal.main_v24) = v1 c
          ∧ r.2.mem ((c.tc : Thread Cert.Reference6Ideal.nD Cert.Reference6Ideal.τ).loc Cert.Reference6Ideal.main_v29) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_scores_finite : Cert.Pre_scores_finite.Facts) (hPre_tiles_in_range : Cert.Pre_tiles_in_range.Facts),
    quiescent_Kernel (hKernel := hKernel)
    ∧ quiescent_KernelIdeal (hKernelIdeal := hKernelIdeal)
    ∧ quiescent_KernelIdeal_pre_scores_finite (hKernelIdeal := hKernelIdeal) (hPre_scores_finite := hPre_scores_finite)
    ∧ quiescent_ReferenceIdeal (hReferenceIdeal := hReferenceIdeal)
    ∧ quiescent_ReferenceIdeal_pre_scores_finite (hReferenceIdeal := hReferenceIdeal) (hPre_scores_finite := hPre_scores_finite)
    ∧ quiescent_Kernel2 (hKernel2 := hKernel2) (hPre_tiles_in_range := hPre_tiles_in_range)
    ∧ quiescent_Kernel2Ideal (hKernel2Ideal := hKernel2Ideal) (hPre_tiles_in_range := hPre_tiles_in_range)
    ∧ quiescent_Reference2Ideal (hReference2Ideal := hReference2Ideal)
    ∧ quiescent_Reference2Ideal_pre_tiles_in_range (hReference2Ideal := hReference2Ideal) (hPre_tiles_in_range := hPre_tiles_in_range)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_scores_finite (hKernelIdeal := hKernelIdeal) (hReferenceIdeal := hReferenceIdeal) (hPre_scores_finite := hPre_scores_finite)
    ∧ preserves_Kernel2_Kernel2Ideal
    ∧ algebraic_Kernel2Ideal_Reference2Ideal (hKernel2Ideal := hKernel2Ideal) (hReference2Ideal := hReference2Ideal) (hPre_tiles_in_range := hPre_tiles_in_range)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_scores_finite.lean ====
abbrev S4x4096x1024 : Shape := ⟨3, ![4, 4096, 1024]⟩
abbrev S4x256x2048 : Shape := ⟨3, ![4, 256, 2048]⟩
abbrev S_ : Shape := ⟨0, ![]⟩
abbrev S4x256x1024 : Shape := ⟨3, ![4, 256, 1024]⟩

class Facts : Prop where
  bitsLt_bf16_f32 : FTy.bits .bf16 < FTy.bits .f32
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  slices_S4x256x2048_S4x256x1024_0_0_0 : S4x256x2048.Slices ![0, 0, 0] S4x256x1024
  bcast_S_S4x256x1024 : S_.BroadcastsInDim S4x256x1024 (![] : Fin 0 → Fin S4x256x1024.rank)
  reducesTo_S4x256x1024_S_d0_1_2 : S4x256x1024.ReducesTo [0, 1, 2] S_

variable [Facts]

def fn {F : FTy → Type} [FloatOps F] (main_arg0 : FVec F S4x4096x1024 .bf16) (main_arg1 : FVec F S4x256x2048 .f32) : IVec S_ 1 :=
  let main_v0 : FVec F S4x4096x1024 .f32 := (extf .f32 · bitsLt_bf16_f32) main_arg0
  let main_v1 : FVec F S4x4096x1024 .f32 := Host.absf main_v0
  let main_cst : FVec F S_ .f32 := constant S_ .f32 0x7F800000#32
  let main_v2 : FVec F S4x4096x1024 .f32 := broadcastInDim S4x4096x1024 ![] bcast_S_S4x4096x1024 main_cst
  let main_v3 : IVec S4x4096x1024 1 := cmpf .olt main_v1 main_v2
  let main_c : IVec S_ 1 := constantI S_ 1 1#1
  let main_v4 : IVec S_ 1 := (fun x v => Host.reduce IntOp.andi x v reducesTo_S4x4096x1024_S_d0_1_2 h_S_) main_v3 main_c
  let main_v5 : FVec F S4x256x1024 .f32 := (extractStridedSlice S4x256x1024 ![0, 0, 0] · slices_S4x256x2048_S4x256x1024_0_0_0) main_arg1
  let main_v6 : FVec F S4x256x1024 .f32 := Host.absf main_v5
  let main_cst_0 : FVec F S_ .f32 := constant S_ .f32 0x7F800000#32
  let main_v7 : FVec F S4x256x1024 .f32 := broadcastInDim S4x256x1024 ![] bcast_S_S4x256x1024 main_cst_0
  let main_v8 : IVec S4x256x1024 1 := cmpf .olt main_v6 main_v7
  let main_c_1 : IVec S_ 1 := constantI S_ 1 1#1
  let main_v9 : IVec S_ 1 := (fun x v => Host.reduce IntOp.andi x v reducesTo_S4x256x1024_S_d0_1_2 h_S_) main_v8 main_c_1
  let main_v10 : IVec S_ 1 := andi main_v4 main_v9
  main_v10
-- ==== Pre_tiles_in_range.lean ====
abbrev S294912x128 : Shape := ⟨2, ![294912, 128]⟩
abbrev S1024 : Shape := ⟨1, ![1024]⟩
abbrev S1x8x1024x5632 : Shape := ⟨4, ![1, 8, 1024, 5632]⟩
abbrev S1x8x2816x1024 : Shape := ⟨4, ![1, 8, 2816, 1024]⟩
abbrev S72 : Shape := ⟨1, ![72]⟩
abbrev S36864x1 : Shape := ⟨2, ![36864, 1]⟩
abbrev S_ : Shape := ⟨0, ![]⟩

class Facts : Prop where
  bcast_S_S72 : S_.BroadcastsInDim S72 (![] : Fin 0 → Fin S72.rank)
  reducesTo_S72_S_d0 : S72.ReducesTo [0] S_
  h_S_ : 0 < S_.numel

variable [Facts]

def fn {F : FTy → Type} [FloatOps F] (main_arg0 : FVec F S294912x128 .f32) (main_arg1 : FVec F S1024 .f32) (main_arg2 : FVec F S1x8x1024x5632 .f32) (main_arg3 : FVec F S1x8x2816x1024 .f32) (main_arg4 : IVec S72 32) (main_arg5 : IVec S72 32) (main_arg6 : FVec F S36864x1 .f32) : IVec S_ 1 :=
  let main_c : IVec S_ 32 := constantI S_ 32 0#32
  let main_v0 : IVec S72 32 := broadcastInDim S72 ![] bcast_S_S72 main_c
  let main_v1 : IVec S72 1 := cmpi .sge main_arg4 main_v0
  let main_c_0 : IVec S_ 32 := constantI S_ 32 8#32
  let main_v2 : IVec S72 32 := broadcastInDim S72 ![] bcast_S_S72 main_c_0
  let main_v3 : IVec S72 1 := cmpi .slt main_arg4 main_v2
  let main_v4 : IVec S72 1 := andi main_v1 main_v3
  let main_c_1 : IVec S_ 32 := constantI S_ 32 0#32
  let main_v5 : IVec S72 32 := broadcastInDim S72 ![] bcast_S_S72 main_c_1
  let main_v6 : IVec S72 1 := cmpi .sge main_arg5 main_v5
  let main_v7 : IVec S72 1 := andi main_v4 main_v6
  let main_c_2 : IVec S_ 32 := constantI S_ 32 2#32
  let main_v8 : IVec S72 32 := broadcastInDim S72 ![] bcast_S_S72 main_c_2
  let main_v9 : IVec S72 1 := cmpi .slt main_arg5 main_v8
  let main_v10 : IVec S72 1 := andi main_v7 main_v9
  let main_c_3 : IVec S_ 1 := constantI S_ 1 1#1
  let main_v11 : IVec S_ 1 := (fun x v => Host.reduce IntOp.andi x v reducesTo_S72_S_d0 h_S_) main_v10 main_c_3
  main_v11
-- ==== Kernel.lean ====
abbrev S4x4096x1024 : Shape := ⟨3, ![4, 4096, 1024]⟩
abbrev S4x256x2048 : Shape := ⟨3, ![4, 256, 2048]⟩
abbrev S_ : Shape := ⟨0, ![]⟩
abbrev S1x512x1024 : Shape := ⟨3, ![1, 512, 1024]⟩
abbrev S1x256x256 : Shape := ⟨3, ![1, 256, 256]⟩
abbrev S1x512x256 : Shape := ⟨3, ![1, 512, 256]⟩
abbrev S512x256 : Shape := ⟨2, ![512, 256]⟩
abbrev S256x256 : Shape := ⟨2, ![256, 256]⟩
abbrev S2048x256 : Shape := ⟨2, ![2048, 256]⟩
abbrev S2048 : Shape := ⟨1, ![2048]⟩
abbrev S2048x1 : Shape := ⟨2, ![2048, 1]⟩
abbrev S512x1 : Shape := ⟨2, ![512, 1]⟩

abbrev nBuf : Space → Nat
  | .hbm => 8
  | .vmem => 20
  | .smem => 0
  | _ => 0

abbrev bufTy : (tb : Table) → Fin (tcTables nBuf tb) → BufTy
  | .hbm, ⟨0, _⟩ => ⟨S4x4096x1024, .bf16⟩
  | .hbm, ⟨1, _⟩ => ⟨S4x256x2048, .f32⟩
  | .hbm, ⟨2, _⟩ => ⟨S4x4096x1024, .f32⟩
  | .hbm, ⟨3, _⟩ => ⟨S_, .f32⟩
  | .hbm, ⟨4, _⟩ => ⟨S4x4096x1024, .f32⟩
  | .hbm, ⟨5, _⟩ => ⟨S4x4096x1024, .f32⟩
  | .hbm, ⟨6, _⟩ => ⟨S4x4096x1024, .bf16⟩
  | .hbm, ⟨7, _⟩ => ⟨S4x4096x1024, .bf16⟩
  | .local _ .vmem, ⟨0, _⟩ => ⟨S1x512x1024, .bf16⟩
  | .local _ .vmem, ⟨1, _⟩ => ⟨S1x512x1024, .bf16⟩
  | .local _ .vmem, ⟨2, _⟩ => ⟨S1x256x256, .f32⟩
  | .local _ .vmem, ⟨3, _⟩ => ⟨S1x256x256, .f32⟩
  | .local _ .vmem, ⟨4, _⟩ => ⟨S1x256x256, .f32⟩
  | .local _ .vmem, ⟨5, _⟩ => ⟨S1x256x256, .f32⟩
  | .local _ .vmem, ⟨6, _⟩ => ⟨S1x256x256, .f32⟩
  | .local _ .vmem, ⟨7, _⟩ => ⟨S1x256x256, .f32⟩
  | .local _ .vmem, ⟨8, _⟩ => ⟨S1x256x256, .f32⟩
  | .local _ .vmem, ⟨9, _⟩ => ⟨S1x256x256, .f32⟩
  | .local _ .vmem, ⟨10, _⟩ => ⟨S1x256x256, .f32⟩
  | .local _ .vmem, ⟨11, _⟩ => ⟨S1x256x256, .f32⟩
  | .local _ .vmem, ⟨12, _⟩ => ⟨S1x256x256, .f32⟩
  | .local _ .vmem, ⟨13, _⟩ => ⟨S1x256x256, .f32⟩
  | .local _ .vmem, ⟨14, _⟩ => ⟨S1x256x256, .f32⟩
  | .local _ .vmem, ⟨15, _⟩ => ⟨S1x256x256, .f32⟩
  | .local _ .vmem, ⟨16, _⟩ => ⟨S1x256x256, .f32⟩
  | .local _ .vmem, ⟨17, _⟩ => ⟨S1x256x256, .f32⟩
  | .local _ .vmem, ⟨18, _⟩ => ⟨S1x512x1024, .bf16⟩
  | .local _ .vmem, ⟨19, _⟩ => ⟨S1x512x1024, .bf16⟩
  | _, _ => ⟨S4x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c3_i32 : BitVec 32 := 3#32
  let c0_i32_0 : BitVec 32 := 0#32
  ![arg0.toNat, c0_i32.toNat, c3_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c4_i32 : BitVec 32 := 4#32
  let c0_i32_0 : BitVec 32 := 0#32
  ![arg0.toNat, c0_i32.toNat, c4_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c5_i32 : BitVec 32 := 5#32
  let c0_i32_0 : BitVec 32 := 0#32
  ![arg0.toNat, c0_i32.toNat, c5_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c6_i32 : BitVec 32 := 6#32
  let c0_i32_0 : BitVec 32 := 0#32
  ![arg0.toNat, c0_i32.toNat, c6_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c7_i32 : BitVec 32 := 7#32
  let c0_i32_0 : BitVec 32 := 0#32
  ![arg0.toNat, c0_i32.toNat, c7_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceIdeal.lean ====
abbrev S4x4096x1024 : Shape := ⟨3, ![4, 4096, 1024]⟩
abbrev S4x256x2048 : Shape := ⟨3, ![4, 256, 2048]⟩
abbrev S4x256x1024 : Shape := ⟨3, ![4, 256, 1024]⟩
abbrev S4x256x4x256 : Shape := ⟨4, ![4, 256, 4, 256]⟩
abbrev S4x4096x4x256 : Shape := ⟨4, ![4, 4096, 4, 256]⟩
abbrev S4x4x4096x256 : Shape := ⟨4, ![4, 4, 4096, 256]⟩
abbrev S_ : Shape := ⟨0, ![]⟩
abbrev S4x4x4096 : Shape := ⟨3, ![4, 4, 4096]⟩
abbrev S4x4x4096x1 : Shape := ⟨4, ![4, 4, 4096, 1]⟩
abbrev S4x4x256x4096 : Shape := ⟨4, ![4, 4, 256, 4096]⟩

abbrev nBuf : Space → Nat
  | .hbm => 30
  | .vmem => 0
  | .smem => 0
  | _ => 0

abbrev bufTy : (tb : Table) → Fin (tcTables nBuf tb) → BufTy
  | .hbm, ⟨0, _⟩ => ⟨S4x4096x1024, .bf16⟩
  | .hbm, ⟨1, _⟩ => ⟨S4x256x2048, .f32⟩
  | .hbm, ⟨2, _⟩ => ⟨S4x256x1024, .f32⟩
  | .hbm, ⟨3, _⟩ => ⟨S4x256x1024, .f32⟩
  | .hbm, ⟨4, _⟩ => ⟨S4x256x4x256, .f32⟩
  | .hbm, ⟨5, _⟩ => ⟨S4x256x4x256, .f32⟩
  | .hbm, ⟨6, _⟩ => ⟨S4x4096x4x256, .bf16⟩
  | .hbm, ⟨7, _⟩ => ⟨S4x4096x4x256, .f32⟩
  | .hbm, ⟨8, _⟩ => ⟨S4x4x4096x256, .f32⟩
  | .hbm, ⟨9, _⟩ => ⟨S_, .f32⟩
  | .hbm, ⟨10, _⟩ => ⟨S4x4x4096x256, .f32⟩
  | .hbm, ⟨11, _⟩ => ⟨S4x4x4096x256, .f32⟩
  | .hbm, ⟨12, _⟩ => ⟨S_, .f32⟩
  | .hbm, ⟨13, _⟩ => ⟨S4x4x4096, .f32⟩
  | .hbm, ⟨14, _⟩ => ⟨S_, .f32⟩
  | .hbm, ⟨15, _⟩ => ⟨S4x4x4096, .f32⟩
  | .hbm, ⟨16, _⟩ => ⟨S4x4x4096, .f32⟩
  | .hbm, ⟨17, _⟩ => ⟨S4x4x4096x1, .f32⟩
  | .hbm, ⟨18, _⟩ => ⟨S4x4x4096x256, .f32⟩
  | .hbm, ⟨19, _⟩ => ⟨S4x4x4096x256, .f32⟩
  | .hbm, ⟨20, _⟩ => ⟨S4x4x4096x256, .f32⟩
  | .hbm, ⟨21, _⟩ => ⟨S_, .f32⟩
  | .hbm, ⟨22, _⟩ => ⟨S4x4x4096, .f32⟩
  | .hbm, ⟨23, _⟩ => ⟨S4x4x4096x1, .f32⟩
  | .hbm, ⟨24, _⟩ => ⟨S4x4x4096x256, .f32⟩
  | .hbm, ⟨25, _⟩ => ⟨S4x4x4096x256, .f32⟩
  | .hbm, ⟨26, _⟩ => ⟨S4x4x256x4096, .f32⟩
  | .hbm, ⟨27, _⟩ => ⟨S4x4096x4x256, .f32⟩
  | .hbm, ⟨28, _⟩ => ⟨S4x4096x1024, .f32⟩
  | .hbm, ⟨29, _⟩ => ⟨S4x4096x1024, .bf16⟩
  | _, _ => ⟨S4x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩

abbrev nD : Nat := 1
abbrev τ : Topo := Topo.v7x

variable {F : FTy → Type} [FloatOps F]
-- ==== Kernel2.lean ====
abbrev S294912x128 : Shape := ⟨2, ![294912, 128]⟩
abbrev S1024 : Shape := ⟨1, ![1024]⟩
abbrev S1x8x1024x5632 : Shape := ⟨4, ![1, 8, 1024, 5632]⟩
abbrev S1x8x2816x1024 : Shape := ⟨4, ![1, 8, 2816, 1024]⟩
abbrev S72 : Shape := ⟨1, ![72]⟩
abbrev S36864x1 : Shape := ⟨2, ![36864, 1]⟩
abbrev S8x1024x5632 : Shape := ⟨3, ![8, 1024, 5632]⟩
abbrev S8x2816x1024 : Shape := ⟨3, ![8, 2816, 1024]⟩
abbrev S1x1024 : Shape := ⟨2, ![1, 1024]⟩
abbrev S4096x128 : Shape := ⟨2, ![4096, 128]⟩
abbrev S1x1024x1408 : Shape := ⟨3, ![1, 1024, 1408]⟩
abbrev S1 : Shape := ⟨1, ![1]⟩
abbrev S1x1408x1024 : Shape := ⟨3, ![1, 1408, 1024]⟩
abbrev S512x1 : Shape := ⟨2, ![512, 1]⟩
abbrev S512x1024 : Shape := ⟨2, ![512, 1024]⟩
abbrev S512x128 : Shape := ⟨2, ![512, 128]⟩
abbrev S512 : Shape := ⟨1, ![512]⟩
abbrev S1x128 : Shape := ⟨2, ![1, 128]⟩
abbrev S1024x1408 : Shape := ⟨2, ![1024, 1408]⟩
abbrev S512x1408 : Shape := ⟨2, ![512, 1408]⟩
abbrev S1408x1024 : Shape := ⟨2, ![1408, 1024]⟩

abbrev nBuf : Space → Nat
  | .hbm => 11
  | .vmem => 15
  | .smem => 2
  | _ => 0

abbrev bufTy : (tb : Table) → Fin (tcTables nBuf tb) → BufTy
  | .hbm, ⟨0, _⟩ => ⟨S294912x128, .f32⟩
  | .hbm, ⟨1, _⟩ => ⟨S1024, .f32⟩
  | .hbm, ⟨2, _⟩ => ⟨S1x8x1024x5632, .f32⟩
  | .hbm, ⟨3, _⟩ => ⟨S1x8x2816x1024, .f32⟩
  | .hbm, ⟨4, _⟩ => ⟨S36864x1, .f32⟩
  | .hbm, ⟨5, _⟩ => ⟨S8x1024x5632, .f32⟩
  | .hbm, ⟨6, _⟩ => ⟨S8x1024x5632, .bf16⟩
  | .hbm, ⟨7, _⟩ => ⟨S8x2816x1024, .f32⟩
  | .hbm, ⟨8, _⟩ => ⟨S8x2816x1024, .bf16⟩
  | .hbm, ⟨9, _⟩ => ⟨S1x1024, .f32⟩
  | .hbm, ⟨10, _⟩ => ⟨S294912x128, .f32⟩
  | .local _ .vmem, ⟨0, _⟩ => ⟨S4096x128, .f32⟩
  | .local _ .vmem, ⟨1, _⟩ => ⟨S4096x128, .f32⟩
  | .local _ .vmem, ⟨2, _⟩ => ⟨S1x1024, .f32⟩
  | .local _ .vmem, ⟨3, _⟩ => ⟨S1x1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1x1024x1408, .bf16⟩
  | .local _ .vmem, ⟨7, _⟩ => ⟨S1x1408x1024, .bf16⟩
  | .local _ .vmem, ⟨8, _⟩ => ⟨S1x1408x1024, .bf16⟩
  | .local _ .vmem, ⟨9, _⟩ => ⟨S512x1, .f32⟩
  | .local _ .vmem, ⟨10, _⟩ => ⟨S512x1, .f32⟩
  | .local _ .vmem, ⟨11, _⟩ => ⟨S4096x128, .f32⟩
  | .local _ .vmem, ⟨12, _⟩ => ⟨S4096x128, .f32⟩
  | .local _ .vmem, ⟨13, _⟩ => ⟨S512x1024, .bf16⟩
  | .local _ .vmem, ⟨14, _⟩ => ⟨S512x1024, .f32⟩
  | .local _ .smem, ⟨0, _⟩ => ⟨S72, .i32⟩
  | .local _ .smem, ⟨1, _⟩ => ⟨S72, .i32⟩
  | _, _ => ⟨S294912x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg6 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_arg4 : Ref sig .tc := ⟨.smem, 0, rfl⟩
abbrev main_arg5 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![72, 2], ![false, false]⟩

abbrev pre0 : Pipeline.Prefetch sig := ⟨2, ![main_arg4.idx, main_arg5.idx], fun | 0 => main_arg4.names | 1 => main_arg5.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond3 (i : grid0.Coords) : BitVec 1 :=
  let arg1 : BitVec 32 := BitVec.ofNat 32 (i 1).val
  let c1_i32 : BitVec 32 := 1#32
  let v8 : BitVec 1 := Scalar.cmpi .eq arg1 c1_i32
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let v2 : Index := Scalar.indexCast arg0
  let v3 : BitVec 32 := pf.at 1 (Rect.unit (s := S72) ![v2.toNat] S1.size (k0_off1_inb i)) numel1_S1
  let v4 : BitVec 32 := Scalar.muli arg1 v3
  let v5 : Index := Scalar.indexCast arg0
  let v6 : BitVec 32 := pf.at 1 (Rect.unit (s := S72) ![v5.toNat] S1.size (k0_off1_inb i)) numel1_S1
  let c1_i32 : BitVec 32 := 1#32
  let v7 : BitVec 32 := Scalar.subi c1_i32 v6
  let c1_i32_0 : BitVec 32 := 1#32
  let v8 : BitVec 32 := Scalar.muli c1_i32_0 v7
  let v9 : BitVec 32 := Scalar.addi v4 v8
  let c0_i32 : BitVec 32 := 0#32
  let c0_i32_1 : BitVec 32 := 0#32
  ![v1.toNat, c0_i32.toNat, v9.toNat]

def cc0_transform_3 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let v2 : Index := Scalar.indexCast arg0
  let v3 : BitVec 32 := pf.at 1 (Rect.unit (s := S72) ![v2.toNat] S1.size (k0_off1_inb i)) numel1_S1
  let v4 : BitVec 32 := Scalar.muli arg1 v3
  let v5 : Index := Scalar.indexCast arg0
  let v6 : BitVec 32 := pf.at 1 (Rect.unit (s := S72) ![v5.toNat] S1.size (k0_off1_inb i)) numel1_S1
  let c1_i32 : BitVec 32 := 1#32
  let v7 : BitVec 32 := Scalar.subi c1_i32 v6
  let c1_i32_0 : BitVec 32 := 1#32
  let v8 : BitVec 32 := Scalar.muli c1_i32_0 v7
  let v9 : BitVec 32 := Scalar.addi v4 v8
  let c2_i32 : BitVec 32 := 2#32
  let v10 : BitVec 32 := Scalar.addi c2_i32 v9
  let c0_i32 : BitVec 32 := 0#32
  let c0_i32_1 : BitVec 32 := 0#32
  ![v1.toNat, c0_i32.toNat, v10.toNat]

def cc0_transform_4 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let v2 : Index := Scalar.indexCast arg0
  let v3 : BitVec 32 := pf.at 1 (Rect.unit (s := S72) ![v2.toNat] S1.size (k0_off1_inb i)) numel1_S1
  let v4 : BitVec 32 := Scalar.muli arg1 v3
  let v5 : Index := Scalar.indexCast arg0
  let v6 : BitVec 32 := pf.at 1 (Rect.unit (s := S72) ![v5.toNat] S1.size (k0_off1_inb i)) numel1_S1
  let c1_i32 : BitVec 32 := 1#32
  let v7 : BitVec 32 := Scalar.subi c1_i32 v6
  let c1_i32_0 : BitVec 32 := 1#32
  let v8 : BitVec 32 := Scalar.muli c1_i32_0 v7
  let v9 : BitVec 32 := Scalar.addi v4 v8
  let c0_i32 : BitVec 32 := 0#32
  let c0_i32_1 : BitVec 32 := 0#32
  ![v1.toNat, v9.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference2Ideal.lean ====
abbrev S294912x128 : Shape := ⟨2, ![294912, 128]⟩
abbrev S1024 : Shape := ⟨1, ![1024]⟩
abbrev S1x8x1024x5632 : Shape := ⟨4, ![1, 8, 1024, 5632]⟩
abbrev S1x8x2816x1024 : Shape := ⟨4, ![1, 8, 2816, 1024]⟩
abbrev S72 : Shape := ⟨1, ![72]⟩
abbrev S36864x1 : Shape := ⟨2, ![36864, 1]⟩
abbrev S36864x1024 : Shape := ⟨2, ![36864, 1024]⟩
abbrev S_ : Shape := ⟨0, ![]⟩
abbrev S36864 : Shape := ⟨1, ![36864]⟩
abbrev S1x1024 : Shape := ⟨2, ![1, 1024]⟩
abbrev S72x1 : Shape := ⟨2, ![72, 1]⟩
abbrev S72x512 : Shape := ⟨2, ![72, 512]⟩
abbrev S1x8 : Shape := ⟨2, ![1, 8]⟩
abbrev S36864x8 : Shape := ⟨2, ![36864, 8]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S36864x5632 : Shape := ⟨2, ![36864, 5632]⟩
abbrev S36864x2816 : Shape := ⟨2, ![36864, 2816]⟩

abbrev nBuf : Space → Nat
  | .hbm => 224
  | .vmem => 0
  | .smem => 0
  | _ => 0

abbrev hbmTy0_0 (i : Nat) : BufTy := match i % 128 with
  | 0 => ⟨S294912x128, .f32⟩
  | 1 => ⟨S1024, .f32⟩
  | 2 => ⟨S1x8x1024x5632, .f32⟩
  | 3 => ⟨S1x8x2816x1024, .f32⟩
  | 4 => ⟨S72, .i32⟩
  | 5 => ⟨S72, .i32⟩
  | 6 => ⟨S36864x1, .f32⟩
  | 7 => ⟨S36864x1024, .f32⟩
  | 8 => ⟨S36864x1024, .f32⟩
  | 9 => ⟨S_, .f32⟩
  | 10 => ⟨S36864, .f32⟩
  | 11 => ⟨S36864x1, .f32⟩
  | 12 => ⟨S_, .f32⟩
  | 13 => ⟨S36864x1, .f32⟩
  | 14 => ⟨S36864x1, .f32⟩
  | 15 => ⟨S_, .f32⟩
  | 16 => ⟨S36864x1, .f32⟩
  | 17 => ⟨S36864x1, .f32⟩
  | 18 => ⟨S36864x1, .f32⟩
  | 19 => ⟨S36864x1024, .f32⟩
  | 20 => ⟨S36864x1024, .f32⟩
  | 21 => ⟨S1x1024, .f32⟩
  | 22 => ⟨S36864x1024, .f32⟩
  | 23 => ⟨S36864x1024, .f32⟩
  | 24 => ⟨S72x1, .i32⟩
  | 25 => ⟨S72x512, .i32⟩
  | 26 => ⟨S36864, .i32⟩
  | 27 => ⟨S72x1, .i32⟩
  | 28 => ⟨S72x512, .i32⟩
  | 29 => ⟨S36864x1, .i32⟩
  | 30 => ⟨S36864x1, .i32⟩
  | 31 => ⟨S1x8, .i32⟩
  | 32 => ⟨S36864x8, .i32⟩
  | 33 => ⟨S36864x8, .i32⟩
  | 34 => ⟨S36864x8, .i1⟩
  | 35 => ⟨S36864x8, .f32⟩
  | 36 => ⟨S_, .i32⟩
  | 37 => ⟨S36864x1, .i32⟩
  | 38 => ⟨S36864x1, .i1⟩
  | 39 => ⟨S_, .f32⟩
  | 40 => ⟨S_, .f32⟩
  | 41 => ⟨S36864x1, .f32⟩
  | 42 => ⟨S36864x1, .f32⟩
  | 43 => ⟨S36864x8, .f32⟩
  | 44 => ⟨S36864x8, .f32⟩
  | 45 => ⟨S_, .f32⟩
  | 46 => ⟨S36864x1024, .f32⟩
  | 47 => ⟨S36864x1, .f32⟩
  | 48 => ⟨S1x1x1024x5632, .f32⟩
  | 49 => ⟨S1024x5632, .f32⟩
  | 50 => ⟨S1x1x2816x1024, .f32⟩
  | 51 => ⟨S2816x1024, .f32⟩
  | 52 => ⟨S36864x5632, .f32⟩
  | 53 => ⟨S36864x2816, .f32⟩
  | 54 => ⟨S36864x2816, .f32⟩
  | 55 => ⟨S36864x2816, .f32⟩
  | 56 => ⟨S36864x2816, .f32⟩
  | 57 => ⟨S_, .f32⟩
  | 58 => ⟨S36864x2816, .f32⟩
  | 59 => ⟨S36864x2816, .f32⟩
  | 60 => ⟨S_, .f32⟩
  | 61 => ⟨S36864x2816, .f32⟩
  | 62 => ⟨S36864x2816, .f32⟩
  | 63 => ⟨S36864x2816, .f32⟩
  | 64 => ⟨S36864x2816, .f32⟩
  | 65 => ⟨S36864x1024, .f32⟩
  | 66 => ⟨S36864x1024, .f32⟩
  | 67 => ⟨S36864x1024, .f32⟩
  | 68 => ⟨S36864x1024, .f32⟩
  | 69 => ⟨S36864x1, .f32⟩
  | 70 => ⟨S1x1x1024x5632, .f32⟩
  | 71 => ⟨S1024x5632, .f32⟩
  | 72 => ⟨S1x1x2816x1024, .f32⟩
  | 73 => ⟨S2816x1024, .f32⟩
  | 74 => ⟨S36864x5632, .f32⟩
  | 75 => ⟨S36864x2816, .f32⟩
  | 76 => ⟨S36864x2816, .f32⟩
  | 77 => ⟨S36864x2816, .f32⟩
  | 78 => ⟨S36864x2816, .f32⟩
  | 79 => ⟨S_, .f32⟩
  | 80 => ⟨S36864x2816, .f32⟩
  | 81 => ⟨S36864x2816, .f32⟩
  | 82 => ⟨S_, .f32⟩
  | 83 => ⟨S36864x2816, .f32⟩
  | 84 => ⟨S36864x2816, .f32⟩
  | 85 => ⟨S36864x2816, .f32⟩
  | 86 => ⟨S36864x2816, .f32⟩
  | 87 => ⟨S36864x1024, .f32⟩
  | 88 => ⟨S36864x1024, .f32⟩
  | 89 => ⟨S36864x1024, .f32⟩
  | 90 => ⟨S36864x1024, .f32⟩
  | 91 => ⟨S36864x1, .f32⟩
  | 92 => ⟨S1x1x1024x5632, .f32⟩
  | 93 => ⟨S1024x5632, .f32⟩
  | 94 => ⟨S1x1x2816x1024, .f32⟩
  | 95 => ⟨S2816x1024, .f32⟩
  | 96 => ⟨S36864x5632, .f32⟩
  | 97 => ⟨S36864x2816, .f32⟩
  | 98 => ⟨S36864x2816, .f32⟩
  | 99 => ⟨S36864x2816, .f32⟩
  | 100 => ⟨S36864x2816, .f32⟩
  | 101 => ⟨S_, .f32⟩
  | 102 => ⟨S36864x2816, .f32⟩
  | 103 => ⟨S36864x2816, .f32⟩
  | 104 => ⟨S_, .f32⟩
  | 105 => ⟨S36864x2816, .f32⟩
  | 106 => ⟨S36864x2816, .f32⟩
  | 107 => ⟨S36864x2816, .f32⟩
  | 108 => ⟨S36864x2816, .f32⟩
  | 109 => ⟨S36864x1024, .f32⟩
  | 110 => ⟨S36864x1024, .f32⟩
  | 111 => ⟨S36864x1024, .f32⟩
  | 112 => ⟨S36864x1024, .f32⟩
  | 113 => ⟨S36864x1, .f32⟩
  | 114 => ⟨S1x1x1024x5632, .f32⟩
  | 115 => ⟨S1024x5632, .f32⟩
  | 116 => ⟨S1x1x2816x1024, .f32⟩
  | 117 => ⟨S2816x1024, .f32⟩
  | 118 => ⟨S36864x5632, .f32⟩
  | 119 => ⟨S36864x2816, .f32⟩
  | 120 => ⟨S36864x2816, .f32⟩
  | 121 => ⟨S36864x2816, .f32⟩
  | 122 => ⟨S36864x2816, .f32⟩
  | 123 => ⟨S_, .f32⟩
  | 124 => ⟨S36864x2816, .f32⟩
  | 125 => ⟨S36864x2816, .f32⟩
  | 126 => ⟨S_, .f32⟩
  | 127 => ⟨S36864x2816, .f32⟩
  | _ => ⟨S294912x128, .f32⟩

abbrev hbmTy0_1 (i : Nat) : BufTy := match i % 128 with
  | 0 => ⟨S36864x2816, .f32⟩
  | 1 => ⟨S36864x2816, .f32⟩
  | 2 => ⟨S36864x2816, .f32⟩
  | 3 => ⟨S36864x1024, .f32⟩
  | 4 => ⟨S36864x1024, .f32⟩
  | 5 => ⟨S36864x1024, .f32⟩
  | 6 => ⟨S36864x1024, .f32⟩
  | 7 => ⟨S36864x1, .f32⟩
  | 8 => ⟨S1x1x1024x5632, .f32⟩
  | 9 => ⟨S1024x5632, .f32⟩
  | 10 => ⟨S1x1x2816x1024, .f32⟩
  | 11 => ⟨S2816x1024, .f32⟩
  | 12 => ⟨S36864x5632, .f32⟩
  | 13 => ⟨S36864x2816, .f32⟩
  | 14 => ⟨S36864x2816, .f32⟩
  | 15 => ⟨S36864x2816, .f32⟩
  | 16 => ⟨S36864x2816, .f32⟩
  | 17 => ⟨S_, .f32⟩
  | 18 => ⟨S36864x2816, .f32⟩
  | 19 => ⟨S36864x2816, .f32⟩
  | 20 => ⟨S_, .f32⟩
  | 21 => ⟨S36864x2816, .f32⟩
  | 22 => ⟨S36864x2816, .f32⟩
  | 23 => ⟨S36864x2816, .f32⟩
  | 24 => ⟨S36864x2816, .f32⟩
  | 25 => ⟨S36864x1024, .f32⟩
  | 26 => ⟨S36864x1024, .f32⟩
  | 27 => ⟨S36864x1024, .f32⟩
  | 28 => ⟨S36864x1024, .f32⟩
  | 29 => ⟨S36864x1, .f32⟩
  | 30 => ⟨S1x1x1024x5632, .f32⟩
  | 31 => ⟨S1024x5632, .f32⟩
  | 32 => ⟨S1x1x2816x1024, .f32⟩
  | 33 => ⟨S2816x1024, .f32⟩
  | 34 => ⟨S36864x5632, .f32⟩
  | 35 => ⟨S36864x2816, .f32⟩
  | 36 => ⟨S36864x2816, .f32⟩
  | 37 => ⟨S36864x2816, .f32⟩
  | 38 => ⟨S36864x2816, .f32⟩
  | 39 => ⟨S_, .f32⟩
  | 40 => ⟨S36864x2816, .f32⟩
  | 41 => ⟨S36864x2816, .f32⟩
  | 42 => ⟨S_, .f32⟩
  | 43 => ⟨S36864x2816, .f32⟩
  | 44 => ⟨S36864x2816, .f32⟩
  | 45 => ⟨S36864x2816, .f32⟩
  | 46 => ⟨S36864x2816, .f32⟩
  | 47 => ⟨S36864x1024, .f32⟩
  | 48 => ⟨S36864x1024, .f32⟩
  | 49 => ⟨S36864x1024, .f32⟩
  | 50 => ⟨S36864x1024, .f32⟩
  | 51 => ⟨S36864x1, .f32⟩
  | 52 => ⟨S1x1x1024x5632, .f32⟩
  | 53 => ⟨S1024x5632, .f32⟩
  | 54 => ⟨S1x1x2816x1024, .f32⟩
  | 55 => ⟨S2816x1024, .f32⟩
  | 56 => ⟨S36864x5632, .f32⟩
  | 57 => ⟨S36864x2816, .f32⟩
  | 58 => ⟨S36864x2816, .f32⟩
  | 59 => ⟨S36864x2816, .f32⟩
  | 60 => ⟨S36864x2816, .f32⟩
  | 61 => ⟨S_, .f32⟩
  | 62 => ⟨S36864x2816, .f32⟩
  | 63 => ⟨S36864x2816, .f32⟩
  | 64 => ⟨S_, .f32⟩
  | 65 => ⟨S36864x2816, .f32⟩
  | 66 => ⟨S36864x2816, .f32⟩
  | 67 => ⟨S36864x2816, .f32⟩
  | 68 => ⟨S36864x2816, .f32⟩
  | 69 => ⟨S36864x1024, .f32⟩
  | 70 => ⟨S36864x1024, .f32⟩
  | 71 => ⟨S36864x1024, .f32⟩
  | 72 => ⟨S36864x1024, .f32⟩
  | 73 => ⟨S36864x1, .f32⟩
  | 74 => ⟨S1x1x1024x5632, .f32⟩
  | 75 => ⟨S1024x5632, .f32⟩
  | 76 => ⟨S1x1x2816x1024, .f32⟩
  | 77 => ⟨S2816x1024, .f32⟩
  | 78 => ⟨S36864x5632, .f32⟩
  | 79 => ⟨S36864x2816, .f32⟩
  | 80 => ⟨S36864x2816, .f32⟩
  | 81 => ⟨S36864x2816, .f32⟩
  | 82 => ⟨S36864x2816, .f32⟩
  | 83 => ⟨S_, .f32⟩
  | 84 => ⟨S36864x2816, .f32⟩
  | 85 => ⟨S36864x2816, .f32⟩
  | 86 => ⟨S_, .f32⟩
  | 87 => ⟨S36864x2816, .f32⟩
  | 88 => ⟨S36864x2816, .f32⟩
  | 89 => ⟨S36864x2816, .f32⟩
  | 90 => ⟨S36864x2816, .f32⟩
  | 91 => ⟨S36864x1024, .f32⟩
  | 92 => ⟨S36864x1024, .f32⟩
  | 93 => ⟨S36864x1024, .f32⟩
  | 94 => ⟨S36864x1024, .f32⟩
  | 95 => ⟨S294912x128, .f32⟩
  | _ => ⟨S294912x128, .f32⟩

abbrev hbmTy (i : Nat) : BufTy := match i / 128 with
  | 0 => hbmTy0_0 i
  | 1 => hbmTy0_1 i
  | _ => ⟨S294912x128, .f32⟩

abbrev bufTy : (tb : Table) → Fin (tcTables nBuf tb) → BufTy
  | .hbm, ⟨i, _⟩ => hbmTy i
  | _, _ => ⟨S294912x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_v20 : Ref sig .tc := ⟨.hbm, 35, rfl⟩
abbrev main_c : Ref sig .tc := ⟨.hbm, 36, rfl⟩
abbrev main_v21 : Ref sig .tc := ⟨.hbm, 37, rfl⟩
abbrev main_v22 : Ref sig .tc := ⟨.hbm, 38, rfl⟩
abbrev main_cst_2 : Ref sig .tc := ⟨.hbm, 39, rfl⟩
abbrev main_call1_v0 : Ref sig .tc := ⟨.hbm, 40, rfl⟩
abbrev main_call1_v1 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_3 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_call2_v0 : Ref sig .tc := ⟨.hbm, 55, rfl⟩
abbrev main_call2_v1 : Ref sig .tc := ⟨.hbm, 56, rfl⟩
abbrev main_call2_cst : Ref sig .tc := ⟨.hbm, 57, rfl⟩
abbrev main_call2_v2 : Ref sig .tc := ⟨.hbm, 58, rfl⟩
abbrev main_call2_v3 : Ref sig .tc := ⟨.hbm, 59, rfl⟩
abbrev main_call2_cst_0 : Ref sig .tc := ⟨.hbm, 60, rfl⟩
abbrev main_call2_v4 : Ref sig .tc := ⟨.hbm, 61, rfl⟩
abbrev main_call2_v5 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_call3_v0 : Ref sig .tc := ⟨.hbm, 77, rfl⟩
abbrev main_call3_v1 : Ref sig .tc := ⟨.hbm, 78, rfl⟩
abbrev main_call3_cst : Ref sig .tc := ⟨.hbm, 79, rfl⟩
abbrev main_call3_v2 : Ref sig .tc := ⟨.hbm, 80, rfl⟩
abbrev main_call3_v3 : Ref sig .tc := ⟨.hbm, 81, rfl⟩
abbrev main_call3_cst_0 : Ref sig .tc := ⟨.hbm, 82, rfl⟩
abbrev main_call3_v4 : Ref sig .tc := ⟨.hbm, 83, rfl⟩
abbrev main_call3_v5 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_call4_v0 : Ref sig .tc := ⟨.hbm, 99, rfl⟩
abbrev main_call4_v1 : Ref sig .tc := ⟨.hbm, 100, rfl⟩
abbrev main_call4_cst : Ref sig .tc := ⟨.hbm, 101, rfl⟩
abbrev main_call4_v2 : Ref sig .tc := ⟨.hbm, 102, rfl⟩
abbrev main_call4_v3 : Ref sig .tc := ⟨.hbm, 103, rfl⟩
abbrev main_call4_cst_0 : Ref sig .tc := ⟨.hbm, 104, rfl⟩
abbrev main_call4_v4 : Ref sig .tc := ⟨.hbm, 105, rfl⟩
abbrev main_call4_v5 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_call5_v0 : Ref sig .tc := ⟨.hbm, 121, rfl⟩
abbrev main_call5_v1 : Ref sig .tc := ⟨.hbm, 122, rfl⟩
abbrev main_call5_cst : Ref sig .tc := ⟨.hbm, 123, rfl⟩
abbrev main_call5_v2 : Ref sig .tc := ⟨.hbm, 124, rfl⟩
abbrev main_call5_v3 : Ref sig .tc := ⟨.hbm, 125, rfl⟩
abbrev main_call5_cst_0 : Ref sig .tc := ⟨.hbm, 126, rfl⟩
abbrev main_call5_v4 : Ref sig .tc := ⟨.hbm, 127, rfl⟩
abbrev main_call5_v5 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_call6_v0 : Ref sig .tc := ⟨.hbm, 143, rfl⟩
abbrev main_call6_v1 : Ref sig .tc := ⟨.hbm, 144, rfl⟩
abbrev main_call6_cst : Ref sig .tc := ⟨.hbm, 145, rfl⟩
abbrev main_call6_v2 : Ref sig .tc := ⟨.hbm, 146, rfl⟩
abbrev main_call6_v3 : Ref sig .tc := ⟨.hbm, 147, rfl⟩
abbrev main_call6_cst_0 : Ref sig .tc := ⟨.hbm, 148, rfl⟩
abbrev main_call6_v4 : Ref sig .tc := ⟨.hbm, 149, rfl⟩
abbrev main_call6_v5 : Ref sig .tc := ⟨.hbm, 150, rfl⟩
abbrev main_v91 : Ref sig .tc := ⟨.hbm, 151, rfl⟩
abbrev main_v92 : Ref sig .tc := ⟨.hbm, 152, rfl⟩
abbrev main_v93 : Ref sig .tc := ⟨.hbm, 153, rfl⟩
abbrev main_v94 : Ref sig .tc := ⟨.hbm, 154, rfl⟩
abbrev main_v95 : Ref sig .tc := ⟨.hbm, 155, rfl⟩
abbrev main_v96 : Ref sig .tc := ⟨.hbm, 156, rfl⟩
abbrev main_v97 : Ref sig .tc := ⟨.hbm, 157, rfl⟩
abbrev main_v98 : Ref sig .tc := ⟨.hbm, 158, rfl⟩
abbrev main_v99 : Ref sig .tc := ⟨.hbm, 159, rfl⟩
abbrev main_v100 : Ref sig .tc := ⟨.hbm, 160, rfl⟩
abbrev main_v101 : Ref sig .tc := ⟨.hbm, 161, rfl⟩
abbrev main_v102 : Ref sig .tc := ⟨.hbm, 162, rfl⟩
abbrev main_v103 : Ref sig .tc := ⟨.hbm, 163, rfl⟩
abbrev main_v104 : Ref sig .tc := ⟨.hbm, 164, rfl⟩
abbrev main_call7_v0 : Ref sig .tc := ⟨.hbm, 165, rfl⟩
abbrev main_call7_v1 : Ref sig .tc := ⟨.hbm, 166, rfl⟩
abbrev main_call7_cst : Ref sig .tc := ⟨.hbm, 167, rfl⟩
abbrev main_call7_v2 : Ref sig .tc := ⟨.hbm, 168, rfl⟩
abbrev main_call7_v3 : Ref sig .tc := ⟨.hbm, 169, rfl⟩
abbrev main_call7_cst_0 : Ref sig .tc := ⟨.hbm, 170, rfl⟩
abbrev main_call7_v4 : Ref sig .tc := ⟨.hbm, 171, rfl⟩
abbrev main_call7_v5 : Ref sig .tc := ⟨.hbm, 172, rfl⟩
abbrev main_v105 : Ref sig .tc := ⟨.hbm, 173, rfl⟩
abbrev main_v106 : Ref sig .tc := ⟨.hbm, 174, rfl⟩
abbrev main_v107 : Ref sig .tc := ⟨.hbm, 175, rfl⟩
abbrev main_v108 : Ref sig .tc := ⟨.hbm, 176, rfl⟩
abbrev main_v109 : Ref sig .tc := ⟨.hbm, 177, rfl⟩
abbrev main_v110 : Ref sig .tc := ⟨.hbm, 178, rfl⟩
abbrev main_v111 : Ref sig .tc := ⟨.hbm, 179, rfl⟩
abbrev main_v112 : Ref sig .tc := ⟨.hbm, 180, rfl⟩
abbrev main_v113 : Ref sig .tc := ⟨.hbm, 181, rfl⟩
abbrev main_v114 : Ref sig .tc := ⟨.hbm, 182, rfl⟩
abbrev main_v115 : Ref sig .tc := ⟨.hbm, 183, rfl⟩
abbrev main_v116 : Ref sig .tc := ⟨.hbm, 184, rfl⟩
abbrev main_v117 : Ref sig .tc := ⟨.hbm, 185, rfl⟩
abbrev main_v118 : Ref sig .tc := ⟨.hbm, 186, rfl⟩
abbrev main_call8_v0 : Ref sig .tc := ⟨.hbm, 187, rfl⟩
abbrev main_call8_v1 : Ref sig .tc := ⟨.hbm, 188, rfl⟩
abbrev main_call8_cst : Ref sig .tc := ⟨.hbm, 189, rfl⟩
abbrev main_call8_v2 : Ref sig .tc := ⟨.hbm, 190, rfl⟩
abbrev main_call8_v3 : Ref sig .tc := ⟨.hbm, 191, rfl⟩
abbrev main_call8_cst_0 : Ref sig .tc := ⟨.hbm, 192, rfl⟩
abbrev main_call8_v4 : Ref sig .tc := ⟨.hbm, 193, rfl⟩
abbrev main_call8_v5 : Ref sig .tc := ⟨.hbm, 194, rfl⟩
abbrev main_v119 : Ref sig .tc := ⟨.hbm, 195, rfl⟩
abbrev main_v120 : Ref sig .tc := ⟨.hbm, 196, rfl⟩
abbrev main_v121 : Ref sig .tc := ⟨.hbm, 197, rfl⟩
abbrev main_v122 : Ref sig .tc := ⟨.hbm, 198, rfl⟩
abbrev main_v123 : Ref sig .tc := ⟨.hbm, 199, rfl⟩
abbrev main_v124 : Ref sig .tc := ⟨.hbm, 200, rfl⟩
abbrev main_v125 : Ref sig .tc := ⟨.hbm, 201, rfl⟩
abbrev main_v126 : Ref sig .tc := ⟨.hbm, 202, rfl⟩
abbrev main_v127 : Ref sig .tc := ⟨.hbm, 203, rfl⟩
abbrev main_v128 : Ref sig .tc := ⟨.hbm, 204, rfl⟩
abbrev main_v129 : Ref sig .tc := ⟨.hbm, 205, rfl⟩
abbrev main_v130 : Ref sig .tc := ⟨.hbm, 206, rfl⟩
abbrev main_v131 : Ref sig .tc := ⟨.hbm, 207, rfl⟩
abbrev main_v132 : Ref sig .tc := ⟨.hbm, 208, rfl⟩
abbrev main_call9_v0 : Ref sig .tc := ⟨.hbm, 209, rfl⟩
abbrev main_call9_v1 : Ref sig .tc := ⟨.hbm, 210, rfl⟩
abbrev main_call9_cst : Ref sig .tc := ⟨.hbm, 211, rfl⟩
abbrev main_call9_v2 : Ref sig .tc := ⟨.hbm, 212, rfl⟩
abbrev main_call9_v3 : Ref sig .tc := ⟨.hbm, 213, rfl⟩
abbrev main_call9_cst_0 : Ref sig .tc := ⟨.hbm, 214, rfl⟩
abbrev main_call9_v4 : Ref sig .tc := ⟨.hbm, 215, rfl⟩
abbrev main_call9_v5 : Ref sig .tc := ⟨.hbm, 216, rfl⟩
abbrev main_v133 : Ref sig .tc := ⟨.hbm, 217, rfl⟩
abbrev main_v134 : Ref sig .tc := ⟨.hbm, 218, rfl⟩
abbrev main_v135 : Ref sig .tc := ⟨.hbm, 219, rfl⟩
abbrev main_v136 : Ref sig .tc := ⟨.hbm, 220, rfl⟩
abbrev main_v137 : Ref sig .tc := ⟨.hbm, 221, rfl⟩
abbrev main_v138 : Ref sig .tc := ⟨.hbm, 222, rfl⟩
abbrev main_v139 : Ref sig .tc := ⟨.hbm, 223, rfl⟩

abbrev nD : Nat := 1
abbrev τ : Topo := Topo.v7x

variable {F : FTy → Type} [FloatOps F]
-- ==== Kernel3.lean ====
abbrev S16384x1024 : Shape := ⟨2, ![16384, 1024]⟩
abbrev S1024 : Shape := ⟨1, ![1024]⟩
abbrev S1x1024x5632 : Shape := ⟨3, ![1, 1024, 5632]⟩
abbrev S1x2816x1024 : Shape := ⟨3, ![1, 2816, 1024]⟩
abbrev S1024x5632 : Shape := ⟨2, ![1024, 5632]⟩
abbrev S2816x1024 : Shape := ⟨2, ![2816, 1024]⟩
abbrev S_ : Shape := ⟨0, ![]⟩
abbrev S32 : Shape := ⟨1, ![32]⟩
abbrev S16384x1 : Shape := ⟨2, ![16384, 1]⟩
abbrev S1x1024 : Shape := ⟨2, ![1, 1024]⟩
abbrev S512x1024 : Shape := ⟨2, ![512, 1024]⟩
abbrev S1x1024x1408 : Shape := ⟨3, ![1, 1024, 1408]⟩
abbrev S1 : Shape := ⟨1, ![1]⟩
abbrev S1x1408x1024 : Shape := ⟨3, ![1, 1408, 1024]⟩
abbrev S512x1 : Shape := ⟨2, ![512, 1]⟩
abbrev S512 : Shape := ⟨1, ![512]⟩
abbrev S1024x1408 : Shape := ⟨2, ![1024, 1408]⟩
abbrev S512x1408 : Shape := ⟨2, ![512, 1408]⟩
abbrev S1408x1024 : Shape := ⟨2, ![1408, 1024]⟩

abbrev nBuf : Space → Nat
  | .hbm => 16
  | .vmem => 15
  | .smem => 2
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1x1024x5632, .f32⟩
  | .hbm, ⟨3, _⟩ => ⟨S1x2816x1024, .f32⟩
  | .hbm, ⟨4, _⟩ => ⟨S1024x5632, .f32⟩
  | .hbm, ⟨5, _⟩ => ⟨S1024x5632, .bf16⟩
  | .hbm, ⟨6, _⟩ => ⟨S1x1024x5632, .bf16⟩
  | .hbm, ⟨7, _⟩ => ⟨S2816x1024, .f32⟩
  | .hbm, ⟨8, _⟩ => ⟨S2816x1024, .bf16⟩
  | .hbm, ⟨9, _⟩ => ⟨S1x2816x1024, .bf16⟩
  | .hbm, ⟨10, _⟩ => ⟨S_, .i32⟩
  | .hbm, ⟨11, _⟩ => ⟨S_, .i32⟩
  | .hbm, ⟨12, _⟩ => ⟨S_, .f32⟩
  | .hbm, ⟨13, _⟩ => ⟨S16384x1, .f32⟩
  | .hbm, ⟨14, _⟩ => ⟨S1x1024, .f32⟩
  | .hbm, ⟨15, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1x1024x1408, .bf16⟩
  | .local _ .vmem, ⟨7, _⟩ => ⟨S1x1408x1024, .bf16⟩
  | .local _ .vmem, ⟨8, _⟩ => ⟨S1x1408x1024, .bf16⟩
  | .local _ .vmem, ⟨9, _⟩ => ⟨S512x1, .f32⟩
  | .local _ .vmem, ⟨10, _⟩ => ⟨S512x1, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .f32⟩
  | .local _ .smem, ⟨0, _⟩ => ⟨S32, .i32⟩
  | .local _ .smem, ⟨1, _⟩ => ⟨S32, .i32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_c_0 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v6 : Ref sig .tc := ⟨.smem, 0, rfl⟩
abbrev main_v7 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![32, 2], ![false, false]⟩

abbrev pre0 : Pipeline.Prefetch sig := ⟨2, ![main_v6.idx, main_v7.idx], fun | 0 => main_v6.names | 1 => main_v7.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond3 (i : grid0.Coords) : BitVec 1 :=
  let arg1 : BitVec 32 := BitVec.ofNat 32 (i 1).val
  let c1_i32 : BitVec 32 := 1#32
  let v8 : BitVec 1 := Scalar.cmpi .eq arg1 c1_i32
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (k0_off1_inb : ∀ i : grid0.Coords, ∀ a, (k0_off1 i) a + S1.size a ≤ S32.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S32) ![v0.toNat] S1.size (k0_off1_inb i)) numel1_S1
  let v2 : Index := Scalar.indexCast arg0
  let v3 : BitVec 32 := pf.at 1 (Rect.unit (s := S32) ![v2.toNat] S1.size (k0_off1_inb i)) numel1_S1
  let v4 : BitVec 32 := Scalar.muli arg1 v3
  let v5 : Index := Scalar.indexCast arg0
  let v6 : BitVec 32 := pf.at 1 (Rect.unit (s := S32) ![v5.toNat] S1.size (k0_off1_inb i)) numel1_S1
  let c1_i32 : BitVec 32 := 1#32
  let v7 : BitVec 32 := Scalar.subi c1_i32 v6
  let c1_i32_0 : BitVec 32 := 1#32
  let v8 : BitVec 32 := Scalar.muli c1_i32_0 v7
  let v9 : BitVec 32 := Scalar.addi v4 v8
  let c0_i32 : BitVec 32 := 0#32
  let c0_i32_1 : BitVec 32 := 0#32
  ![v1.toNat, c0_i32.toNat, v9.toNat]

def cc0_transform_3 (k0_off1_inb : ∀ i : grid0.Coords, ∀ a, (k0_off1 i) a + S1.size a ≤ S32.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S32) ![v0.toNat] S1.size (k0_off1_inb i)) numel1_S1
  let v2 : Index := Scalar.indexCast arg0
  let v3 : BitVec 32 := pf.at 1 (Rect.unit (s := S32) ![v2.toNat] S1.size (k0_off1_inb i)) numel1_S1
  let v4 : BitVec 32 := Scalar.muli arg1 v3
  let v5 : Index := Scalar.indexCast arg0
  let v6 : BitVec 32 := pf.at 1 (Rect.unit (s := S32) ![v5.toNat] S1.size (k0_off1_inb i)) numel1_S1
  let c1_i32 : BitVec 32 := 1#32
  let v7 : BitVec 32 := Scalar.subi c1_i32 v6
  let c1_i32_0 : BitVec 32 := 1#32
  let v8 : BitVec 32 := Scalar.muli c1_i32_0 v7
  let v9 : BitVec 32 := Scalar.addi v4 v8
  let c2_i32 : BitVec 32 := 2#32
  let v10 : BitVec 32 := Scalar.addi c2_i32 v9
  let c0_i32 : BitVec 32 := 0#32
  let c0_i32_1 : BitVec 32 := 0#32
  ![v1.toNat, c0_i32.toNat, v10.toNat]

def cc0_transform_4 (k0_off1_inb : ∀ i : grid0.Coords, ∀ a, (k0_off1 i) a + S1.size a ≤ S32.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S32) ![v0.toNat] S1.size (k0_off1_inb i)) numel1_S1
  let v2 : Index := Scalar.indexCast arg0
  let v3 : BitVec 32 := pf.at 1 (Rect.unit (s := S32) ![v2.toNat] S1.size (k0_off1_inb i)) numel1_S1
  let v4 : BitVec 32 := Scalar.muli arg1 v3
  let v5 : Index := Scalar.indexCast arg0
  let v6 : BitVec 32 := pf.at 1 (Rect.unit (s := S32) ![v5.toNat] S1.size (k0_off1_inb i)) numel1_S1
  let c1_i32 : BitVec 32 := 1#32
  let v7 : BitVec 32 := Scalar.subi c1_i32 v6
  let c1_i32_0 : BitVec 32 := 1#32
  let v8 : BitVec 32 := Scalar.muli c1_i32_0 v7
  let v9 : BitVec 32 := Scalar.addi v4 v8
  let c0_i32 : BitVec 32 := 0#32
  let c0_i32_1 : BitVec 32 := 0#32
  ![v1.toNat, v9.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference3Ideal.lean ====
abbrev S16384x1024 : Shape := ⟨2, ![16384, 1024]⟩
abbrev S1024 : Shape := ⟨1, ![1024]⟩
abbrev S1x1024x5632 : Shape := ⟨3, ![1, 1024, 5632]⟩
abbrev S1x2816x1024 : Shape := ⟨3, ![1, 2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1024x5632 : Shape := ⟨2, ![1024, 5632]⟩
abbrev S2816x1024 : Shape := ⟨2, ![2816, 1024]⟩
abbrev S16384x5632 : Shape := ⟨2, ![16384, 5632]⟩
abbrev S16384x2816 : Shape := ⟨2, ![16384, 2816]⟩

abbrev nBuf : Space → Nat
  | .hbm => 37
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1x1024x5632, .f32⟩
  | .hbm, ⟨3, _⟩ => ⟨S1x2816x1024, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S1024x5632, .f32⟩
  | .hbm, ⟨21, _⟩ => ⟨S2816x1024, .f32⟩
  | .hbm, ⟨22, _⟩ => ⟨S16384x5632, .f32⟩
  | .hbm, ⟨23, _⟩ => ⟨S16384x2816, .f32⟩
  | .hbm, ⟨24, _⟩ => ⟨S16384x2816, .f32⟩
  | .hbm, ⟨25, _⟩ => ⟨S16384x2816, .f32⟩
  | .hbm, ⟨26, _⟩ => ⟨S16384x2816, .f32⟩
  | .hbm, ⟨27, _⟩ => ⟨S_, .f32⟩
  | .hbm, ⟨28, _⟩ => ⟨S16384x2816, .f32⟩
  | .hbm, ⟨29, _⟩ => ⟨S16384x2816, .f32⟩
  | .hbm, ⟨30, _⟩ => ⟨S_, .f32⟩
  | .hbm, ⟨31, _⟩ => ⟨S16384x2816, .f32⟩
  | .hbm, ⟨32, _⟩ => ⟨S16384x2816, .f32⟩
  | .hbm, ⟨33, _⟩ => ⟨S16384x2816, .f32⟩
  | .hbm, ⟨34, _⟩ => ⟨S16384x2816, .f32⟩
  | .hbm, ⟨35, _⟩ => ⟨S16384x1024, .f32⟩
  | .hbm, ⟨36, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩

abbrev nD : Nat := 1
abbrev τ : Topo := Topo.v7x

variable {F : FTy → Type} [FloatOps F]
-- ==== Kernel4.lean ====
abbrev S4x256x1024 : Shape := ⟨3, ![4, 256, 1024]⟩
abbrev S1024 : Shape := ⟨1, ![1024]⟩
abbrev S1024x2048 : Shape := ⟨2, ![1024, 2048]⟩
abbrev S1024x1024 : Shape := ⟨2, ![1024, 1024]⟩
abbrev S1x1024 : Shape := ⟨2, ![1, 1024]⟩
abbrev S1x1024x4x256 : Shape := ⟨4, ![1, 1024, 4, 256]⟩
abbrev S512x1024 : Shape := ⟨2, ![512, 1024]⟩
abbrev S512x2048 : Shape := ⟨2, ![512, 2048]⟩
abbrev S1x512x4x256 : Shape := ⟨4, ![1, 512, 4, 256]⟩
abbrev S512 : Shape := ⟨1, ![512]⟩
abbrev S512x1 : Shape := ⟨2, ![512, 1]⟩
abbrev S512x256 : Shape := ⟨2, ![512, 256]⟩
abbrev S512x4x256 : Shape := ⟨3, ![512, 4, 256]⟩
abbrev S512x1x256 : Shape := ⟨3, ![512, 1, 256]⟩

abbrev nBuf : Space → Nat
  | .hbm => 9
  | .vmem => 10
  | .smem => 0
  | _ => 0

abbrev bufTy : (tb : Table) → Fin (tcTables nBuf tb) → BufTy
  | .hbm, ⟨0, _⟩ => ⟨S4x256x1024, .f32⟩
  | .hbm, ⟨1, _⟩ => ⟨S1024, .f32⟩
  | .hbm, ⟨2, _⟩ => ⟨S1024x2048, .f32⟩
  | .hbm, ⟨3, _⟩ => ⟨S1024x1024, .f32⟩
  | .hbm, ⟨4, _⟩ => ⟨S1024x2048, .bf16⟩
  | .hbm, ⟨5, _⟩ => ⟨S1x1024, .f32⟩
  | .hbm, ⟨6, _⟩ => ⟨S1024x2048, .f32⟩
  | .hbm, ⟨7, _⟩ => ⟨S1x1024x4x256, .f32⟩
  | .hbm, ⟨8, _⟩ => ⟨S1x1024x4x256, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2048, .bf16⟩
  | .local _ .vmem, ⟨4, _⟩ => ⟨S512x2048, .f32⟩
  | .local _ .vmem, ⟨5, _⟩ => ⟨S512x2048, .f32⟩
  | .local _ .vmem, ⟨6, _⟩ => ⟨S1x512x4x256, .f32⟩
  | .local _ .vmem, ⟨7, _⟩ => ⟨S1x512x4x256, .f32⟩
  | .local _ .vmem, ⟨8, _⟩ => ⟨S1x512x4x256, .f32⟩
  | .local _ .vmem, ⟨9, _⟩ => ⟨S1x512x4x256, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x4x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x4x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference4Ideal.lean ====
abbrev S4x256x1024 : Shape := ⟨3, ![4, 256, 1024]⟩
abbrev S1024 : Shape := ⟨1, ![1024]⟩
abbrev S1024x2048 : Shape := ⟨2, ![1024, 2048]⟩
abbrev S_ : Shape := ⟨0, ![]⟩
abbrev S4x256 : Shape := ⟨2, ![4, 256]⟩
abbrev S4x256x1 : Shape := ⟨3, ![4, 256, 1]⟩
abbrev S1x1x1024 : Shape := ⟨3, ![1, 1, 1024]⟩
abbrev S4x256x2048 : Shape := ⟨3, ![4, 256, 2048]⟩
abbrev S1x1024x4x256 : Shape := ⟨4, ![1, 1024, 4, 256]⟩

abbrev nBuf : Space → Nat
  | .hbm => 25
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S1024, .f32⟩
  | .hbm, ⟨2, _⟩ => ⟨S1024x2048, .f32⟩
  | .hbm, ⟨3, _⟩ => ⟨S4x256x1024, .f32⟩
  | .hbm, ⟨4, _⟩ => ⟨S_, .f32⟩
  | .hbm, ⟨5, _⟩ => ⟨S4x256, .f32⟩
  | .hbm, ⟨6, _⟩ => ⟨S4x256x1, .f32⟩
  | .hbm, ⟨7, _⟩ => ⟨S_, .f32⟩
  | .hbm, ⟨8, _⟩ => ⟨S4x256x1, .f32⟩
  | .hbm, ⟨9, _⟩ => ⟨S4x256x1, .f32⟩
  | .hbm, ⟨10, _⟩ => ⟨S_, .f32⟩
  | .hbm, ⟨11, _⟩ => ⟨S4x256x1, .f32⟩
  | .hbm, ⟨12, _⟩ => ⟨S4x256x1, .f32⟩
  | .hbm, ⟨13, _⟩ => ⟨S4x256x1, .f32⟩
  | .hbm, ⟨14, _⟩ => ⟨S4x256x1024, .f32⟩
  | .hbm, ⟨15, _⟩ => ⟨S4x256x1024, .f32⟩
  | .hbm, ⟨16, _⟩ => ⟨S1x1x1024, .f32⟩
  | .hbm, ⟨17, _⟩ => ⟨S4x256x1024, .f32⟩
  | .hbm, ⟨18, _⟩ => ⟨S4x256x1024, .f32⟩
  | .hbm, ⟨19, _⟩ => ⟨S4x256x2048, .f32⟩
  | .hbm, ⟨20, _⟩ => ⟨S4x256x1024, .f32⟩
  | .hbm, ⟨21, _⟩ => ⟨S4x256x1024, .f32⟩
  | .hbm, ⟨22, _⟩ => ⟨S1024x2048, .f32⟩
  | .hbm, ⟨23, _⟩ => ⟨S1x1024x4x256, .f32⟩
  | .hbm, ⟨24, _⟩ => ⟨S1x1024x4x256, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Kernel5.lean ====
abbrev S4x4096x1024 : Shape := ⟨3, ![4, 4096, 1024]⟩
abbrev S1024 : Shape := ⟨1, ![1024]⟩
abbrev S1024x3088 : Shape := ⟨2, ![1024, 3088]⟩
abbrev S_ : Shape := ⟨0, ![]⟩
abbrev S1024x3200 : Shape := ⟨2, ![1024, 3200]⟩
abbrev S16384x1024 : Shape := ⟨2, ![16384, 1024]⟩
abbrev S1x1024 : Shape := ⟨2, ![1, 1024]⟩
abbrev S16384x3200 : Shape := ⟨2, ![16384, 3200]⟩
abbrev S2x16384x4x128 : Shape := ⟨4, ![2, 16384, 4, 128]⟩
abbrev S512x1024 : Shape := ⟨2, ![512, 1024]⟩
abbrev S512x3200 : Shape := ⟨2, ![512, 3200]⟩
abbrev S2x512x4x128 : Shape := ⟨4, ![2, 512, 4, 128]⟩
abbrev S512 : Shape := ⟨1, ![512]⟩
abbrev S512x1 : Shape := ⟨2, ![512, 1]⟩
abbrev S512x4x128 : Shape := ⟨3, ![512, 4, 128]⟩
abbrev S1x512x4x128 : Shape := ⟨4, ![1, 512, 4, 128]⟩
abbrev S512x128 : Shape := ⟨2, ![512, 128]⟩
abbrev S512x1x128 : Shape := ⟨3, ![512, 1, 128]⟩

abbrev nBuf : Space → Nat
  | .hbm => 12
  | .vmem => 10
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x3088, .f32⟩
  | .hbm, ⟨3, _⟩ => ⟨S_, .i32⟩
  | .hbm, ⟨4, _⟩ => ⟨S_, .f32⟩
  | .hbm, ⟨5, _⟩ => ⟨S1024x3200, .f32⟩
  | .hbm, ⟨6, _⟩ => ⟨S1024x3200, .bf16⟩
  | .hbm, ⟨7, _⟩ => ⟨S16384x1024, .f32⟩
  | .hbm, ⟨8, _⟩ => ⟨S1x1024, .f32⟩
  | .hbm, ⟨9, _⟩ => ⟨S16384x3200, .f32⟩
  | .hbm, ⟨10, _⟩ => ⟨S2x16384x4x128, .f32⟩
  | .hbm, ⟨11, _⟩ => ⟨S2x16384x4x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3200, .bf16⟩
  | .local _ .vmem, ⟨4, _⟩ => ⟨S512x3200, .f32⟩
  | .local _ .vmem, ⟨5, _⟩ => ⟨S512x3200, .f32⟩
  | .local _ .vmem, ⟨6, _⟩ => ⟨S2x512x4x128, .f32⟩
  | .local _ .vmem, ⟨7, _⟩ => ⟨S2x512x4x128, .f32⟩
  | .local _ .vmem, ⟨8, _⟩ => ⟨S2x512x4x128, .f32⟩
  | .local _ .vmem, ⟨9, _⟩ => ⟨S2x512x4x128, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3200 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3200 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x512x4x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x512x4x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference5Ideal.lean ====
abbrev S4x4096x1024 : Shape := ⟨3, ![4, 4096, 1024]⟩
abbrev S1024 : Shape := ⟨1, ![1024]⟩
abbrev S1024x3088 : Shape := ⟨2, ![1024, 3088]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x3088 : Shape := ⟨3, ![4, 4096, 3088]⟩
abbrev S16384x3088 : Shape := ⟨2, ![16384, 3088]⟩
abbrev S16384x512 : Shape := ⟨2, ![16384, 512]⟩
abbrev S16384x4x128 : Shape := ⟨3, ![16384, 4, 128]⟩
abbrev S16384x3200 : Shape := ⟨2, ![16384, 3200]⟩
abbrev S1x16384x4x128 : Shape := ⟨4, ![1, 16384, 4, 128]⟩
abbrev S2x16384x4x128 : Shape := ⟨4, ![2, 16384, 4, 128]⟩

abbrev nBuf : Space → Nat
  | .hbm => 38
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x3088, .f32⟩
  | .hbm, ⟨3, _⟩ => ⟨S4x4096x1024, .f32⟩
  | .hbm, ⟨4, _⟩ => ⟨S_, .f32⟩
  | .hbm, ⟨5, _⟩ => ⟨S4x4096, .f32⟩
  | .hbm, ⟨6, _⟩ => ⟨S4x4096x1, .f32⟩
  | .hbm, ⟨7, _⟩ => ⟨S_, .f32⟩
  | .hbm, ⟨8, _⟩ => ⟨S4x4096x1, .f32⟩
  | .hbm, ⟨9, _⟩ => ⟨S4x4096x1, .f32⟩
  | .hbm, ⟨10, _⟩ => ⟨S_, .f32⟩
  | .hbm, ⟨11, _⟩ => ⟨S4x4096x1, .f32⟩
  | .hbm, ⟨12, _⟩ => ⟨S4x4096x1, .f32⟩
  | .hbm, ⟨13, _⟩ => ⟨S4x4096x1, .f32⟩
  | .hbm, ⟨14, _⟩ => ⟨S4x4096x1024, .f32⟩
  | .hbm, ⟨15, _⟩ => ⟨S4x4096x1024, .f32⟩
  | .hbm, ⟨16, _⟩ => ⟨S1x1x1024, .f32⟩
  | .hbm, ⟨17, _⟩ => ⟨S4x4096x1024, .f32⟩
  | .hbm, ⟨18, _⟩ => ⟨S4x4096x1024, .f32⟩
  | .hbm, ⟨19, _⟩ => ⟨S4x4096x3088, .f32⟩
  | .hbm, ⟨20, _⟩ => ⟨S16384x3088, .f32⟩
  | .hbm, ⟨21, _⟩ => ⟨S16384x512, .f32⟩
  | .hbm, ⟨22, _⟩ => ⟨S16384x4x128, .f32⟩
  | .hbm, ⟨23, _⟩ => ⟨S16384x512, .f32⟩
  | .hbm, ⟨24, _⟩ => ⟨S16384x4x128, .f32⟩
  | .hbm, ⟨25, _⟩ => ⟨S_, .i32⟩
  | .hbm, ⟨26, _⟩ => ⟨S_, .f32⟩
  | .hbm, ⟨27, _⟩ => ⟨S16384x3200, .f32⟩
  | .hbm, ⟨28, _⟩ => ⟨S_, .f32⟩
  | .hbm, ⟨29, _⟩ => ⟨S16384x4x128, .f32⟩
  | .hbm, ⟨30, _⟩ => ⟨S1x16384x4x128, .f32⟩
  | .hbm, ⟨31, _⟩ => ⟨S1x16384x4x128, .f32⟩
  | .hbm, ⟨32, _⟩ => ⟨S2x16384x4x128, .f32⟩
  | .hbm, ⟨33, _⟩ => ⟨S_, .f32⟩
  | .hbm, ⟨34, _⟩ => ⟨S16384x4x128, .f32⟩
  | .hbm, ⟨35, _⟩ => ⟨S1x16384x4x128, .f32⟩
  | .hbm, ⟨36, _⟩ => ⟨S1x16384x4x128, .f32⟩
  | .hbm, ⟨37, _⟩ => ⟨S2x16384x4x128, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c : Ref sig .tc := ⟨.hbm, 25, rfl⟩
abbrev main_call0_v0 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== Kernel6.lean ====
abbrev S128x8x1024 : Shape := ⟨3, ![128, 8, 1024]⟩
abbrev S1024 : Shape := ⟨1, ![1024]⟩
abbrev S1024x3088 : Shape := ⟨2, ![1024, 3088]⟩
abbrev S2x1024x4x128 : Shape := ⟨4, ![2, 1024, 4, 128]⟩
abbrev S_ : Shape := ⟨0, ![]⟩
abbrev S1024x3200 : Shape := ⟨2, ![1024, 3200]⟩
abbrev S1024x1024 : Shape := ⟨2, ![1024, 1024]⟩
abbrev S1x1024 : Shape := ⟨2, ![1, 1024]⟩
abbrev S512x1024 : Shape := ⟨2, ![512, 1024]⟩
abbrev S512x3200 : Shape := ⟨2, ![512, 3200]⟩
abbrev S1x512x4x128 : Shape := ⟨4, ![1, 512, 4, 128]⟩
abbrev S512 : Shape := ⟨1, ![512]⟩
abbrev S512x1 : Shape := ⟨2, ![512, 1]⟩
abbrev S512x128 : Shape := ⟨2, ![512, 128]⟩
abbrev S1x512x1x128 : Shape := ⟨4, ![1, 512, 1, 128]⟩

abbrev nBuf : Space → Nat
  | .hbm => 14
  | .vmem => 10
  | .smem => 0
  | _ => 0

abbrev bufTy : (tb : Table) → Fin (tcTables nBuf tb) → BufTy
  | .hbm, ⟨0, _⟩ => ⟨S128x8x1024, .f32⟩
  | .hbm, ⟨1, _⟩ => ⟨S1024, .f32⟩
  | .hbm, ⟨2, _⟩ => ⟨S1024x3088, .f32⟩
  | .hbm, ⟨3, _⟩ => ⟨S2x1024x4x128, .f32⟩
  | .hbm, ⟨4, _⟩ => ⟨S2x1024x4x128, .f32⟩
  | .hbm, ⟨5, _⟩ => ⟨S_, .i32⟩
  | .hbm, ⟨6, _⟩ => ⟨S_, .f32⟩
  | .hbm, ⟨7, _⟩ => ⟨S1024x3200, .f32⟩
  | .hbm, ⟨8, _⟩ => ⟨S1024x3200, .bf16⟩
  | .hbm, ⟨9, _⟩ => ⟨S1024x1024, .f32⟩
  | .hbm, ⟨10, _⟩ => ⟨S1x1024, .f32⟩
  | .hbm, ⟨11, _⟩ => ⟨S1024x3200, .f32⟩
  | .hbm, ⟨12, _⟩ => ⟨S2x1024x4x128, .f32⟩
  | .hbm, ⟨13, _⟩ => ⟨S2x1024x4x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3200, .bf16⟩
  | .local _ .vmem, ⟨4, _⟩ => ⟨S512x3200, .f32⟩
  | .local _ .vmem, ⟨5, _⟩ => ⟨S512x3200, .f32⟩
  | .local _ .vmem, ⟨6, _⟩ => ⟨S1x512x4x128, .f32⟩
  | .local _ .vmem, ⟨7, _⟩ => ⟨S1x512x4x128, .f32⟩
  | .local _ .vmem, ⟨8, _⟩ => ⟨S1x512x4x128, .f32⟩
  | .local _ .vmem, ⟨9, _⟩ => ⟨S1x512x4x128, .f32⟩
  | _, _ => ⟨S128x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_7 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3200 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3200 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x4x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x4x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference6Ideal.lean ====
abbrev S128x8x1024 : Shape := ⟨3, ![128, 8, 1024]⟩
abbrev S1024 : Shape := ⟨1, ![1024]⟩
abbrev S1024x3088 : Shape := ⟨2, ![1024, 3088]⟩
abbrev S2x1024x4x128 : Shape := ⟨4, ![2, 1024, 4, 128]⟩
abbrev S_ : Shape := ⟨0, ![]⟩
abbrev S128x8 : Shape := ⟨2, ![128, 8]⟩
abbrev S128x8x1 : Shape := ⟨3, ![128, 8, 1]⟩
abbrev S1x1x1024 : Shape := ⟨3, ![1, 1, 1024]⟩
abbrev S128x8x3088 : Shape := ⟨3, ![128, 8, 3088]⟩
abbrev S1024x512 : Shape := ⟨2, ![1024, 512]⟩
abbrev S1024x4x128 : Shape := ⟨3, ![1024, 4, 128]⟩
abbrev S1024x3200 : Shape := ⟨2, ![1024, 3200]⟩
abbrev S1x1024x4x128 : Shape := ⟨4, ![1, 1024, 4, 128]⟩

abbrev nBuf : Space → Nat
  | .hbm => 40
  | .vmem => 0
  | .smem => 0
  | _ => 0

abbrev bufTy : (tb : Table) → Fin (tcTables nBuf tb) → BufTy
  | .hbm, ⟨0, _⟩ => ⟨S128x8x1024, .f32⟩
  | .hbm, ⟨1, _⟩ => ⟨S1024, .f32⟩
  | .hbm, ⟨2, _⟩ => ⟨S1024x3088, .f32⟩
  | .hbm, ⟨3, _⟩ => ⟨S2x1024x4x128, .f32⟩
  | .hbm, ⟨4, _⟩ => ⟨S2x1024x4x128, .f32⟩
  | .hbm, ⟨5, _⟩ => ⟨S128x8x1024, .f32⟩
  | .hbm, ⟨6, _⟩ => ⟨S_, .f32⟩
  | .hbm, ⟨7, _⟩ => ⟨S128x8, .f32⟩
  | .hbm, ⟨8, _⟩ => ⟨S128x8x1, .f32⟩
  | .hbm, ⟨9, _⟩ => ⟨S_, .f32⟩
  | .hbm, ⟨10, _⟩ => ⟨S128x8x1, .f32⟩
  | .hbm, ⟨11, _⟩ => ⟨S128x8x1, .f32⟩
  | .hbm, ⟨12, _⟩ => ⟨S_, .f32⟩
  | .hbm, ⟨13, _⟩ => ⟨S128x8x1, .f32⟩
  | .hbm, ⟨14, _⟩ => ⟨S128x8x1, .f32⟩
  | .hbm, ⟨15, _⟩ => ⟨S128x8x1, .f32⟩
  | .hbm, ⟨16, _⟩ => ⟨S128x8x1024, .f32⟩
  | .hbm, ⟨17, _⟩ => ⟨S128x8x1024, .f32⟩
  | .hbm, ⟨18, _⟩ => ⟨S1x1x1024, .f32⟩
  | .hbm, ⟨19, _⟩ => ⟨S128x8x1024, .f32⟩
  | .hbm, ⟨20, _⟩ => ⟨S128x8x1024, .f32⟩
  | .hbm, ⟨21, _⟩ => ⟨S128x8x3088, .f32⟩
  | .hbm, ⟨22, _⟩ => ⟨S1024x3088, .f32⟩
  | .hbm, ⟨23, _⟩ => ⟨S1024x512, .f32⟩
  | .hbm, ⟨24, _⟩ => ⟨S1024x4x128, .f32⟩
  | .hbm, ⟨25, _⟩ => ⟨S1024x512, .f32⟩
  | .hbm, ⟨26, _⟩ => ⟨S1024x4x128, .f32⟩
  | .hbm, ⟨27, _⟩ => ⟨S_, .i32⟩
  | .hbm, ⟨28, _⟩ => ⟨S_, .f32⟩
  | .hbm, ⟨29, _⟩ => ⟨S1024x3200, .f32⟩
  | .hbm, ⟨30, _⟩ => ⟨S1x1024x4x128, .f32⟩
  | .hbm, ⟨31, _⟩ => ⟨S1024x4x128, .f32⟩
  | .hbm, ⟨32, _⟩ => ⟨S1x1024x4x128, .f32⟩
  | .hbm, ⟨33, _⟩ => ⟨S1x1024x4x128, .f32⟩
  | .hbm, ⟨34, _⟩ => ⟨S2x1024x4x128, .f32⟩
  | .hbm, ⟨35, _⟩ => ⟨S1x1024x4x128, .f32⟩
  | .hbm, ⟨36, _⟩ => ⟨S1024x4x128, .f32⟩
  | .hbm, ⟨37, _⟩ => ⟨S1x1024x4x128, .f32⟩
  | .hbm, ⟨38, _⟩ => ⟨S1x1024x4x128, .f32⟩
  | .hbm, ⟨39, _⟩ => ⟨S2x1024x4x128, .f32⟩
  | _, _ => ⟨S128x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c : Ref sig .tc := ⟨.hbm, 27, rfl⟩
abbrev main_call0_v0 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]
-- ==== Proof.Softmax.lean ====
/- Facts about one row of a softmax over the extended reals: with finite scores the row's maximum is finite, its
   exponentials are positive reals, and dividing the weighted sum is the same as summing the divided weights. -/
module

public import Idealize.ShloMosaic.PureOps.Ideal

@[expose] public section

noncomputable section

namespace Cert.Softmax

open Idealize.ShloMosaic

/-- The inclusion of the reals commutes with finite sums. -/
theorem coe_sum {n : ℕ} (s : Finset (Fin n)) (g : Fin n → ℝ) : ((∑ k ∈ s, g k : ℝ) : EReal) = ∑ k ∈ s, (g k : EReal) := by
  classical
  induction s using Finset.induction_on with
  | empty => simp
  | insert a s ha ih => rw [Finset.sum_insert ha, Finset.sum_insert ha, EReal.coe_add, ih]

/-- A sum of reals is real. -/
theorem sum_real {n : ℕ} (f : Fin n → EReal) (hf : ∀ k, ∃ r : ℝ, f k = r) : ∃ r : ℝ, ∑ k, f k = r := by
  choose g hg using hf
  exact ⟨∑ k, g k, by rw [Finset.sum_congr rfl fun k _ => hg k]; exact (coe_sum _ _).symm⟩

/-- A positive real distributes over a sum. -/
theorem sum_mul_coe {n : ℕ} (f : Fin n → EReal) (r : ℝ) (hr : 0 ≤ r) : (∑ k, f k) * (r : EReal) = ∑ k, f k * (r : EReal) := by
  classical
  have h : ∀ s : Finset (Fin n), (∑ k ∈ s, f k) * (r : EReal) = ∑ k ∈ s, f k * (r : EReal) := by
    intro s
    induction s using Finset.induction_on with
    | empty => simp
    | insert a s ha ih =>
      rw [Finset.sum_insert ha, Finset.sum_insert ha,
        EReal.right_distrib_of_nonneg_of_ne_top (by exact_mod_cast hr) (EReal.coe_ne_top r), ih]
  exact h _

/-- The maximum of finitely many reals, folded from minus infinity, is real. -/
theorem max_real {n : ℕ} [NeZero n] (f : Fin n → EReal) (hf : ∀ k, ∃ r : ℝ, f k = r) :
    ∃ r : ℝ, Finset.univ.fold max (⊥ : EReal) f = r := by
  have h1 : Finset.univ.fold max (⊥ : EReal) f < ⊤ := by
    rw [Finset.fold_max_lt]
    refine ⟨by simp, fun k _ => ?_⟩
    obtain ⟨r, hr⟩ := hf k
    rw [hr]; exact EReal.coe_lt_top r
  have h2 : ⊥ < Finset.univ.fold max (⊥ : EReal) f := by
    obtain ⟨r, hr⟩ := hf 0
    refine lt_of_lt_of_le (b := f 0) (by rw [hr]; exact EReal.bot_lt_coe r) ?_
    rw [Finset.le_fold_max]
    exact Or.inr ⟨0, Finset.mem_univ _, le_refl _⟩
  exact ⟨(Finset.univ.fold max (⊥ : EReal) f).toReal, (EReal.coe_toReal h1.ne h2.ne').symm⟩

/-- One entry of softmax(s) V: the weighted sum divided by the denominator is the sum of the divided weights, for finite
    scores and any values. -/
theorem row {n : ℕ} [NeZero n] (s v : Fin n → EReal) (hs : ∀ k, ∃ r : ℝ, s k = r) :
    Ideal.div (∑ k, Ideal.exp (s k - Finset.univ.fold max ⊥ s) * v k) (∑ k, Ideal.exp (s k - Finset.univ.fold max ⊥ s))
      = ∑ k, v k * Ideal.div (Ideal.exp (s k - Finset.univ.fold max ⊥ s)) (∑ l, Ideal.exp (s l - Finset.univ.fold max ⊥ s)) := by
  obtain ⟨M, hM⟩ := max_real s hs
  rw [hM]
  choose g hg using hs
  have hp : ∀ k, Ideal.exp (s k - (M : EReal)) = (Real.exp (g k - M) : EReal) := fun k => by
    rw [hg k, ← EReal.coe_sub]; rfl
  have hL : ∑ k, Ideal.exp (s k - (M : EReal)) = ((∑ k, Real.exp (g k - M) : ℝ) : EReal) := by
    rw [Finset.sum_congr rfl fun k _ => hp k]; exact (coe_sum _ _).symm
  have hpos : 0 < ∑ k, Real.exp (g k - M) :=
    Finset.sum_pos (fun k _ => Real.exp_pos _) ⟨0, Finset.mem_univ _⟩
  rw [hL, Ideal.div_coe hpos.ne', sum_mul_coe _ _ (by positivity)]
  refine Finset.sum_congr rfl fun k _ => ?_
  rw [Ideal.div_coe hpos.ne', mul_comm _ (v k), mul_assoc]

/-- A real scale moved out of a contraction of reals. -/
theorem scaled_dot {n : ℕ} (q w : Fin n → EReal) (c : ℝ) (hq : ∀ k, ∃ r : ℝ, q k = r) (hw : ∀ k, ∃ r : ℝ, w k = r) :
    ∑ k, (q k * (c : EReal)) * w k = (∑ k, q k * w k) * (c : EReal) := by
  choose a ha using hq
  choose b hb using hw
  have h1 : ∑ k, q k * w k = ((∑ k, a k * b k : ℝ) : EReal) := by
    rw [coe_sum]
    exact Finset.sum_congr rfl fun k _ => by rw [ha, hb, ← EReal.coe_mul]
  rw [h1, ← EReal.coe_mul, Finset.sum_mul, coe_sum]
  exact Finset.sum_congr rfl fun k _ => by
    rw [ha, hb, ← EReal.coe_mul, ← EReal.coe_mul]; congr 1; ring

/-- A contraction of reals is real. -/
theorem dot_real {n : ℕ} (q w : Fin n → EReal) (hq : ∀ k, ∃ r : ℝ, q k = r) (hw : ∀ k, ∃ r : ℝ, w k = r) :
    ∃ r : ℝ, ∑ k, q k * w k = r :=
  sum_real _ fun k => by
    obtain ⟨a, ha⟩ := hq k
    obtain ⟨b, hb⟩ := hw k
    exact ⟨a * b, by rw [ha, hb, EReal.coe_mul]⟩

/-- An extended real whose absolute value is below plus infinity is real. -/
theorem real_of_abs_lt (x : EReal) (h : max x (-x) < ⊤) : ∃ r : ℝ, x = r := by
  have h1 : x ≠ ⊤ := by rintro rfl; simp at h
  have h2 : x ≠ ⊥ := by rintro rfl; simp at h
  exact ⟨x.toReal, (EReal.coe_toReal h1 h2).symm⟩

/-- The pattern of minus infinity. -/
theorem ofBits_bot : Ideal.ofBits .f32 0xFF800000#32 = (⊥ : EReal) := by
  simp [Ideal.ofBits, Ideal.ieee]

/-- The pattern of plus infinity. -/
theorem ofBits_top : Ideal.ofBits .f32 0x7F800000#32 = (⊤ : EReal) := by
  simp [Ideal.ofBits, Ideal.ieee]

/-- The scale's pattern denotes a real (one sixteenth). -/
theorem ofBits_scale : ∃ r : ℝ, Ideal.ofBits .f32 0x3D800000#32 = (r : EReal) := by
  simp [Ideal.ofBits, Ideal.ieee]
  exact ⟨_, (EReal.coe_mul _ _).symm⟩

end Cert.Softmax

end
-- ==== Proof.AttnPure.lean ====
/- What the cross-attention kernel stores for one head, read at one entry. -/
module

public import proofs.«01_k».proof.Proof.Gen.KernelIdeal.Skeleton
public import proofs.«01_k».proof.Proof.Softmax
public import Idealize.ShloMosaic.Lib.Pointwise

@[expose] public section

set_option maxRecDepth 16384

noncomputable section

namespace Cert.AttnPure

open Idealize.ShloMosaic Idealize.ShloMosaic.TcCoe Idealize.SL.Sem
open Cert.KernelIdeal Cert.KernelIdeal.Gen

variable (q0 q1 q2 q3 : FVec Ideal S1x512x256 .bf16) (k0 k1 k2 k3 v : FVec Ideal S1x256x256 .f32)

/-- The kernel's score of query row `r` against key `l`, of one head. -/
def score (q : FVec Ideal S1x512x256 .bf16) (k : FVec Ideal S1x256x256 .f32) (r : Fin 512) (l : Fin 256) : EReal :=
  ∑ d : Fin 256, q (ix3 0 r d) * k (ix3 0 l d)

/-- One entry of a head's result: the weighted sum of the values over the denominator. -/
def entry (s : Fin 256 → EReal) (v : Fin 256 → EReal) : EReal :=
  Ideal.div (∑ k, Ideal.exp (s k - Finset.univ.fold max ⊥ s) * v k) (∑ k, Ideal.exp (s k - Finset.univ.fold max ⊥ s))

/-- The first head's rows of the stacked scores, less their maximum. -/
theorem stack0 (r : Fin 512) (l : Fin 256) :
    k0_pay3 (F := Ideal) q0 k0 q1 k1 q2 k2 q3 k3 (ix2 ⟨r, by omega⟩ l)
      = score q0 k0 r l - Finset.univ.fold max ⊥ (score q0 k0 r) := by
  pointwise [k0_pay3, Softmax.ofBits_bot]
  rfl

/-- The first head's stored entry. -/
theorem piece0 (r : Fin 512) (c : Fin 256) :
    k0_pay6 (F := Ideal) (k0_pay3 q0 k0 q1 k1 q2 k2 q3 k3) v (ix3 0 r c)
      = entry (score q0 k0 r) fun k => v (ix3 0 k c) := by
  pointwise [k0_pay6, k0_pay4, k0_pay5]
  unfold entry
  simp only [stack0]

/-- The second head's rows of the stacked scores, less their maximum. -/
theorem stack1 (r : Fin 512) (l : Fin 256) :
    k0_pay3 (F := Ideal) q0 k0 q1 k1 q2 k2 q3 k3 (ix2 ⟨512 + r, by omega⟩ l)
      = score q1 k1 r l - Finset.univ.fold max ⊥ (score q1 k1 r) := by
  pointwise [k0_pay3, Softmax.ofBits_bot]
  rfl

/-- The second head's stored entry. -/
theorem piece1 (r : Fin 512) (c : Fin 256) :
    k0_pay7 (F := Ideal) (k0_pay3 q0 k0 q1 k1 q2 k2 q3 k3) v (ix3 0 r c)
      = entry (score q1 k1 r) fun k => v (ix3 0 k c) := by
  pointwise [k0_pay7, k0_pay4, k0_pay5]
  unfold entry
  simp only [stack1]

/-- The third head's rows of the stacked scores, less their maximum. -/
theorem stack2 (r : Fin 512) (l : Fin 256) :
    k0_pay3 (F := Ideal) q0 k0 q1 k1 q2 k2 q3 k3 (ix2 ⟨1024 + r, by omega⟩ l)
      = score q2 k2 r l - Finset.univ.fold max ⊥ (score q2 k2 r) := by
  pointwise [k0_pay3, Softmax.ofBits_bot]
  have e : ∀ p, (⟨1024 + (r : ℕ) - 512 - 512, p⟩ : Fin 512) = r := fun p => Fin.ext (by dsimp only; omega)
  simp only [dif_neg (show ¬ 1024 + (r : ℕ) < 512 by omega), dif_neg (show ¬ 1024 + (r : ℕ) - 512 < 512 by omega), dif_pos (show 1024 + (r : ℕ) - 512 - 512 < 512 by omega), e]
  rfl

/-- The third head's stored entry. -/
theorem piece2 (r : Fin 512) (c : Fin 256) :
    k0_pay1 (F := Ideal) (k0_pay8 (k0_pay3 q0 k0 q1 k1 q2 k2 q3 k3) v) (ix3 0 r c)
      = entry (score q2 k2 r) fun k => v (ix3 0 k c) := by
  pointwise [k0_pay1, k0_pay8, k0_pay4, k0_pay5]
  unfold entry
  simp only [stack2]

/-- The fourth head's rows of the stacked scores, less their maximum. -/
theorem stack3 (r : Fin 512) (l : Fin 256) :
    k0_pay3 (F := Ideal) q0 k0 q1 k1 q2 k2 q3 k3 (ix2 ⟨1536 + r, by omega⟩ l)
      = score q3 k3 r l - Finset.univ.fold max ⊥ (score q3 k3 r) := by
  pointwise [k0_pay3, Softmax.ofBits_bot]
  have e : ∀ p, (⟨1536 + (r : ℕ) - 512 - 512 - 512, p⟩ : Fin 512) = r := fun p => Fin.ext (by dsimp only; omega)
  simp only [dif_neg (show ¬ 1536 + (r : ℕ) < 512 by omega), dif_neg (show ¬ 1536 + (r : ℕ) - 512 < 512 by omega), dif_neg (show ¬ 1536 + (r : ℕ) - 512 - 512 < 512 by omega), e]
  rfl

/-- The fourth head's stored entry. -/
theorem piece3 (r : Fin 512) (c : Fin 256) :
    k0_pay2 (F := Ideal) (k0_pay4 (k0_pay3 q0 k0 q1 k1 q2 k2 q3 k3)) (k0_pay5 (k0_pay3 q0 k0 q1 k1 q2 k2 q3 k3)) v (ix3 0 r c)
      = entry (score q3 k3 r) fun k => v (ix3 0 k c) := by
  pointwise [k0_pay2, k0_pay4, k0_pay5]
  unfold entry
  simp only [stack3]

end Cert.AttnPure

end
-- ==== Proof.AttnRef.lean ====
/- The reference's attention read at one entry. -/
module

public import proofs.«01_k».proof.Proof.Gen.ReferenceIdeal.Read
public import proofs.«01_k».proof.Proof.Softmax
public import Idealize.ShloMosaic.Lib.Pointwise

@[expose] public section

set_option maxRecDepth 16384

noncomputable section

namespace Cert.AttnRef

open Idealize.ShloMosaic Idealize.ShloMosaic.TcCoe Idealize.SL.Sem
open Cert.ReferenceIdeal Cert.ReferenceIdeal.Gen Cert.ReferenceIdeal.Read

/-- A maximum over the last of four axes is the fold along that axis, at any sizes. -/
theorem reduce_max {n0 n1 n2 n3 : ℕ} {u : Shape} (x : (⟨4, ![n0, n1, n2, n3]⟩ : Shape).Idx → EReal) (init : u.Idx → EReal)
    (h : (⟨4, ![n0, n1, n2, n3]⟩ : Shape).ReducesTo [3] ⟨3, ![n0, n1, n2]⟩) (hu : 0 < u.numel) (a : Fin n0) (b : Fin n1) (c : Fin n2) :
    Host.reduce (FloatOps.maximumf (F := Ideal) (φ := .f32)) x init h hu (ix3 a b c)
      = Finset.univ.fold max (init (Shape.Idx.first hu)) fun k : Fin n3 => x (ix4 a b c k) := by
  rw [Ideal.maximumf_eq_max, Host.reduce_eq_fold, h.fold_fiber_r4_a3]
  rfl

variable (q : FVec Ideal S4x4096x1024 .bf16) (mkv : FVec Ideal S4x256x2048 .f32)

/-- The reference's score of query `i` against key `l`, head `h` of sequence `b`: the contraction, then the scale. -/
def score (b : Fin 4) (i : Fin 4096) (h : Fin 4) (l : Fin 256) : EReal :=
  (∑ d : Fin 256, q (ix3 b i ⟨h * 256 + d, by omega⟩) * mkv (ix3 b l ⟨h * 256 + d, by omega⟩)) * Ideal.ofBits .f32 0x3D800000#32

/-- The scaled scores. -/
theorem v8_at (b : Fin 4) (h : Fin 4) (i : Fin 4096) (l : Fin 256) :
    val_main_v8 (F := Ideal) q mkv (ix4 b h i l) = score q mkv b i h l := by
  pointwise [val_main_v8, val_main_v7, val_main_v6, val_main_v5, val_main_v4, val_main_v2, val_main_v0, val_main_cst]
  rfl

/-- The row maximum of the scaled scores. -/
theorem v9_at (b : Fin 4) (h : Fin 4) (i : Fin 4096) :
    val_main_v9 (F := Ideal) q mkv (ix3 b h i) = Finset.univ.fold max ⊥ (score q mkv b i h) := by
  unfold val_main_v9
  have e := reduce_max (n0 := 4) (n1 := 4) (n2 := 4096) (n3 := 256) (u := S_) (val_main_v8 (F := Ideal) q mkv) (val_main_cst_0 (F := Ideal))
    reducesTo_S4x4x4096x256_S4x4x4096_d3 h_S_ b h i
  rw [e]
  simp only [v8_at]
  exact congrArg (fun c => Finset.fold max c (score q mkv b i h) Finset.univ) Softmax.ofBits_bot

/-- The row maximum once more against minus infinity. -/
theorem v11_at (b : Fin 4) (h : Fin 4) (i : Fin 4096) :
    val_main_v11 (F := Ideal) q mkv (ix3 b h i) = Finset.univ.fold max ⊥ (score q mkv b i h) := by
  have e : val_main_v10 (F := Ideal) (ix3 b h i) = (⊥ : EReal) := Softmax.ofBits_bot
  rw [val_main_v11_apply, e, v9_at]
  exact bot_sup_eq _

/-- The exponentials. -/
theorem v15_at (b : Fin 4) (h : Fin 4) (i : Fin 4096) (l : Fin 256) :
    val_main_v15 (F := Ideal) q mkv (ix4 b h i l)
      = Ideal.exp (score q mkv b i h l - Finset.univ.fold max ⊥ (score q mkv b i h)) := by
  pointwise [val_main_v15, val_main_v14, val_main_v13, val_main_v12, v11_at, v8_at]

/-- The softmax weights. -/
theorem v19_at (b : Fin 4) (h : Fin 4) (i : Fin 4096) (l : Fin 256) :
    val_main_v19 (F := Ideal) q mkv (ix4 b h i l)
      = Ideal.div (Ideal.exp (score q mkv b i h l - Finset.univ.fold max ⊥ (score q mkv b i h)))
          (∑ l, Ideal.exp (score q mkv b i h l - Finset.univ.fold max ⊥ (score q mkv b i h))) := by
  pointwise [val_main_v19, val_main_v18, val_main_v17, val_main_v16, val_main_cst_2, v15_at]

/-- The reference's result at one entry: the sum of the values weighted by the softmax of the scores. -/
theorem at_entry (b : Fin 4) (i : Fin 4096) (h : Fin 4) (c : Fin 256) :
    val_main_v23 (F := Ideal) q mkv (ix3 b i ⟨h * 256 + c, by omega⟩)
      = ∑ k : Fin 256, mkv (ix3 b k ⟨1024 + (h * 256 + c), by omega⟩)
          * Ideal.div (Ideal.exp (score q mkv b i h k - Finset.univ.fold max ⊥ (score q mkv b i h)))
              (∑ l, Ideal.exp (score q mkv b i h l - Finset.univ.fold max ⊥ (score q mkv b i h))) := by
  pointwise [val_main_v23, val_main_v22, val_main_v21, val_main_v20, val_main_v3, val_main_v1, v19_at]

end Cert.AttnRef

end
-- ==== Proof.AttnValue.lean ====
/- The cross-attention kernel's result array is the reference's, for finite queries and keys. -/
module

public import proofs.«01_k».proof.Proof.Gen.KernelIdeal.Value
public import proofs.«01_k».proof.Proof.AttnPure
public import proofs.«01_k».proof.Proof.AttnRef
public import Idealize.ShloMosaic.Lib.Pipeline.ValueKit
public import Idealize.ShloMosaic.Lib.Pointwise
public import Idealize.ShloMosaic.Lib.Claim

@[expose] public section

set_option maxRecDepth 16384

noncomputable section

namespace Cert.AttnValue

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-- The blocks the windows name at each of the 32 points: sequence `t / 8`, row block `t % 8`, the four key heads, the
    four value heads. -/
theorem idx : ∀ t : Fin cfg0.N,
    win0_0.index t = ![t.val / 8, t.val % 8, 0] ∧ win0_1.index t = ![t.val / 8, 0, 0] ∧ win0_2.index t = ![t.val / 8, 0, 1]
    ∧ win0_3.index t = ![t.val / 8, 0, 2] ∧ win0_4.index t = ![t.val / 8, 0, 3] ∧ win0_5.index t = ![t.val / 8, 0, 4]
    ∧ win0_6.index t = ![t.val / 8, 0, 5] ∧ win0_7.index t = ![t.val / 8, 0, 6] ∧ win0_8.index t = ![t.val / 8, 0, 7]
    ∧ win0_9.index t = ![t.val / 8, t.val % 8, 0] :=
  (by decide +kernel : ∀ t : Fin grid0.N, _)

/-- The queries at launch. -/
def Q (c : Dev nD) : FVec Ideal S4x4096x1024 .bf16 := m ((c : Thread nD τ).loc main_arg0)
/-- The keys and values at launch. -/
def KV (c : Dev nD) : FVec Ideal S4x256x2048 .f32 := m ((c : Thread nD τ).loc main_arg1)

/-- The query block of a point: the launched queries, scaled. -/
theorem q_at (c : Dev nD) (t : Fin cfg0.N) (ht : t.val < 32) (r : Fin 512) (x : Fin 1024) :
    (show FVec Ideal S1x512x1024 .bf16 from iblk m c 0 t) (ix3 0 r x)
      = Q m c (ix3 ⟨t.val / 8, by omega⟩ ⟨t.val % 8 * 512 + r, by omega⟩ x) * Ideal.ofBits .f32 0x3D800000#32 := by
  blk_point [iblk, Q, idx t]

/-- The finiteness the claim assumes: every query and every key is a real number. -/
structure Fin' (q : FVec Ideal S4x4096x1024 .bf16) (kv : FVec Ideal S4x256x2048 .f32) : Prop where
  q_real : ∀ j, ∃ r : ℝ, q j = r
  k_real : ∀ (b : Fin 4) (l : Fin 256) (x : Fin 1024), ∃ r : ℝ, kv (ix3 b l ⟨x, by omega⟩) = r

/-- A head's entry, over scores scaled before the contraction, is the reference's entry. -/
theorem finish (q : FVec Ideal S4x4096x1024 .bf16) (kv : FVec Ideal S4x256x2048 .f32) (hf : Fin' q kv)
    (b : Fin 4) (i : Fin 4096) (h : Fin 4) (c : Fin 256) :
    AttnPure.entry
        (fun l => ∑ d : Fin 256, (q (ix3 b i ⟨h * 256 + d, by omega⟩) * Ideal.ofBits .f32 0x3D800000#32) * kv (ix3 b l ⟨h * 256 + d, by omega⟩))
        (fun k => kv (ix3 b k ⟨1024 + (h * 256 + c), by omega⟩))
      = Cert.ReferenceIdeal.Read.val_main_v23 (F := Ideal) q kv (ix3 b i ⟨h * 256 + c, by omega⟩) := by
  obtain ⟨s, hs⟩ := Softmax.ofBits_scale
  have hk : ∀ (l d : Fin 256), ∃ r : ℝ, kv (ix3 b l ⟨h * 256 + d, by omega⟩) = r := fun l d => hf.k_real b l ⟨h * 256 + d, by omega⟩
  have e : (fun l : Fin 256 => ∑ d : Fin 256, (q (ix3 b i ⟨h * 256 + d, by omega⟩) * Ideal.ofBits .f32 0x3D800000#32) * kv (ix3 b l ⟨h * 256 + d, by omega⟩))
      = AttnRef.score q kv b i h := by
    funext l
    unfold AttnRef.score
    rw [hs]
    exact Softmax.scaled_dot _ _ s (fun d => hf.q_real _) (hk l)
  rw [e, AttnRef.at_entry]
  refine Softmax.row _ _ fun l => ?_
  obtain ⟨a, ha⟩ := Softmax.dot_real (fun d : Fin 256 => q (ix3 b i ⟨h * 256 + d, by omega⟩)) (fun d => kv (ix3 b l ⟨h * 256 + d, by omega⟩))
    (fun d => hf.q_real _) (hk l)
  exact ⟨a * s, by unfold AttnRef.score; rw [ha, hs, EReal.coe_mul]⟩

/-- What a point writes back, at one entry of its block, is the reference there. -/
theorem point (c : Dev nD) (hf : Fin' (Q m c) (KV m c)) (t : Fin cfg0.N) (ht : t.val < 32) (y : S1x512x1024.Idx)
    (j : S4x4096x1024.Idx) (hj0 : (j 0 : ℕ) = t.val / 8) (hj1 : (j 1 : ℕ) = t.val % 8 * 512 + y 1) (hj2 : (j 2 : ℕ) = y 2) :
    out0_9 (F := Ideal) (iblk m c 0 t) (iblk m c 1 t) (iblk m c 2 t) (iblk m c 3 t) (iblk m c 4 t) (iblk m c 5 t) (iblk m c 6 t) (iblk m c 7 t) (iblk m c 8 t) y
      = Cert.ReferenceIdeal.Read.val_main_v23 (F := Ideal) (Q m c) (KV m c) j := by
  unfold_out out0_9
  canon_tiles x h
  case piece0 =>
    idx_vars x
    obtain rfl : x0 = 0 := Subsingleton.elim _ _
    have ej : j = ix3 (⟨t.val / 8, by omega⟩ : Fin 4) (⟨t.val % 8 * 512 + x1, by omega⟩ : Fin 4096) (⟨(⟨3, by omega⟩ : Fin 4) * 256 + x2, by dsimp only; omega⟩ : Fin 1024) :=
      (eq_ix3 j).trans ((ix3_inj ..).2 ⟨Fin.ext hj0, Fin.ext (hj1.trans (congrArg _ h1)), Fin.ext (hj2.trans (h2.trans (by simp)))⟩)
    rw [ej, ← finish _ _ hf]
    refine (AttnPure.piece3 ..).trans (congrArg₂ AttnPure.entry (funext fun l => ?_) (funext fun k => ?_))
    · unfold AttnPure.score
      refine Finset.sum_congr rfl fun d _ => ?_
      refine Ideal.mul_congr ?_ (by blk_point [iblk, KV, idx t])
      pointwise
      refine (q_at m c t ht x1 _).trans ?_
      blk_point [Q]
    · blk_point [iblk, KV, idx t]
  case piece1 =>
    idx_vars x
    obtain rfl : x0 = 0 := Subsingleton.elim _ _
    have ej : j = ix3 (⟨t.val / 8, by omega⟩ : Fin 4) (⟨t.val % 8 * 512 + x1, by omega⟩ : Fin 4096) (⟨(⟨2, by omega⟩ : Fin 4) * 256 + x2, by dsimp only; omega⟩ : Fin 1024) :=
      (eq_ix3 j).trans ((ix3_inj ..).2 ⟨Fin.ext hj0, Fin.ext (hj1.trans (congrArg _ h1)), Fin.ext (hj2.trans (h2.trans (by simp)))⟩)
    rw [ej, ← finish _ _ hf]
    refine (AttnPure.piece2 ..).trans (congrArg₂ AttnPure.entry (funext fun l => ?_) (funext fun k => ?_))
    · unfold AttnPure.score
      refine Finset.sum_congr rfl fun d _ => ?_
      refine Ideal.mul_congr ?_ (by blk_point [iblk, KV, idx t])
      pointwise
      refine (q_at m c t ht x1 _).trans ?_
      blk_point [Q]
    · blk_point [iblk, KV, idx t]
  case piece2 =>
    idx_vars x
    obtain rfl : x0 = 0 := Subsingleton.elim _ _
    have ej : j = ix3 (⟨t.val / 8, by omega⟩ : Fin 4) (⟨t.val % 8 * 512 + x1, by omega⟩ : Fin 4096) (⟨(⟨1, by omega⟩ : Fin 4) * 256 + x2, by dsimp only; omega⟩ : Fin 1024) :=
      (eq_ix3 j).trans ((ix3_inj ..).2 ⟨Fin.ext hj0, Fin.ext (hj1.trans (congrArg _ h1)), Fin.ext (hj2.trans (h2.trans (by simp)))⟩)
    rw [ej, ← finish _ _ hf]
    refine (AttnPure.piece1 ..).trans (congrArg₂ AttnPure.entry (funext fun l => ?_) (funext fun k => ?_))
    · unfold AttnPure.score
      refine Finset.sum_congr rfl fun d _ => ?_
      refine Ideal.mul_congr ?_ (by blk_point [iblk, KV, idx t])
      pointwise
      refine (q_at m c t ht x1 _).trans ?_
      blk_point [Q]
    · blk_point [iblk, KV, idx t]
  case piece3 =>
    idx_vars x
    obtain rfl : x0 = 0 := Subsingleton.elim _ _
    have ej : j = ix3 (⟨t.val / 8, by omega⟩ : Fin 4) (⟨t.val % 8 * 512 + x1, by omega⟩ : Fin 4096) (⟨(⟨0, by omega⟩ : Fin 4) * 256 + x2, by dsimp only; omega⟩ : Fin 1024) :=
      (eq_ix3 j).trans ((ix3_inj ..).2 ⟨Fin.ext hj0, Fin.ext (hj1.trans (congrArg _ h1)), Fin.ext (hj2.trans (h2.trans (by simp)))⟩)
    rw [ej, ← finish _ _ hf]
    refine (AttnPure.piece0 ..).trans (congrArg₂ AttnPure.entry (funext fun l => ?_) (funext fun k => ?_))
    · unfold AttnPure.score
      refine Finset.sum_congr rfl fun d _ => ?_
      refine Ideal.mul_congr ?_ (by blk_point [iblk, KV, idx t])
      pointwise
      refine (q_at m c t ht x1 _).trans ?_
      blk_point [Q]
    · blk_point [iblk, KV, idx t]

/-- THE RESULT ARRAY of the kernel after its run is the reference's value of the launched arrays. -/
theorem final (c : Dev nD) (hf : Fin' (Q m c) (KV m c)) :
    (dats m 0 c).arrAt 9 cfg0.N = Cert.ReferenceIdeal.Read.val_main_v23 (F := Ideal) (Q m c) (KV m c) := by
  refine (dats m 0 c).arrAt_eq_of_covers 9 _ (by decide +kernel) fun t _ y => ?_
  blk_simp
  rw [after0_9]
  have ht : t.val < 32 := t.isLt
  refine point m c hf t ht y _ ?_ ?_ ?_ <;> blk_simp [idx t]

end Cert.AttnValue

end
-- ==== Proof.Finite.lean ====
/- What the claim's precondition says: every query and every key is a real number. -/
module

public import proofs.«01_k».proof.Defs
public import proofs.«01_k».proof.Proof.AttnValue
public import proofs.«01_k».proof.Proof.Softmax
public import Idealize.ShloMosaic.Lib.ReduceAll
public import Idealize.ShloMosaic.Lib.Affine
public import Idealize.ShloMosaic.Lib.Pointwise

@[expose] public section

set_option maxRecDepth 16384

noncomputable section

namespace Cert.Finite

open Idealize.ShloMosaic Cert.Pre_scores_finite

/-- The side conditions of the precondition's operations. -/
instance facts : Cert.Pre_scores_finite.Facts where
  bitsLt_bf16_f32 := by decide
  bcast_S_S4x4096x1024 := by decide
  reducesTo_S4x4096x1024_S_d0_1_2 := by decide
  h_S_ := by decide
  slices_S4x256x2048_S4x256x1024_0_0_0 := by decide
  bcast_S_S4x256x1024 := by decide
  reducesTo_S4x256x1024_S_d0_1_2 := by decide

/-- An extended real whose absolute value compares below the pattern of infinity is a real number. -/
theorem real_of_cmp (x : EReal) (h : Ideal.cmp .olt (max x (-x)) (Ideal.ofBits .f32 0x7F800000#32) = 1#1) : ∃ r : ℝ, x = r := by
  rw [Softmax.ofBits_top] at h
  refine Softmax.real_of_abs_lt x ?_
  by_contra hn
  simp [Ideal.cmp, hn] at h

/-- The precondition, read at the arrays. -/
theorem fin_of (q : FVec Ideal S4x4096x1024 .bf16) (kv : FVec Ideal S4x256x2048 .f32)
    (h : Cert.Pre_scores_finite.fn (F := Ideal) q kv = fun _ => 1#1) : AttnValue.Fin' q kv := by
  have h0 := congrFun h ix0
  dsimp only [fn, andi] at h0
  obtain ⟨ha, hb⟩ := IntOp.andi_eq_one.1 h0
  refine ⟨fun j => ?_, fun b l x => ?_⟩
  · have e := Host.reduce_andi_all _ _ _ _ _ ha j
    pointwise at e
    exact real_of_cmp _ e
  · have e := Host.reduce_andi_all _ _ _ _ _ hb (ix3 b l x)
    pointwise at e
    exact real_of_cmp _ e

end Cert.Finite

end
-- ==== Proof.Attention.lean ====
/- The cross-attention: its frames and its value claim. -/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.AttnValue
public import proofs.«01_k».proof.Proof.Finite
public import Idealize.ShloMosaic.Lib.Claim

@[expose] public section

noncomputable section

namespace Cert.Attention

open Idealize.ShloMosaic Idealize.SL.Sem

/-- The reference runs, leaves its arguments as they were and every semaphore at zero. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The reference's run from the memory of the claim's precondition. -/
theorem frame_reference_pre : Cert.quiescent_ReferenceIdeal_pre_scores_finite := fun m g _ =>
  frame_reference m g trivial

/-- THE VALUE CLAIM: at finite queries and keys the kernel's result is the reference's. -/
theorem algebraic : Cert.algebraic_KernelIdeal_ReferenceIdeal_pre_scores_finite := fun m g m' g' hpre hargs =>
  ⟨fun c => Cert.ReferenceIdeal.Read.val_main_v23 (F := Ideal) (AttnValue.Q m c) (AttnValue.KV m c),
    (θ_run Cert.KernelIdeal.defs _ _).mono
      (fun _ h c => ⟨(h c).1.trans (AttnValue.final m c (Finite.fin_of _ _ (hpre c))), (h c).2⟩)
      (Cert.KernelIdeal.Value.run_blocks m g),
    (θ_run Cert.ReferenceIdeal.defs _ _).mono
      (fun _ h c => ⟨((h c).1.trans (Cert.ReferenceIdeal.Read.val_main_v23_eq _ _)).trans
          (congrArg₂ (Cert.ReferenceIdeal.Read.val_main_v23 (F := Ideal)) (hargs c).1 (hargs c).2), (h c).2⟩)
      (Cert.ReferenceIdeal.Value.run m' g')⟩

end Cert.Attention

end
-- ==== Proof.MoeStep.lean ====
/-
  The grouped experts' feed-forward kernel, one grid point at a time: what its body leaves in the normalised-rows
  buffer, in the accumulator and in the output block, as plain functions of the blocks it is handed.
-/
module

public import proofs.«01_k».proof.Proof.Gen.Kernel2Ideal
public import proofs.«01_k».proof.Proof.Gen.Kernel2Ideal.Skeleton
public import proofs.«01_k».proof.Proof.Gen.Kernel2Ideal.Launch
public import Idealize.ShloMosaic.Lib.Pipeline.ReadBack
public import Idealize.ShloMosaic.Lib.VecWindow
public import Idealize.ShloMosaic.Lib.Pointwise

@[expose] public section

set_option maxRecDepth 16384

noncomputable section

namespace Cert.Moe

open Idealize.ShloMosaic Cert.Kernel2Ideal Cert.Kernel2Ideal.Gen

variable {F : FTy → Type} [FloatOps F]

/-- Rows `c`, `8 + c`, … of a block in which every token takes eight rows: lanes `128 c …` of each token. -/
def lanes (x : Vec F S4096x128 .f32) (c : Fin 8) : Vec F S512x128 .f32 := fun j =>
  x (ix2 (⟨8 * (j 0).val + c.val, by have h : (j 0).val < 512 := (j 0).isLt; omega⟩ : Fin 4096) (⟨(j 1).val, (j 1).isLt⟩ : Fin 128))

/-- Lanes `128 c …` of the norm's weights. -/
def part (g : Vec F S1x1024 .f32) (c : Fin 8) : Vec F S1x128 .f32 := fun j =>
  g (ix2 (0 : Fin 1) (⟨128 * c.val + (j 1).val, by have h : (j 1).val < 128 := (j 1).isLt; omega⟩ : Fin 1024))

/-- The sum of squares over the first six lane groups of each token. -/
def sum6 (x : Vec F S4096x128 .f32) : FVec F S512x1 .f32 :=
  k0_pay13 (lanes x 0) (lanes x 1) (lanes x 2) (lanes x 3) (lanes x 4) (lanes x 5)
/-- The sum of squares over the seventh lane group. -/
def sum7 (x : Vec F S4096x128 .f32) : FVec F S512x1 .f32 := k0_pay14 (lanes x 6)
/-- Each token's factor: the reciprocal root of its mean square. -/
def inv (x : Vec F S4096x128 .f32) : FVec F S512x1 .f32 := k0_pay15 (lanes x 7) (sum6 x) (sum7 x)

/-- The normalised lanes `128 c …` of each token. -/
def xnPiece (x : Vec F S4096x128 .f32) (g : Vec F S1x1024 .f32) (c : Fin 8) : FVec F S512x128 .bf16 :=
  match c with
  | ⟨0, _⟩ => k0_pay16 (lanes x 0) (lanes x 7) (sum6 x) (sum7 x) (part g 0)
  | ⟨1, _⟩ => k0_pay17 (lanes x 1) (lanes x 7) (sum6 x) (sum7 x) (part g 1)
  | ⟨2, _⟩ => k0_pay18 (lanes x 2) (lanes x 7) (sum6 x) (sum7 x) (part g 2)
  | ⟨3, _⟩ => k0_pay20 (k0_pay19 (lanes x 3) (lanes x 7) (sum6 x) (sum7 x)) (part g 3)
  | ⟨4, _⟩ => k0_pay21 (lanes x 4) (inv x) (part g 4)
  | ⟨5, _⟩ => k0_pay22 (lanes x 5) (inv x) (part g 5)
  | ⟨6, _⟩ => k0_pay23 (lanes x 6) (inv x) (part g 6)
  | ⟨7, _⟩ => k0_pay1 (k0_pay24 (lanes x 7) (inv x)) (part g 7)
  | ⟨_ + 8, h⟩ => absurd h (Nat.not_lt.2 (Nat.le_add_left _ _))

/-- The normalised rows. -/
def xnOf (x : Vec F S4096x128 .f32) (g : Vec F S1x1024 .f32) : Vec F S512x1024 .bf16 := fun y =>
  xnPiece x g ⟨(y 1).val / 128, by have h : (y 1).val < 1024 := (y 1).isLt; omega⟩
    (ix2 (⟨(y 0).val, (y 0).isLt⟩ : Fin 512) (⟨(y 1).val % 128, Nat.mod_lt _ (by decide)⟩ : Fin 128))

/-- The accumulator before any expert's contribution. -/
def zero : Vec F S512x1024 .f32 := k0_pay2

/-- The accumulator after one tile of hidden columns. -/
def step (xn : Vec F S512x1024 .bf16) (g u : Vec F S1x1024x1408 .bf16) (d : Vec F S1x1408x1024 .bf16) (acc : Vec F S512x1024 .f32) :
    Vec F S512x1024 .f32 := k0_pay3 xn g u acc d

/-- Lanes `128 c …` of the scaled accumulator. -/
def outPiece (acc : Vec F S512x1024 .f32) (sc : Vec F S512x1 .f32) (c : Fin 8) : FVec F S512x128 .f32 :=
  match c with
  | ⟨0, _⟩ => k0_pay5 acc sc
  | ⟨1, _⟩ => k0_pay6 acc sc
  | ⟨2, _⟩ => k0_pay7 acc sc
  | ⟨3, _⟩ => k0_pay8 acc sc
  | ⟨4, _⟩ => k0_pay9 acc sc
  | ⟨5, _⟩ => k0_pay10 acc sc
  | ⟨6, _⟩ => k0_pay11 acc sc
  | ⟨7, _⟩ => k0_pay12 acc sc
  | ⟨_ + 8, h⟩ => absurd h (Nat.not_lt.2 (Nat.le_add_left _ _))

/-- The output block, eight rows to a token. -/
def outOf (acc : Vec F S512x1024 .f32) (sc : Vec F S512x1 .f32) : Vec F S4096x128 .f32 := fun y =>
  outPiece acc sc ⟨(y 0).val % 8, Nat.mod_lt _ (by decide)⟩
    (ix2 (⟨(y 0).val / 8, by have h : (y 0).val < 4096 := (y 0).isLt; omega⟩ : Fin 512) (⟨(y 1).val, (y 1).isLt⟩ : Fin 128))

/-! ## What a load of a block reads -/

/-- A load of every eighth row reads a lane group. -/
theorem ld_lanes (x : Vec F S4096x128 .f32) (c : Fin 8) (o : Fin 2 → ℕ) (ho0 : o 0 = c.val) (ho1 : o 1 = 0) (h) :
    (fun j => x ((⟨o, S512x128.size, ![8, 1], h⟩ : LoadRect S4096x128).idx j)) = lanes x c := by
  funext j
  unfold lanes
  congr 1
  funext a
  refine Fin.ext ?_
  match a with
  | ⟨0, _⟩ => show o 0 + 8 * (j 0).val = 8 * (j 0).val + c.val; omega
  | ⟨1, _⟩ => show o 1 + 1 * (j 1).val = (j 1).val; omega

/-- A load of one lane group of the weights. -/
theorem ld_part (g : Vec F S1x1024 .f32) (c : Fin 8) (o : Fin 2 → ℕ) (ho0 : o 0 = 0) (ho1 : o 1 = 128 * c.val) (h) :
    (fun j => g ((Rect.unit (s := S1x1024) o S1x128.size h).toLoadRect.idx j)) = part g c := by
  funext j
  unfold part
  congr 1
  funext a
  refine Fin.ext ?_
  match a with
  | ⟨0, _⟩ =>
    have hj : (j 0).val < 1 := (j 0).isLt
    show o 0 + 1 * (j 0).val = 0; omega
  | ⟨1, _⟩ => show o 1 + 1 * (j 1).val = 128 * c.val + (j 1).val; omega

/-- The normalised rows at an index: the piece of its lane group. -/
theorem xnOf_eq (x : Vec F S4096x128 .f32) (g : Vec F S1x1024 .f32) (c : Fin 8) (j : S512x128.Idx) (y : S512x1024.Idx)
    (e0 : (y 0).val = (j 0).val) (e1 : (y 1).val = 128 * c.val + (j 1).val) : xnPiece x g c j = xnOf x g y := by
  have h1 : (j 1).val < 128 := (j 1).isLt
  refine congr (congrArg (xnPiece x g) (Fin.ext ?_)) (funext fun a => Fin.ext ?_)
  · show c.val = (y 1).val / 128; omega
  · match a with
    | ⟨0, _⟩ => exact e0.symm
    | ⟨1, _⟩ => show (j 1).val = (y 1).val % 128; omega

/-- The normalised rows at lane `128 c + l`. -/
theorem xnOf_at (x : Vec F S4096x128 .f32) (g : Vec F S1x1024 .f32) (c : Fin 8) (o : Fin 2 → ℕ) (ho0 : o 0 = 0) (ho1 : o 1 = 128 * c.val) (h)
    (j : (Rect.unit (s := S512x1024) o S512x128.size h).shape.Idx) :
    xnPiece x g c j = xnOf x g ((Rect.unit (s := S512x1024) o S512x128.size h).emb j) :=
  xnOf_eq x g c j _ (by show o 0 + 1 * (j 0).val = (j 0).val; omega) (by show o 1 + 1 * (j 1).val = 128 * c.val + (j 1).val; omega)

/-- The output block at an index: the piece of its row's remainder modulo eight. -/
theorem outOf_eq (acc : Vec F S512x1024 .f32) (sc : Vec F S512x1 .f32) (c : Fin 8) (j : S512x128.Idx) (y : S4096x128.Idx)
    (e0 : (y 0).val = 8 * (j 0).val + c.val) (e1 : (y 1).val = (j 1).val) : outPiece acc sc c j = outOf acc sc y := by
  refine congr (congrArg (outPiece acc sc) (Fin.ext ?_)) (funext fun a => Fin.ext ?_)
  · show c.val = (y 0).val % 8; omega
  · match a with
    | ⟨0, _⟩ => show (j 0).val = (y 0).val / 8; omega
    | ⟨1, _⟩ => exact e1.symm

/-- The output block at row `8 r + c`. -/
theorem outOf_at (acc : Vec F S512x1024 .f32) (sc : Vec F S512x1 .f32) (c : Fin 8) (o : Fin 2 → ℕ) (ho0 : o 0 = c.val) (ho1 : o 1 = 0) (h) (hs)
    (j : (⟨(⟨o, S512x128.size, ![8, 1], h⟩ : LoadRect S4096x128), hs⟩ : Rect S4096x128).shape.Idx) :
    outPiece acc sc c j = outOf acc sc ((⟨(⟨o, S512x128.size, ![8, 1], h⟩ : LoadRect S4096x128), hs⟩ : Rect S4096x128).emb j) :=
  outOf_eq acc sc c j _ (by show o 0 + 8 * (j 0).val = _; omega) (by show o 1 + 1 * (j 1).val = _; omega)

/-- Every row of the output block is in the piece of its remainder modulo eight. -/
theorem mem_rows (c : Fin 8) (o : Fin 2 → ℕ) (ho0 : o 0 = c.val) (ho1 : o 1 = 0) (h) (hs) (y : S4096x128.Idx) (hy : (y 0).val % 8 = c.val) :
    y ∈ (⟨(⟨o, S512x128.size, ![8, 1], h⟩ : LoadRect S4096x128), hs⟩ : Rect S4096x128).set := by
  have h0 : (y 0).val < 4096 := (y 0).isLt
  have h1 : (y 1).val < 128 := (y 1).isLt
  refine (LoadRect.mem_set (r := (⟨o, S512x128.size, ![8, 1], h⟩ : LoadRect S4096x128))).mpr fun a => ?_
  match a with
  | ⟨0, _⟩ => exact ⟨(y 0).val / 8, (by omega : (y 0).val / 8 < 512), (by omega : (y 0).val = o 0 + 8 * ((y 0).val / 8))⟩
  | ⟨1, _⟩ => exact ⟨(y 1).val, h1, (by omega : (y 1).val = o 1 + 1 * (y 1).val)⟩

end Cert.Moe

end
-- ==== Proof.MoeRun.lean ====
/-
  The grouped experts' feed-forward kernel's body, run on any staging buffers: at the first column block of a tile it
  fills the normalised rows and starts the accumulator, at the second it adds to the accumulator and stores the block.
-/
module

public import proofs.«01_k».proof.Proof.MoeStep
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

/-- The table of experts, and the table of flags. -/
abbrev tbE : Memref sig .tc .smem S72 .i32 := Memref.whole main_arg4
abbrev tbV : Memref sig .tc .smem S72 .i32 := Memref.whole main_arg5
abbrev TbBuf (c : Dev nD) (M : Memref sig .tc .smem S72 .i32) : Type := Buf (Elt F) (M.view.loc (c : Thread nD τ))
/-- A table, held at half a share. -/
abbrev tbPt (c : Dev nD) (M : Memref sig .tc .smem S72 .i32) (f : TbBuf (F := F) c M) : sProp 𝕄 :=
  M.view.loc (c : Thread nD τ) ↦{fullShare.right} f

/-- The flag the body reads at a grid point. -/
abbrev flagOf (c : Dev nD) (i : grid0.Coords) (f : TbBuf (F := F) c tbV) : BitVec 32 :=
  tbV.view.readAt (Elt F) (Rect.unit (s := S72) (k0_off1 i) S1.size (k0_off1_inb i)).toLoadRect f (Shape.Idx.first (numel1_S1.symm ▸ Nat.one_pos))

/-- The first branch: the first column block of a tile. -/
abbrev isFirst (i : grid0.Coords) : Prop := (Scalar.cmpi .ne (Scalar.extui (Scalar.cmpi .eq (BitVec.ofNat 32 (i 1).val) 0#32)) 0#32) = 1#1
/-- The second branch: the flag is not zero. -/
abbrev isOn (v : BitVec 32) : Prop := (Scalar.cmpi .ne (Scalar.extui (Scalar.cmpi .ne v 0#32)) 0#32) = 1#1
/-- The third branch: the last column block of a tile. -/
abbrev isLast (i : grid0.Coords) : Prop := k0_cond3 i = 1#1

/-! ## What the loads and the stores of the body amount to -/

/-- A load of every eighth row of a buffer known by its contents. -/
theorem load_lanes (M : Memref sig .tc .vmem S4096x128 .f32) (hM : M.IsWhole) (x : Vec F S4096x128 .f32) (c : Fin 8) (o : Fin 2 → ℕ)
    (ho0 : o 0 = c.val) (ho1 : o 1 = 0) (h) :
    M.view.readAt (Elt F) (⟨o, S512x128.size, ![8, 1], h⟩ : LoadRect S4096x128) (hM.unread x) = lanes x c :=
  (funext fun j => congrFun (hM.read_unread x) _).trans (ld_lanes x c o ho0 ho1 h)

/-- A load of one lane group of the norm's weights. -/
theorem load_part (M : Memref sig .tc .vmem S1x1024 .f32) (hM : M.IsWhole) (g : Vec F S1x1024 .f32) (c : Fin 8) (o : Fin 2 → ℕ)
    (ho0 : o 0 = 0) (ho1 : o 1 = 128 * c.val) (h) :
    M.view.readAt (Elt F) (Rect.unit (s := S1x1024) o S1x128.size h).toLoadRect (hM.unread g) = part g c :=
  (funext fun j => congrFun (hM.read_unread g) _).trans (ld_part g c o ho0 ho1 h)

/-- A load of a whole buffer known by its contents. -/
theorem load_whole {S : Shape} {e : EltTy} (M : Memref sig .tc .vmem S e) (hM : M.IsWhole) (x : Vec F S e) (o : Fin S.rank → ℕ)
    (h : ∀ a, o a + S.size a ≤ S.size a) :
    M.view.readAt (Elt F) (Rect.unit (s := S) o S.size h).toLoadRect (hM.unread x) = x :=
  funext fun j => (congrFun (hM.read_unread x) _).trans (congrArg x (Rect.emb_unit_full h j))

/-- The eight stores of the normalised rows, the last first. -/
def xnList (x : Vec F S4096x128 .f32) (g : Vec F S1x1024 .f32) : List (View.Piece (Elt F) S512x1024 .bf16) :=
  [⟨Rect.unit (s := S512x1024) ![0, 896] S512x128.size inb_S512x1024_S512x128_0_896, xnPiece x g 7⟩,
   ⟨Rect.unit (s := S512x1024) ![0, 768] S512x128.size inb_S512x1024_S512x128_0_768, xnPiece x g 6⟩,
   ⟨Rect.unit (s := S512x1024) ![0, 640] S512x128.size inb_S512x1024_S512x128_0_640, xnPiece x g 5⟩,
   ⟨Rect.unit (s := S512x1024) ![0, 512] S512x128.size inb_S512x1024_S512x128_0_512, xnPiece x g 4⟩,
   ⟨Rect.unit (s := S512x1024) ![0, 384] S512x128.size inb_S512x1024_S512x128_0_384, xnPiece x g 3⟩,
   ⟨Rect.unit (s := S512x1024) ![0, 256] S512x128.size inb_S512x1024_S512x128_0_256, xnPiece x g 2⟩,
   ⟨Rect.unit (s := S512x1024) ![0, 128] S512x128.size inb_S512x1024_S512x128_0_128, xnPiece x g 1⟩,
   ⟨Rect.unit (s := S512x1024) ![0, 0] S512x128.size inb_S512x1024_S512x128_0_0, xnPiece x g 0⟩]

/-- Together they leave the normalised rows. -/
theorem read_xn (v : View sig .tc .vmem S512x1024 .bf16) (f : v.ty.Contents (Elt F)) (x : Vec F S4096x128 .f32) (g : Vec F S1x1024 .f32) :
    v.read (Elt F) (v.writes (Elt F) f (xnList x g)) = xnOf x g := by
  funext y
  refine View.read_writes_apply_of_pieces v f (xnOf x g) _ (View.PiecesOf.mem ?_) y ?_
  · exact ⟨xnOf_at x g 7 _ rfl rfl inb_S512x1024_S512x128_0_896, xnOf_at x g 6 _ rfl rfl inb_S512x1024_S512x128_0_768, xnOf_at x g 5 _ rfl rfl inb_S512x1024_S512x128_0_640, xnOf_at x g 4 _ rfl rfl inb_S512x1024_S512x128_0_512, xnOf_at x g 3 _ rfl rfl inb_S512x1024_S512x128_0_384,
      xnOf_at x g 2 _ rfl rfl inb_S512x1024_S512x128_0_256, xnOf_at x g 1 _ rfl rfl inb_S512x1024_S512x128_0_128, xnOf_at x g 0 _ rfl rfl inb_S512x1024_S512x128_0_0, trivial⟩
  · exact View.cover_of_tiledL (xnList x g) S512x128.size (by sl_kernel_rfl) y

/-- A load of them all. -/
theorem cov_xn (v : View sig .tc .vmem S512x1024 .bf16) (x : Vec F S4096x128 .f32) (g : Vec F S1x1024 .f32) (h) :
    v.readCov (xnList x g) (Rect.unit (s := S512x1024) ![0, 0] S512x1024.size h).toLoadRect = xnOf x g :=
  funext fun j => (congrFun (read_xn v v.junk x g) _).trans (congrArg (xnOf x g) (Rect.emb_unit_full h j))

/-- The eight stores of the output block, the last first. -/
def outList (acc : Vec F S512x1024 .f32) (sc : Vec F S512x1 .f32) : List (View.Piece (Elt F) S4096x128 .f32) :=
  [⟨⟨(⟨![7, 0], S512x128.size, ![8, 1], inb_S4096x128_S512x128_7_0_s_8_1⟩ : LoadRect S4096x128), spos_8_1⟩, outPiece acc sc 7⟩,
   ⟨⟨(⟨![6, 0], S512x128.size, ![8, 1], inb_S4096x128_S512x128_6_0_s_8_1⟩ : LoadRect S4096x128), spos_8_1⟩, outPiece acc sc 6⟩,
   ⟨⟨(⟨![5, 0], S512x128.size, ![8, 1], inb_S4096x128_S512x128_5_0_s_8_1⟩ : LoadRect S4096x128), spos_8_1⟩, outPiece acc sc 5⟩,
   ⟨⟨(⟨![4, 0], S512x128.size, ![8, 1], inb_S4096x128_S512x128_4_0_s_8_1⟩ : LoadRect S4096x128), spos_8_1⟩, outPiece acc sc 4⟩,
   ⟨⟨(⟨![3, 0], S512x128.size, ![8, 1], inb_S4096x128_S512x128_3_0_s_8_1⟩ : LoadRect S4096x128), spos_8_1⟩, outPiece acc sc 3⟩,
   ⟨⟨(⟨![2, 0], S512x128.size, ![8, 1], inb_S4096x128_S512x128_2_0_s_8_1⟩ : LoadRect S4096x128), spos_8_1⟩, outPiece acc sc 2⟩,
   ⟨⟨(⟨![1, 0], S512x128.size, ![8, 1], inb_S4096x128_S512x128_1_0_s_8_1⟩ : LoadRect S4096x128), spos_8_1⟩, outPiece acc sc 1⟩,
   ⟨⟨(⟨![0, 0], S512x128.size, ![8, 1], inb_S4096x128_S512x128_0_0_s_8_1⟩ : LoadRect S4096x128), spos_8_1⟩, outPiece acc sc 0⟩]

/-- Together they leave the output block: row `8 r + c` is in the store of remainder `c`. -/
theorem read_out (v : View sig .tc .vmem S4096x128 .f32) (f : v.ty.Contents (Elt F)) (acc : Vec F S512x1024 .f32) (sc : Vec F S512x1 .f32) :
    v.read (Elt F) (v.writes (Elt F) f (outList acc sc)) = outOf acc sc := by
  funext y
  refine View.read_writes_apply_of_pieces v f (outOf acc sc) _ (View.PiecesOf.mem ?_) y ?_
  · exact ⟨outOf_at acc sc 7 _ rfl rfl inb_S4096x128_S512x128_7_0_s_8_1 spos_8_1, outOf_at acc sc 6 _ rfl rfl inb_S4096x128_S512x128_6_0_s_8_1 spos_8_1, outOf_at acc sc 5 _ rfl rfl inb_S4096x128_S512x128_5_0_s_8_1 spos_8_1, outOf_at acc sc 4 _ rfl rfl inb_S4096x128_S512x128_4_0_s_8_1 spos_8_1,
      outOf_at acc sc 3 _ rfl rfl inb_S4096x128_S512x128_3_0_s_8_1 spos_8_1, outOf_at acc sc 2 _ rfl rfl inb_S4096x128_S512x128_2_0_s_8_1 spos_8_1, outOf_at acc sc 1 _ rfl rfl inb_S4096x128_S512x128_1_0_s_8_1 spos_8_1, outOf_at acc sc 0 _ rfl rfl inb_S4096x128_S512x128_0_0_s_8_1 spos_8_1, trivial⟩
  · have hy : (y 0).val % 8 < 8 := Nat.mod_lt _ (by decide)
    unfold outList
    rcases (by omega : (y 0).val % 8 = 7 ∨ (y 0).val % 8 = 6 ∨ (y 0).val % 8 = 5 ∨ (y 0).val % 8 = 4 ∨ (y 0).val % 8 = 3 ∨ (y 0).val % 8 = 2
        ∨ (y 0).val % 8 = 1 ∨ (y 0).val % 8 = 0) with e | e | e | e | e | e | e | e
    · exact ⟨_, List.mem_cons_self, mem_rows 7 _ rfl rfl _ _ y e⟩
    · exact ⟨_, List.mem_cons_of_mem _ List.mem_cons_self, mem_rows 6 _ rfl rfl _ _ y e⟩
    · exact ⟨_, List.mem_cons_of_mem _ (List.mem_cons_of_mem _ List.mem_cons_self), mem_rows 5 _ rfl rfl _ _ y e⟩
    · exact ⟨_, List.mem_cons_of_mem _ (List.mem_cons_of_mem _ (List.mem_cons_of_mem _ List.mem_cons_self)), mem_rows 4 _ rfl rfl _ _ y e⟩
    · exact ⟨_, List.mem_cons_of_mem _ (List.mem_cons_of_mem _ (List.mem_cons_of_mem _ (List.mem_cons_of_mem _ List.mem_cons_self))), mem_rows 3 _ rfl rfl _ _ y e⟩
    · exact ⟨_, List.mem_cons_of_mem _ (List.mem_cons_of_mem _ (List.mem_cons_of_mem _ (List.mem_cons_of_mem _ (List.mem_cons_of_mem _ List.mem_cons_self)))), mem_rows 2 _ rfl rfl _ _ y e⟩
    · exact ⟨_, List.mem_cons_of_mem _ (List.mem_cons_of_mem _ (List.mem_cons_of_mem _ (List.mem_cons_of_mem _ (List.mem_cons_of_mem _ (List.mem_cons_of_mem _ List.mem_cons_self))))), mem_rows 1 _ rfl rfl _ _ y e⟩
    · exact ⟨_, List.mem_cons_of_mem _ (List.mem_cons_of_mem _ (List.mem_cons_of_mem _ (List.mem_cons_of_mem _ (List.mem_cons_of_mem _ (List.mem_cons_of_mem _ (List.mem_cons_of_mem _ List.mem_cons_self)))))), mem_rows 0 _ rfl rfl _ _ y e⟩

/-- The accumulator's step, from what its loads read. -/
theorem step_congr {xn xn' : Vec F S512x1024 .bf16} {g g' u u' : Vec F S1x1024x1408 .bf16} {d d' : Vec F S1x1408x1024 .bf16} {a a' : Vec F S512x1024 .f32}
    (h1 : xn = xn') (h2 : g = g') (h3 : u = u') (h4 : a = a') (h5 : d = d') : k0_pay3 xn g u a d = step xn' g' u' d' a' := by
  subst h1; subst h2; subst h3; subst h4; subst h5; rfl

set_option maxHeartbeats 4000000 in
/-- A first column block with its flag set: the normalised rows are filled, the accumulator has this block's contribution. -/
theorem run_first_on (c : Dev nD) (i : grid0.Coords) (arg4 : Memref sig .tc .vmem S4096x128 .f32) (harg4 : arg4.IsWhole) (arg5 : Memref sig .tc .vmem S1x1024 .f32) (harg5 : arg5.IsWhole)
    (arg6 : Memref sig .tc .vmem S1x1024x1408 .bf16) (harg6 : arg6.IsWhole) (arg7 : Memref sig .tc .vmem S1x1024x1408 .bf16) (harg7 : arg7.IsWhole)
    (arg8 : Memref sig .tc .vmem S1x1408x1024 .bf16) (harg8 : arg8.IsWhole) (arg9 : Memref sig .tc .vmem S512x1 .f32) (harg9 : arg9.IsWhole)
    (arg10 : Memref sig .tc .vmem S4096x128 .f32) (harg10 : arg10.IsWhole) (arg11 : Memref sig .tc .vmem S512x1024 .bf16) (harg11 : arg11.IsWhole)
    (arg12 : Memref sig .tc .vmem S512x1024 .f32) (harg12 : arg12.IsWhole)
    (x0 : Vec F S4096x128 .f32) (x1 : Vec F S1x1024 .f32) (x2 x3 : Vec F S1x1024x1408 .bf16) (x4 : Vec F S1x1408x1024 .bf16) (x5 : Vec F S512x1 .f32)
    (xt0 : TbBuf (F := F) c tbE) (xt1 : TbBuf (F := F) c tbV)
    (x6 : Vec F S4096x128 .f32) (hf : isFirst i) (hn : ¬isLast i) (ho : isOn (flagOf c i xt1)) (E : Set ℕ) (K : PUnit → sProp 𝕄) :
    iprop(owns (c : Thread nD τ) arg4 fullShare x0 ∗ owns (c : Thread nD τ) arg5 fullShare x1 ∗ owns (c : Thread nD τ) arg6 fullShare x2
      ∗ owns (c : Thread nD τ) arg7 fullShare x3 ∗ owns (c : Thread nD τ) arg8 fullShare x4 ∗ owns (c : Thread nD τ) arg9 fullShare x5
      ∗ owns (c : Thread nD τ) arg10 fullShare x6 ∗ (∃ d, owns (c : Thread nD τ) arg11 fullShare d) ∗ (∃ d, owns (c : Thread nD τ) arg12 fullShare d)
      ∗ tbPt c tbE xt0 ∗ tbPt c tbV xt1
      ∗ (iprop(owns (c : Thread nD τ) arg4 fullShare x0 ∗ owns (c : Thread nD τ) arg5 fullShare x1 ∗ owns (c : Thread nD τ) arg6 fullShare x2
      ∗ owns (c : Thread nD τ) arg7 fullShare x3 ∗ owns (c : Thread nD τ) arg8 fullShare x4 ∗ owns (c : Thread nD τ) arg9 fullShare x5
        ∗ owns (c : Thread nD τ) arg10 fullShare x6 ∗ owns (c : Thread nD τ) arg11 fullShare (xnOf x0 x1)
        ∗ owns (c : Thread nD τ) arg12 fullShare (step (xnOf x0 x1) x2 x3 x4 zero)
        ∗ tbPt c tbE xt0 ∗ tbPt c tbV xt1) -∗ K ⟨⟩))
    ⊢ wp frame (wpE (defs₀ (F := F)) Variants.none c none) E
        (cc0_ffn_grouped i tbE (Memref.isWhole_whole _) tbV (Memref.isWhole_whole _) arg4 harg4 arg5 harg5 arg6 harg6 arg7 harg7 arg8 harg8 arg9 harg9 arg10 harg10 arg11 harg11 arg12 harg12) K := by
  simp only [cc0_ffn_grouped_eq_skeleton]; unfold cc0_ffn_grouped_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, HT0, HT1, Hk⟩
  obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hf6
  sl_exec (disch := first | sl_exact hf | sl_exact ho | sl_exact hn)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; · ipureintro; exact harg8.read_unread _
    iexact H4
  isplitl [H5]
  · iexists _; isplitr; · ipureintro; exact harg9.read_unread _
    iexact H5
  isplitl [H6]
  · iexists _; isplitr; · ipureintro; exact harg10.read_unread _
    iexact H6
  isplitl [HS0]
  · iexists _; isplitr
    swap; · iexact HS0
    ipureintro
    sl_unfold_run_names
    rw [load_lanes arg4 harg4 x0 0 ![0, 0] rfl rfl, load_lanes arg4 harg4 x0 1 ![1, 0] rfl rfl, load_lanes arg4 harg4 x0 2 ![2, 0] rfl rfl, load_lanes arg4 harg4 x0 3 ![3, 0] rfl rfl, load_lanes arg4 harg4 x0 4 ![4, 0] rfl rfl, load_lanes arg4 harg4 x0 5 ![5, 0] rfl rfl, load_lanes arg4 harg4 x0 6 ![6, 0] rfl rfl, load_lanes arg4 harg4 x0 7 ![7, 0] rfl rfl,
      load_part arg5 harg5 x1 0 ![0, 0] rfl rfl, load_part arg5 harg5 x1 1 ![0, 128] rfl rfl, load_part arg5 harg5 x1 2 ![0, 256] rfl rfl, load_part arg5 harg5 x1 3 ![0, 384] rfl rfl, load_part arg5 harg5 x1 4 ![0, 512] rfl rfl, load_part arg5 harg5 x1 5 ![0, 640] rfl rfl, load_part arg5 harg5 x1 6 ![0, 768] rfl rfl, load_part arg5 harg5 x1 7 ![0, 896] rfl rfl]
    exact read_xn _ _ x0 x1
  isplitl [HS1]
  · iexists _; isplitr
    swap; · iexact HS1
    ipureintro
    sl_unfold_run_names
    rw [load_lanes arg4 harg4 x0 0 ![0, 0] rfl rfl, load_lanes arg4 harg4 x0 1 ![1, 0] rfl rfl, load_lanes arg4 harg4 x0 2 ![2, 0] rfl rfl, load_lanes arg4 harg4 x0 3 ![3, 0] rfl rfl, load_lanes arg4 harg4 x0 4 ![4, 0] rfl rfl, load_lanes arg4 harg4 x0 5 ![5, 0] rfl rfl, load_lanes arg4 harg4 x0 6 ![6, 0] rfl rfl, load_lanes arg4 harg4 x0 7 ![7, 0] rfl rfl,
      load_part arg5 harg5 x1 0 ![0, 0] rfl rfl, load_part arg5 harg5 x1 1 ![0, 128] rfl rfl, load_part arg5 harg5 x1 2 ![0, 256] rfl rfl, load_part arg5 harg5 x1 3 ![0, 384] rfl rfl, load_part arg5 harg5 x1 4 ![0, 512] rfl rfl, load_part arg5 harg5 x1 5 ![0, 640] rfl rfl, load_part arg5 harg5 x1 6 ![0, 768] rfl rfl, load_part arg5 harg5 x1 7 ![0, 896] rfl rfl]
    exact (View.read_writes_full _ _ _ _ _).trans (step_congr (cov_xn _ x0 x1 _) (load_whole arg6 harg6 x2 _ _) (load_whole arg7 harg7 x3 _ _)
      (View.readCov_full _ _ _ _ _) (load_whole arg8 harg8 x4 _ _))
  isplitl [HT0]; · iexact HT0
  iexact HT1

set_option maxHeartbeats 4000000 in
/-- A first column block with its flag not set: the normalised rows are filled, the accumulator is zero. -/
theorem run_first_off (c : Dev nD) (i : grid0.Coords) (arg4 : Memref sig .tc .vmem S4096x128 .f32) (harg4 : arg4.IsWhole) (arg5 : Memref sig .tc .vmem S1x1024 .f32) (harg5 : arg5.IsWhole)
    (arg6 : Memref sig .tc .vmem S1x1024x1408 .bf16) (harg6 : arg6.IsWhole) (arg7 : Memref sig .tc .vmem S1x1024x1408 .bf16) (harg7 : arg7.IsWhole)
    (arg8 : Memref sig .tc .vmem S1x1408x1024 .bf16) (harg8 : arg8.IsWhole) (arg9 : Memref sig .tc .vmem S512x1 .f32) (harg9 : arg9.IsWhole)
    (arg10 : Memref sig .tc .vmem S4096x128 .f32) (harg10 : arg10.IsWhole) (arg11 : Memref sig .tc .vmem S512x1024 .bf16) (harg11 : arg11.IsWhole)
    (arg12 : Memref sig .tc .vmem S512x1024 .f32) (harg12 : arg12.IsWhole)
    (x0 : Vec F S4096x128 .f32) (x1 : Vec F S1x1024 .f32) (x2 x3 : Vec F S1x1024x1408 .bf16) (x4 : Vec F S1x1408x1024 .bf16) (x5 : Vec F S512x1 .f32)
    (xt0 : TbBuf (F := F) c tbE) (xt1 : TbBuf (F := F) c tbV)
    (x6 : Vec F S4096x128 .f32) (hf : isFirst i) (hn : ¬isLast i) (ho : ¬isOn (flagOf c i xt1)) (E : Set ℕ) (K : PUnit → sProp 𝕄) :
    iprop(owns (c : Thread nD τ) arg4 fullShare x0 ∗ owns (c : Thread nD τ) arg5 fullShare x1 ∗ owns (c : Thread nD τ) arg6 fullShare x2
      ∗ owns (c : Thread nD τ) arg7 fullShare x3 ∗ owns (c : Thread nD τ) arg8 fullShare x4 ∗ owns (c : Thread nD τ) arg9 fullShare x5
      ∗ owns (c : Thread nD τ) arg10 fullShare x6 ∗ (∃ d, owns (c : Thread nD τ) arg11 fullShare d) ∗ (∃ d, owns (c : Thread nD τ) arg12 fullShare d)
      ∗ tbPt c tbE xt0 ∗ tbPt c tbV xt1
      ∗ (iprop(owns (c : Thread nD τ) arg4 fullShare x0 ∗ owns (c : Thread nD τ) arg5 fullShare x1 ∗ owns (c : Thread nD τ) arg6 fullShare x2
      ∗ owns (c : Thread nD τ) arg7 fullShare x3 ∗ owns (c : Thread nD τ) arg8 fullShare x4 ∗ owns (c : Thread nD τ) arg9 fullShare x5
        ∗ owns (c : Thread nD τ) arg10 fullShare x6 ∗ owns (c : Thread nD τ) arg11 fullShare (xnOf x0 x1)
        ∗ owns (c : Thread nD τ) arg12 fullShare zero
        ∗ tbPt c tbE xt0 ∗ tbPt c tbV xt1) -∗ K ⟨⟩))
    ⊢ wp frame (wpE (defs₀ (F := F)) Variants.none c none) E
        (cc0_ffn_grouped i tbE (Memref.isWhole_whole _) tbV (Memref.isWhole_whole _) arg4 harg4 arg5 harg5 arg6 harg6 arg7 harg7 arg8 harg8 arg9 harg9 arg10 harg10 arg11 harg11 arg12 harg12) K := by
  simp only [cc0_ffn_grouped_eq_skeleton]; unfold cc0_ffn_grouped_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, HT0, HT1, Hk⟩
  obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hf6
  sl_exec (disch := first | sl_exact hf | sl_exact ho | sl_exact hn)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; · ipureintro; exact harg8.read_unread _
    iexact H4
  isplitl [H5]
  · iexists _; isplitr; · ipureintro; exact harg9.read_unread _
    iexact H5
  isplitl [H6]
  · iexists _; isplitr; · ipureintro; exact harg10.read_unread _
    iexact H6
  isplitl [HS0]
  · iexists _; isplitr
    swap; · iexact HS0
    ipureintro
    sl_unfold_run_names
    rw [load_lanes arg4 harg4 x0 0 ![0, 0] rfl rfl, load_lanes arg4 harg4 x0 1 ![1, 0] rfl rfl, load_lanes arg4 harg4 x0 2 ![2, 0] rfl rfl, load_lanes arg4 harg4 x0 3 ![3, 0] rfl rfl, load_lanes arg4 harg4 x0 4 ![4, 0] rfl rfl, load_lanes arg4 harg4 x0 5 ![5, 0] rfl rfl, load_lanes arg4 harg4 x0 6 ![6, 0] rfl rfl, load_lanes arg4 harg4 x0 7 ![7, 0] rfl rfl,
      load_part arg5 harg5 x1 0 ![0, 0] rfl rfl, load_part arg5 harg5 x1 1 ![0, 128] rfl rfl, load_part arg5 harg5 x1 2 ![0, 256] rfl rfl, load_part arg5 harg5 x1 3 ![0, 384] rfl rfl, load_part arg5 harg5 x1 4 ![0, 512] rfl rfl, load_part arg5 harg5 x1 5 ![0, 640] rfl rfl, load_part arg5 harg5 x1 6 ![0, 768] rfl rfl, load_part arg5 harg5 x1 7 ![0, 896] rfl rfl]
    exact read_xn _ _ x0 x1
  isplitl [HS1]
  · iexists _; isplitr
    swap; · iexact HS1
    ipureintro
    sl_unfold_run_names
    exact View.read_writes_full _ _ _ _ _
  isplitl [HT0]; · iexact HT0
  iexact HT1

set_option maxHeartbeats 4000000 in
/-- A last column block with its flag set: its contribution is added, and the scaled accumulator is stored. -/
theorem run_last_on (c : Dev nD) (i : grid0.Coords) (arg4 : Memref sig .tc .vmem S4096x128 .f32) (harg4 : arg4.IsWhole) (arg5 : Memref sig .tc .vmem S1x1024 .f32) (harg5 : arg5.IsWhole)
    (arg6 : Memref sig .tc .vmem S1x1024x1408 .bf16) (harg6 : arg6.IsWhole) (arg7 : Memref sig .tc .vmem S1x1024x1408 .bf16) (harg7 : arg7.IsWhole)
    (arg8 : Memref sig .tc .vmem S1x1408x1024 .bf16) (harg8 : arg8.IsWhole) (arg9 : Memref sig .tc .vmem S512x1 .f32) (harg9 : arg9.IsWhole)
    (arg10 : Memref sig .tc .vmem S4096x128 .f32) (harg10 : arg10.IsWhole) (arg11 : Memref sig .tc .vmem S512x1024 .bf16) (harg11 : arg11.IsWhole)
    (arg12 : Memref sig .tc .vmem S512x1024 .f32) (harg12 : arg12.IsWhole)
    (x0 : Vec F S4096x128 .f32) (x1 : Vec F S1x1024 .f32) (x2 x3 : Vec F S1x1024x1408 .bf16) (x4 : Vec F S1x1408x1024 .bf16) (x5 : Vec F S512x1 .f32)
    (xt0 : TbBuf (F := F) c tbE) (xt1 : TbBuf (F := F) c tbV)
    (xn : Vec F S512x1024 .bf16) (acc : Vec F S512x1024 .f32) (hf : ¬isFirst i) (hn : isLast i) (ho : isOn (flagOf c i xt1)) (E : Set ℕ) (K : PUnit → sProp 𝕄) :
    iprop(owns (c : Thread nD τ) arg4 fullShare x0 ∗ owns (c : Thread nD τ) arg5 fullShare x1 ∗ owns (c : Thread nD τ) arg6 fullShare x2
      ∗ owns (c : Thread nD τ) arg7 fullShare x3 ∗ owns (c : Thread nD τ) arg8 fullShare x4 ∗ owns (c : Thread nD τ) arg9 fullShare x5
      ∗ (∃ d, owns (c : Thread nD τ) arg10 fullShare d) ∗ owns (c : Thread nD τ) arg11 fullShare xn ∗ owns (c : Thread nD τ) arg12 fullShare acc
      ∗ tbPt c tbE xt0 ∗ tbPt c tbV xt1
      ∗ (iprop(owns (c : Thread nD τ) arg4 fullShare x0 ∗ owns (c : Thread nD τ) arg5 fullShare x1 ∗ owns (c : Thread nD τ) arg6 fullShare x2
      ∗ owns (c : Thread nD τ) arg7 fullShare x3 ∗ owns (c : Thread nD τ) arg8 fullShare x4 ∗ owns (c : Thread nD τ) arg9 fullShare x5
        ∗ owns (c : Thread nD τ) arg10 fullShare (outOf (step xn x2 x3 x4 acc) x5) ∗ owns (c : Thread nD τ) arg11 fullShare xn
        ∗ owns (c : Thread nD τ) arg12 fullShare (step xn x2 x3 x4 acc)
        ∗ tbPt c tbE xt0 ∗ tbPt c tbV xt1) -∗ K ⟨⟩))
    ⊢ wp frame (wpE (defs₀ (F := F)) Variants.none c none) E
        (cc0_ffn_grouped i tbE (Memref.isWhole_whole _) tbV (Memref.isWhole_whole _) arg4 harg4 arg5 harg5 arg6 harg6 arg7 harg7 arg8 harg8 arg9 harg9 arg10 harg10 arg11 harg11 arg12 harg12) K := by
  simp only [cc0_ffn_grouped_eq_skeleton]; unfold cc0_ffn_grouped_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, HS0⟩, ⟨%f8, %hf8, HS1⟩, HT0, HT1, Hk⟩
  obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg11.eq_unread hf7; obtain rfl := harg12.eq_unread hf8
  sl_exec (disch := first | sl_exact hf | sl_exact ho | sl_exact hn)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; · ipureintro; exact harg8.read_unread _
    iexact H4
  isplitl [H5]
  · iexists _; isplitr; · ipureintro; exact harg9.read_unread _
    iexact H5
  isplitl [H6]
  · iexists _; isplitr
    swap; · iexact H6
    ipureintro
    sl_unfold_run_names
    rw [View.readCov_full, load_whole arg9 harg9 x5 ![0, 0], load_whole arg11 harg11 xn ![0, 0], load_whole arg6 harg6 x2 ![0, 0, 0],
      load_whole arg7 harg7 x3 ![0, 0, 0], load_whole arg12 harg12 acc ![0, 0], load_whole arg8 harg8 x4 ![0, 0, 0]]
    exact read_out _ _ (step xn x2 x3 x4 acc) x5
  isplitl [HS0]
  · iexists _; isplitr; · ipureintro; exact harg11.read_unread _
    iexact HS0
  isplitl [HS1]
  · iexists _; isplitr
    swap; · iexact HS1
    ipureintro
    sl_unfold_run_names
    exact (View.read_writes_full _ _ _ _ _).trans (step_congr (load_whole arg11 harg11 xn _ _) (load_whole arg6 harg6 x2 _ _) (load_whole arg7 harg7 x3 _ _)
      (load_whole arg12 harg12 acc _ _) (load_whole arg8 harg8 x4 _ _))
  isplitl [HT0]; · iexact HT0
  iexact HT1

set_option maxHeartbeats 4000000 in
/-- A last column block with its flag not set, and the scaled accumulator is stored. -/
theorem run_last_off (c : Dev nD) (i : grid0.Coords) (arg4 : Memref sig .tc .vmem S4096x128 .f32) (harg4 : arg4.IsWhole) (arg5 : Memref sig .tc .vmem S1x1024 .f32) (harg5 : arg5.IsWhole)
    (arg6 : Memref sig .tc .vmem S1x1024x1408 .bf16) (harg6 : arg6.IsWhole) (arg7 : Memref sig .tc .vmem S1x1024x1408 .bf16) (harg7 : arg7.IsWhole)
    (arg8 : Memref sig .tc .vmem S1x1408x1024 .bf16) (harg8 : arg8.IsWhole) (arg9 : Memref sig .tc .vmem S512x1 .f32) (harg9 : arg9.IsWhole)
    (arg10 : Memref sig .tc .vmem S4096x128 .f32) (harg10 : arg10.IsWhole) (arg11 : Memref sig .tc .vmem S512x1024 .bf16) (harg11 : arg11.IsWhole)
    (arg12 : Memref sig .tc .vmem S512x1024 .f32) (harg12 : arg12.IsWhole)
    (x0 : Vec F S4096x128 .f32) (x1 : Vec F S1x1024 .f32) (x2 x3 : Vec F S1x1024x1408 .bf16) (x4 : Vec F S1x1408x1024 .bf16) (x5 : Vec F S512x1 .f32)
    (xt0 : TbBuf (F := F) c tbE) (xt1 : TbBuf (F := F) c tbV)
    (xn : Vec F S512x1024 .bf16) (acc : Vec F S512x1024 .f32) (hf : ¬isFirst i) (hn : isLast i) (ho : ¬isOn (flagOf c i xt1)) (E : Set ℕ) (K : PUnit → sProp 𝕄) :
    iprop(owns (c : Thread nD τ) arg4 fullShare x0 ∗ owns (c : Thread nD τ) arg5 fullShare x1 ∗ owns (c : Thread nD τ) arg6 fullShare x2
      ∗ owns (c : Thread nD τ) arg7 fullShare x3 ∗ owns (c : Thread nD τ) arg8 fullShare x4 ∗ owns (c : Thread nD τ) arg9 fullShare x5
      ∗ (∃ d, owns (c : Thread nD τ) arg10 fullShare d) ∗ owns (c : Thread nD τ) arg11 fullShare xn ∗ owns (c : Thread nD τ) arg12 fullShare acc
      ∗ tbPt c tbE xt0 ∗ tbPt c tbV xt1
      ∗ (iprop(owns (c : Thread nD τ) arg4 fullShare x0 ∗ owns (c : Thread nD τ) arg5 fullShare x1 ∗ owns (c : Thread nD τ) arg6 fullShare x2
      ∗ owns (c : Thread nD τ) arg7 fullShare x3 ∗ owns (c : Thread nD τ) arg8 fullShare x4 ∗ owns (c : Thread nD τ) arg9 fullShare x5
        ∗ owns (c : Thread nD τ) arg10 fullShare (outOf acc x5) ∗ owns (c : Thread nD τ) arg11 fullShare xn
        ∗ owns (c : Thread nD τ) arg12 fullShare acc
        ∗ tbPt c tbE xt0 ∗ tbPt c tbV xt1) -∗ K ⟨⟩))
    ⊢ wp frame (wpE (defs₀ (F := F)) Variants.none c none) E
        (cc0_ffn_grouped i tbE (Memref.isWhole_whole _) tbV (Memref.isWhole_whole _) arg4 harg4 arg5 harg5 arg6 harg6 arg7 harg7 arg8 harg8 arg9 harg9 arg10 harg10 arg11 harg11 arg12 harg12) K := by
  simp only [cc0_ffn_grouped_eq_skeleton]; unfold cc0_ffn_grouped_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, HS0⟩, ⟨%f8, %hf8, HS1⟩, HT0, HT1, Hk⟩
  obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg11.eq_unread hf7; obtain rfl := harg12.eq_unread hf8
  sl_exec (disch := first | sl_exact hf | sl_exact ho | sl_exact hn)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; · ipureintro; exact harg8.read_unread _
    iexact H4
  isplitl [H5]
  · iexists _; isplitr; · ipureintro; exact harg9.read_unread _
    iexact H5
  isplitl [H6]
  · iexists _; isplitr
    swap; · iexact H6
    ipureintro
    sl_unfold_run_names
    rw [load_whole arg12 harg12 acc ![0, 0], load_whole arg9 harg9 x5 ![0, 0]]
    exact read_out _ _ acc x5
  isplitl [HS0]
  · iexists _; isplitr; · ipureintro; exact harg11.read_unread _
    iexact HS0
  isplitl [HS1]
  · iexists _; isplitr; · ipureintro; exact harg12.read_unread _
    iexact HS1
  isplitl [HT0]; · iexact HT0
  iexact HT1

end Cert.Moe

end
-- ==== Proof.MoeFrame.lean ====
/-
  The grouped experts' feed-forward kernel as a whole: what its buffers hold at every grid point, that its body keeps
  to it, and so the run of the program, for any tables that keep its blocks inside the weights.
-/
module

public import proofs.«01_k».proof.Proof.MoeRun
public import Idealize.ShloMosaic.Lib.Claim

@[expose] public section

set_option maxRecDepth 16384

noncomputable section

namespace Cert.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host's operations -/

/-- A buffer as the call finds it. -/
abbrev V (c : Dev nD) (b : Ref sig .tc) : Buf (Elt F) ((c : Thread nD τ).loc b) := StableHlo.after hostOps0 (fun b => m (c, b)) b

/-- No host operation leaves a buffer undefined. -/
theorem host_fresh : (hostOps0 : List (HloOp τ sig (Elt F))).Forall fun op => op.fresh = ∅ := by
  simp only [List.Forall]; repeat' constructor

set_option maxHeartbeats 800000 in
/-- The program up to the call. -/
theorem host_main (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub host_fresh main_chain

/-- A buffer no host operation writes is as at the start. -/
theorem V_of_ne (c : Dev nD) (b : Ref sig .tc) (h0 : b ≠ main_v0) (h1 : b ≠ main_v1) (h2 : b ≠ main_v2) (h3 : b ≠ main_v3) (h4 : b ≠ main_v4) :
    V m c b = m ((c : Thread nD τ).loc b) :=
  StableHlo.after_of_forall_not_mem (b := Proc.devRef .tc b) _ _ (List.forall_iff_forall_mem.mp (by
    simp only [hostOps0, List.Forall, StableHlo.unary_writes, StableHlo.reshape_writes, Finset.mem_singleton]
    exact ⟨StableHlo.devRef_ne_of_ne h0, StableHlo.devRef_ne_of_ne h1, StableHlo.devRef_ne_of_ne h2, StableHlo.devRef_ne_of_ne h3, StableHlo.devRef_ne_of_ne h4⟩))

/-! ## The tables -/

/-- The tables' contents. -/
def tbl : pre0.Contents (Elt F) := fun j => V m (0 : Dev nD) (pre0.ref j)
theorem V_tbl (c : Dev nD) (j : Fin 2) : V m c (pre0.ref j) = tbl m j := by
  obtain rfl : c = 0 := Subsingleton.elim _ _; rfl
/-- The tables keep every block inside its array. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- The tables' halves, one by one. -/
theorem held_eq (c : Dev nD) : (Pipeline.ΦT pre0 (tbl m) c : sProp 𝕄) = iprop(tbPt c tbE (tbl m 0) ∗ tbPt c tbV (tbl m 1)) := by
  unfold Pipeline.ΦT Pipeline.prefHeld
  rw [show (Finset.univ : Finset (Fin 2)) = insert (0 : Fin 2) {(1 : Fin 2)} from by decide, bigSep_insert (by decide), bigSep_singleton]
  rfl

/-! ## The blocks -/

/-- A window's block at a point. -/
def blkOf (hO : Ok m) (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))

/-- The flag at a point. -/
def on (c : Dev nD) (i : grid0.Coords) : Prop := isOn (flagOf c i (tbl m 1))
instance (c : Dev nD) (i : grid0.Coords) : Decidable (on m c i) := by unfold on isOn; infer_instance

/-! ## The branches, in closed form -/

theorem first_iff : ∀ t : Fin grid0.N, isFirst (grid0.coords t) ↔ t.val % 2 = 0 := fun t => by
  have ht : t.val < 144 := Nat.lt_of_lt_of_eq t.isLt N_0
  have e1 : (grid0.coords t 1).val = t.val / 1 % 2 := Pipeline.Grid.coords_val t 1 (by decide) rfl
  simp only [isFirst, e1]
  word_cmp
theorem last_iff : ∀ t : Fin grid0.N, isLast (grid0.coords t) ↔ t.val % 2 = 1 := fun t => by
  have ht : t.val < 144 := Nat.lt_of_lt_of_eq t.isLt N_0
  have e1 : (grid0.coords t 1).val = t.val / 1 % 2 := Pipeline.Grid.coords_val t 1 (by decide) rfl
  simp only [isLast, k0_cond3, e1]
  word_cmp

theorem out_idle (hO : Ok m) : ∀ t : Fin (cfgM m hO).N, t.val % 2 = 0 → (cfgM m hO).idle 6 (grid0.coords t) = true :=
  (by decide +kernel : ∀ t : Fin grid0.N, t.val % 2 = 0 → idle0 6 (grid0.coords t) = true)
theorem out_kept (hO : Ok m) : ∀ t : Fin (cfgM m hO).N, t.val % 2 = 0 → ((cfgM m hO).win 6).flush t = false :=
  (by decide +kernel : ∀ t : Fin grid0.N, t.val % 2 = 0 → Pipeline.Window.flushOf grid0 true cc0_transform_6 t = false)
theorem out_live (hO : Ok m) : ∀ t : Fin (cfgM m hO).N, t.val % 2 = 1 → (cfgM m hO).idle 6 (grid0.coords t) = false :=
  (by decide +kernel : ∀ t : Fin grid0.N, t.val % 2 = 1 → idle0 6 (grid0.coords t) = false)

/-! ## What the buffers hold after each point -/

/-- The point before. -/
def prev (hO : Ok m) (t : Fin (cfgM m hO).N) : Fin (cfgM m hO).N := ⟨t.val - 1, lt_of_le_of_lt (Nat.sub_le _ _) t.isLt⟩

/-- The rows a first column block normalises. -/
def xnAt (hO : Ok m) (c : Dev nD) (t : Fin (cfgM m hO).N) : Vec F S512x1024 .bf16 := xnOf (blkOf m hO c 0 t) (blkOf m hO c 1 t)
/-- The accumulator after a first column block. -/
def accFirst (hO : Ok m) (c : Dev nD) (t : Fin (cfgM m hO).N) : Vec F S512x1024 .f32 :=
  if on m c (grid0.coords t) then step (xnAt m hO c t) (blkOf m hO c 2 t) (blkOf m hO c 3 t) (blkOf m hO c 4 t) zero else zero
/-- The accumulator after a last column block. -/
def accLast (hO : Ok m) (c : Dev nD) (t : Fin (cfgM m hO).N) : Vec F S512x1024 .f32 :=
  if on m c (grid0.coords t) then
    step (xnAt m hO c (prev m hO t)) (blkOf m hO c 2 t) (blkOf m hO c 3 t) (blkOf m hO c 4 t) (accFirst m hO c (prev m hO t))
  else accFirst m hO c (prev m hO t)

/-- The normalised rows after any point. -/
def xnS (hO : Ok m) (c : Dev nD) (t : Fin (cfgM m hO).N) : Vec F S512x1024 .bf16 :=
  if t.val % 2 = 0 then xnAt m hO c t else xnAt m hO c (prev m hO t)
/-- The accumulator after any point. -/
def accS (hO : Ok m) (c : Dev nD) (t : Fin (cfgM m hO).N) : Vec F S512x1024 .f32 :=
  if t.val % 2 = 0 then accFirst m hO c t else accLast m hO c t
/-- The block stored at a last column block. -/
def outAt (hO : Ok m) (c : Dev nD) (t : Fin (cfgM m hO).N) : Vec F S4096x128 .f32 := outOf (accLast m hO c t) (blkOf m hO c 5 t)

abbrev scX : Memref sig .tc .vmem S512x1024 .bf16 := Memref.whole cc0_scratch0
abbrev scA : Memref sig .tc .vmem S512x1024 .f32 := Memref.whole cc0_scratch1

/-- The rest of the core's memory before the first point, buffer by buffer. -/
theorem rest_eq (c : Dev nD) :
    (Pipeline.ΦA spec0 c : sProp 𝕄)
      = iprop(iprop((∃ d, owns (c : Thread nD τ) scX fullShare d) ∗ (∃ d, owns (c : Thread nD τ) scA fullShare d)) ∗ (∃ r, prngReg c r)) := by
  unfold Pipeline.ΦA; rw [scopedRest0_eq]; simp only [scX, scA, owns_whole]; try rfl

/-- What the body keeps between points. -/
def keep (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) scX fullShare (xnS m hO c ⟨n, hn⟩) ∗ owns (c : Thread nD τ) scA fullShare (accS m hO c ⟨n, hn⟩))
      ∗ (∃ r, prngReg c r)) ∗ Pipeline.ΦT pre0 (tbl m) c)

theorem keep_pos (hO : Ok m) (c : Dev nD) (t : Fin (cfgM m hO).N) (hz : t.val ≠ 0) :
    keep m hO c t.val (Nat.le_of_lt t.isLt) = iprop(iprop(iprop(owns (c : Thread nD τ) scX fullShare (xnS m hO c (prev m hO t))
      ∗ owns (c : Thread nD τ) scA fullShare (accS m hO c (prev m hO t))) ∗ (∃ r, prngReg c r)) ∗ Pipeline.ΦT pre0 (tbl m) c) := by
  obtain ⟨n, hn⟩ := t
  cases n with
  | zero => exact absurd rfl hz
  | succ n => rfl

/-- Whatever a later point kept gives up its contents. -/
theorem keep_forget (hO : Ok m) (c : Dev nD) : ∀ (n : ℕ) (h : n ≤ (cfgM m hO).N),
    keep m hO c n h ⊢ iprop(Pipeline.ΦA spec0 c ∗ Pipeline.ΦT pre0 (tbl m) c)
  | 0, _ => Idealize.SL.BI.Entails.refl _
  | n + 1, hn => by
    rw [rest_eq]
    show iprop(iprop(iprop(owns (c : Thread nD τ) scX fullShare (xnS m hO c ⟨n, hn⟩) ∗ owns (c : Thread nD τ) scA fullShare (accS m hO c ⟨n, hn⟩))
      ∗ (∃ r, prngReg c r)) ∗ Pipeline.ΦT pre0 (tbl m) c) ⊢ _
    iintro ⟨⟨⟨HS0, HS1⟩, Hg⟩, HT⟩
    isplitl [HS0 HS1 Hg]
    · isplitl [HS0 HS1]
      · isplitl [HS0]
        · iexists _; iexact HS0
        iexists _; iexact HS1
      iexact Hg
    iexact HT

/-- The same beside anything. -/
theorem keep_forget_beside (hO : Ok m) (c : Dev nD) (n : ℕ) (h : n ≤ (cfgM m hO).N) (R : sProp 𝕄) :
    iprop(keep m hO c n h ∗ R) ⊢ iprop(iprop(Pipeline.ΦA spec0 c ∗ Pipeline.ΦT pre0 (tbl m) c) ∗ R) := by
  iintro ⟨HK, HR⟩
  isplitl [HK]
  · iapply (keep_forget m hO c n h)
    iexact HK
  iexact HR

/-! ## The call's data -/

/-- The arrays at entry, what each buffer holds after each point, what the body keeps. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => blkOf m hO c 0 t
    | ⟨1, _⟩ => blkOf m hO c 1 t
    | ⟨2, _⟩ => blkOf m hO c 2 t
    | ⟨3, _⟩ => blkOf m hO c 3 t
    | ⟨4, _⟩ => blkOf m hO c 4 t
    | ⟨5, _⟩ => blkOf m hO c 5 t
    | ⟨6, _⟩ => outAt m hO c t
  Φ t := keep m hO c t.val (Nat.le_of_lt_succ t.isLt)
  q w := Pipeline.shareOf spec0 w
  owed _ := 0

theorem dats_A (hO : Ok m) (c : Dev nD) (w : Fin (cfgM m hO).W) : (dats m hO 0 c).A w = V m c (Pipeline.arrRef spec0 w) := by
  dsimp only [dats]
theorem dats_keep (hO : Ok m) (c : Dev nD) (t : Fin (cfgM m hO).N) : (dats m hO 0 c).Φ t.castSucc = keep m hO c t.val (Nat.le_of_lt t.isLt) := by
  dsimp only [dats]; exact Pipeline.Dat.Φ_castSucc (keep m hO c) t

theorem after_0 (hO : Ok m) (c : Dev nD) (t : Fin (cfgM m hO).N) : (dats m hO 0 c).after 0 t = blkOf m hO c 0 t := by dsimp only [dats]; try rfl
theorem after_1 (hO : Ok m) (c : Dev nD) (t : Fin (cfgM m hO).N) : (dats m hO 0 c).after 1 t = blkOf m hO c 1 t := by dsimp only [dats]; try rfl
theorem after_2 (hO : Ok m) (c : Dev nD) (t : Fin (cfgM m hO).N) : (dats m hO 0 c).after 2 t = blkOf m hO c 2 t := by dsimp only [dats]; try rfl
theorem after_3 (hO : Ok m) (c : Dev nD) (t : Fin (cfgM m hO).N) : (dats m hO 0 c).after 3 t = blkOf m hO c 3 t := by dsimp only [dats]; try rfl
theorem after_4 (hO : Ok m) (c : Dev nD) (t : Fin (cfgM m hO).N) : (dats m hO 0 c).after 4 t = blkOf m hO c 4 t := by dsimp only [dats]; try rfl
theorem after_5 (hO : Ok m) (c : Dev nD) (t : Fin (cfgM m hO).N) : (dats m hO 0 c).after 5 t = blkOf m hO c 5 t := by dsimp only [dats]; try rfl
theorem after_6 (hO : Ok m) (c : Dev nD) (t : Fin (cfgM m hO).N) : (dats m hO 0 c).after 6 t = outAt m hO c t := by dsimp only [dats]; try rfl

/-- Every input's buffer holds its block when the body starts. -/
theorem before_0 (hO : Ok m) (c : Dev nD) (t : Fin (cfgM m hO).N) (d) : (dats m hO 0 c).before 0 t d = blkOf m hO c 0 t :=
  ((dats m hO 0 c).before_in_eq_fetched 0 rfl (fun _ => rfl) (fun _ _ _ => rfl) (fun t => by rw [after_0]; unfold Dat.blockOf blkOf; rw [dats_A]; try rfl) t d).trans
    (by unfold Dat.fetched Dat.blockOf blkOf; rw [dats_A]; try rfl)
theorem before_1 (hO : Ok m) (c : Dev nD) (t : Fin (cfgM m hO).N) (d) : (dats m hO 0 c).before 1 t d = blkOf m hO c 1 t :=
  ((dats m hO 0 c).before_in_eq_fetched 1 rfl (fun _ => rfl) (fun _ _ _ => rfl) (fun t => by rw [after_1]; unfold Dat.blockOf blkOf; rw [dats_A]; try rfl) t d).trans
    (by unfold Dat.fetched Dat.blockOf blkOf; rw [dats_A]; try rfl)
theorem before_2 (hO : Ok m) (c : Dev nD) (t : Fin (cfgM m hO).N) (d) : (dats m hO 0 c).before 2 t d = blkOf m hO c 2 t :=
  ((dats m hO 0 c).before_in_eq_fetched 2 rfl (fun _ => rfl) (fun _ _ _ => rfl) (fun t => by rw [after_2]; unfold Dat.blockOf blkOf; rw [dats_A]; try rfl) t d).trans
    (by unfold Dat.fetched Dat.blockOf blkOf; rw [dats_A]; try rfl)
theorem before_3 (hO : Ok m) (c : Dev nD) (t : Fin (cfgM m hO).N) (d) : (dats m hO 0 c).before 3 t d = blkOf m hO c 3 t :=
  ((dats m hO 0 c).before_in_eq_fetched 3 rfl (fun _ => rfl) (fun _ _ _ => rfl) (fun t => by rw [after_3]; unfold Dat.blockOf blkOf; rw [dats_A]; try rfl) t d).trans
    (by unfold Dat.fetched Dat.blockOf blkOf; rw [dats_A]; try rfl)
theorem before_4 (hO : Ok m) (c : Dev nD) (t : Fin (cfgM m hO).N) (d) : (dats m hO 0 c).before 4 t d = blkOf m hO c 4 t :=
  ((dats m hO 0 c).before_in_eq_fetched 4 rfl (fun _ => rfl) (fun _ _ _ => rfl) (fun t => by rw [after_4]; unfold Dat.blockOf blkOf; rw [dats_A]; try rfl) t d).trans
    (by unfold Dat.fetched Dat.blockOf blkOf; rw [dats_A]; try rfl)
theorem before_5 (hO : Ok m) (c : Dev nD) (t : Fin (cfgM m hO).N) (d) : (dats m hO 0 c).before 5 t d = blkOf m hO c 5 t :=
  ((dats m hO 0 c).before_in_eq_fetched 5 rfl (fun _ => rfl) (fun _ _ _ => rfl) (fun t => by rw [after_5]; unfold Dat.blockOf blkOf; rw [dats_A]; try rfl) t d).trans
    (by unfold Dat.fetched Dat.blockOf blkOf; rw [dats_A]; try rfl)

/-! ## The body keeps to it -/

/-- The staging buffers in use at a point. -/
abbrev st_0 (hO : Ok m) (t : Fin (cfgM m hO).N) : Memref sig .tc .vmem S4096x128 .f32 := spec0_0.stage ((cfgM m hO).slots t 0)
abbrev st_1 (hO : Ok m) (t : Fin (cfgM m hO).N) : Memref sig .tc .vmem S1x1024 .f32 := spec0_1.stage ((cfgM m hO).slots t 1)
abbrev st_2 (hO : Ok m) (t : Fin (cfgM m hO).N) : Memref sig .tc .vmem S1x1024x1408 .bf16 := spec0_2.stage ((cfgM m hO).slots t 2)
abbrev st_3 (hO : Ok m) (t : Fin (cfgM m hO).N) : Memref sig .tc .vmem S1x1024x1408 .bf16 := spec0_3.stage ((cfgM m hO).slots t 3)
abbrev st_4 (hO : Ok m) (t : Fin (cfgM m hO).N) : Memref sig .tc .vmem S1x1408x1024 .bf16 := spec0_4.stage ((cfgM m hO).slots t 4)
abbrev st_5 (hO : Ok m) (t : Fin (cfgM m hO).N) : Memref sig .tc .vmem S512x1 .f32 := spec0_5.stage ((cfgM m hO).slots t 5)
abbrev st_6 (hO : Ok m) (t : Fin (cfgM m hO).N) : Memref sig .tc .vmem S4096x128 .f32 := spec0_6.stage ((cfgM m hO).slots t 6)

/-- The body at a point. -/
abbrev bodyAt (hO : Ok m) (t : Fin (cfgM m hO).N) : Prog (TpuEff nD τ sig (Elt F) Λ₀ .tc) PUnit :=
  cc0_ffn_grouped (grid0.coords t) tbE (Memref.isWhole_whole _) tbV (Memref.isWhole_whole _)
    (st_0 m hO t) (hstage0_0 (((cfgM m hO).slots t 0).cast nbuf0_0)) (st_1 m hO t) (hstage0_1 (((cfgM m hO).slots t 1).cast nbuf0_1))
    (st_2 m hO t) (hstage0_2 (((cfgM m hO).slots t 2).cast nbuf0_2)) (st_3 m hO t) (hstage0_3 (((cfgM m hO).slots t 3).cast nbuf0_3))
    (st_4 m hO t) (hstage0_4 (((cfgM m hO).slots t 4).cast nbuf0_4)) (st_5 m hO t) (hstage0_5 (((cfgM m hO).slots t 5).cast nbuf0_5))
    (st_6 m hO t) (hstage0_6 (((cfgM m hO).slots t 6).cast nbuf0_6)) scX (Memref.isWhole_whole _) scA (Memref.isWhole_whole _)

/-- What the body is given, -/
def given (hO : Ok m) (c : Dev nD) (t : Fin (cfgM m hO).N) : sProp 𝕄 :=
  iprop((dats m hO 0 c).Φ t.castSucc ∗ (dats m hO 0 c).owesAt () t.castSucc
    ∗ (∃ d, owns (c : Thread nD τ) (st_0 m hO t) fullShare ((dats m hO 0 c).before 0 t d))
    ∗ (∃ d, owns (c : Thread nD τ) (st_1 m hO t) fullShare ((dats m hO 0 c).before 1 t d))
    ∗ (∃ d, owns (c : Thread nD τ) (st_2 m hO t) fullShare ((dats m hO 0 c).before 2 t d))
    ∗ (∃ d, owns (c : Thread nD τ) (st_3 m hO t) fullShare ((dats m hO 0 c).before 3 t d))
    ∗ (∃ d, owns (c : Thread nD τ) (st_4 m hO t) fullShare ((dats m hO 0 c).before 4 t d))
    ∗ (∃ d, owns (c : Thread nD τ) (st_5 m hO t) fullShare ((dats m hO 0 c).before 5 t d))
    ∗ (∃ d, owns (c : Thread nD τ) (st_6 m hO t) fullShare ((dats m hO 0 c).before 6 t d)))

/-- and what it returns. -/
def returned (hO : Ok m) (c : Dev nD) (t : Fin (cfgM m hO).N) : sProp 𝕄 :=
  iprop((dats m hO 0 c).Φ t.succ ∗ (dats m hO 0 c).owesAt () t.succ
    ∗ (dats m hO 0 c).leavesExact 0 t ∗ (dats m hO 0 c).leavesExact 1 t ∗ (dats m hO 0 c).leavesExact 2 t ∗ (dats m hO 0 c).leavesExact 3 t
    ∗ (dats m hO 0 c).leavesExact 4 t ∗ (dats m hO 0 c).leavesExact 5 t ∗ (dats m hO 0 c).leavesExact 6 t)

theorem leaves_0 (hO : Ok m) (c : Dev nD) (t : Fin (cfgM m hO).N) : (dats m hO 0 c).leavesExact 0 t = owns (c : Thread nD τ) (st_0 m hO t) fullShare (blkOf m hO c 0 t) := by
  unfold Dat.leavesExact; rw [show (cfgM m hO).idle 0 ((cfgM m hO).grid.coords t) = false from rfl, after_0]; try rfl
theorem leaves_1 (hO : Ok m) (c : Dev nD) (t : Fin (cfgM m hO).N) : (dats m hO 0 c).leavesExact 1 t = owns (c : Thread nD τ) (st_1 m hO t) fullShare (blkOf m hO c 1 t) := by
  unfold Dat.leavesExact; rw [show (cfgM m hO).idle 1 ((cfgM m hO).grid.coords t) = false from rfl, after_1]; try rfl
theorem leaves_2 (hO : Ok m) (c : Dev nD) (t : Fin (cfgM m hO).N) : (dats m hO 0 c).leavesExact 2 t = owns (c : Thread nD τ) (st_2 m hO t) fullShare (blkOf m hO c 2 t) := by
  unfold Dat.leavesExact; rw [show (cfgM m hO).idle 2 ((cfgM m hO).grid.coords t) = false from rfl, after_2]; try rfl
theorem leaves_3 (hO : Ok m) (c : Dev nD) (t : Fin (cfgM m hO).N) : (dats m hO 0 c).leavesExact 3 t = owns (c : Thread nD τ) (st_3 m hO t) fullShare (blkOf m hO c 3 t) := by
  unfold Dat.leavesExact; rw [show (cfgM m hO).idle 3 ((cfgM m hO).grid.coords t) = false from rfl, after_3]; try rfl
theorem leaves_4 (hO : Ok m) (c : Dev nD) (t : Fin (cfgM m hO).N) : (dats m hO 0 c).leavesExact 4 t = owns (c : Thread nD τ) (st_4 m hO t) fullShare (blkOf m hO c 4 t) := by
  unfold Dat.leavesExact; rw [show (cfgM m hO).idle 4 ((cfgM m hO).grid.coords t) = false from rfl, after_4]; try rfl
theorem leaves_5 (hO : Ok m) (c : Dev nD) (t : Fin (cfgM m hO).N) : (dats m hO 0 c).leavesExact 5 t = owns (c : Thread nD τ) (st_5 m hO t) fullShare (blkOf m hO c 5 t) := by
  unfold Dat.leavesExact; rw [show (cfgM m hO).idle 5 ((cfgM m hO).grid.coords t) = false from rfl, after_5]; try rfl
theorem leaves_6 (hO : Ok m) (c : Dev nD) (t : Fin (cfgM m hO).N) (h : t.val % 2 = 1) :
    (dats m hO 0 c).leavesExact 6 t = owns (c : Thread nD τ) (st_6 m hO t) fullShare (outAt m hO c t) := by
  unfold Dat.leavesExact; rw [out_live m hO t h, after_6]; try rfl

set_option maxHeartbeats 4000000 in
/-- The body at a first column block. -/
theorem body_first (hO : Ok m) (c : Dev nD) (t : Fin (cfgM m hO).N) (h : t.val % 2 = 0) :
    given m hO c t ⊢ wp frame (wpE (defs₀ (F := F)) Variants.none c none) Set.univ (bodyAt m hO t) (fun _ => returned m hO c t) := by
  unfold given returned bodyAt
  simp only [before_0, before_1, before_2, before_3, before_4, before_5]
  rw [show (dats m hO 0 c).owesAt () t.succ = (dats m hO 0 c).owesAt () t.castSucc from rfl]
  rw [show (dats m hO 0 c).Φ t.succ = keep m hO c (t.val + 1) t.isLt from rfl, dats_keep]
  rw [leaves_0, leaves_1, leaves_2, leaves_3, leaves_4, leaves_5, Dat.leavesExact_idle (dats m hO 0 c) 6 t (out_idle m hO t h) (out_kept m hO t h)]
  rw [show keep m hO c (t.val + 1) t.isLt = iprop(iprop(iprop(owns (c : Thread nD τ) scX fullShare (xnS m hO c t) ∗ owns (c : Thread nD τ) scA fullShare (accS m hO c t))
      ∗ (∃ r, prngReg c r)) ∗ Pipeline.ΦT pre0 (tbl m) c) from rfl]
  refine (keep_forget_beside m hO c _ _ _).trans ?_
  rw [rest_eq, held_eq, show xnS m hO c t = xnAt m hO c t from if_pos h, show accS m hO c t = accFirst m hO c t from if_pos h]
  unfold accFirst xnAt
  have hf : isFirst (grid0.coords t) := (first_iff t).mpr h
  have hn : ¬isLast (grid0.coords t) := fun e => by have := (last_iff t).mp e; omega
  by_cases ho : on m c (grid0.coords t)
  · rw [if_pos ho]
    iintro ⟨⟨⟨⟨HS0, HS1⟩, Hg⟩, ⟨HT0, HT1⟩⟩, Ho, ⟨%d0, H0⟩, ⟨%d1, H1⟩, ⟨%d2, H2⟩, ⟨%d3, H3⟩, ⟨%d4, H4⟩, ⟨%d5, H5⟩, ⟨%d6, H6⟩⟩
    iapply (run_first_on c (grid0.coords t) _ _ _ _ _ _ _ _ _ _ _ _ _ _ _ _ _ _ (blkOf m hO c 0 t) (blkOf m hO c 1 t) (blkOf m hO c 2 t) (blkOf m hO c 3 t) (blkOf m hO c 4 t) (blkOf m hO c 5 t) (tbl m 0) (tbl m 1) _ hf hn ho Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HT0]; · iexact HT0
    isplitl [HT1]; · iexact HT1
    iintro ⟨H0, H1, H2, H3, H4, H5, H6, HS0, HS1, HT0, HT1⟩
    isplitl [HS0 HS1 Hg HT0 HT1]
    · isplitl [HS0 HS1 Hg]
      · isplitl [HS0 HS1]
        · isplitl [HS0]; · iexact HS0
          iexact HS1
        iexact Hg
      isplitl [HT0]; · iexact HT0
      iexact HT1
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · rw [if_neg ho]
    iintro ⟨⟨⟨⟨HS0, HS1⟩, Hg⟩, ⟨HT0, HT1⟩⟩, Ho, ⟨%d0, H0⟩, ⟨%d1, H1⟩, ⟨%d2, H2⟩, ⟨%d3, H3⟩, ⟨%d4, H4⟩, ⟨%d5, H5⟩, ⟨%d6, H6⟩⟩
    iapply (run_first_off c (grid0.coords t) _ _ _ _ _ _ _ _ _ _ _ _ _ _ _ _ _ _ (blkOf m hO c 0 t) (blkOf m hO c 1 t) (blkOf m hO c 2 t) (blkOf m hO c 3 t) (blkOf m hO c 4 t) (blkOf m hO c 5 t) (tbl m 0) (tbl m 1) _ hf hn ho Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HT0]; · iexact HT0
    isplitl [HT1]; · iexact HT1
    iintro ⟨H0, H1, H2, H3, H4, H5, H6, HS0, HS1, HT0, HT1⟩
    isplitl [HS0 HS1 Hg HT0 HT1]
    · isplitl [HS0 HS1 Hg]
      · isplitl [HS0 HS1]
        · isplitl [HS0]; · iexact HS0
          iexact HS1
        iexact Hg
      isplitl [HT0]; · iexact HT0
      iexact HT1
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6

set_option maxHeartbeats 4000000 in
/-- The body at a last column block. -/
theorem body_last (hO : Ok m) (c : Dev nD) (t : Fin (cfgM m hO).N) (h : t.val % 2 = 1) :
    given m hO c t ⊢ wp frame (wpE (defs₀ (F := F)) Variants.none c none) Set.univ (bodyAt m hO t) (fun _ => returned m hO c t) := by
  unfold given returned bodyAt
  simp only [before_0, before_1, before_2, before_3, before_4, before_5]
  rw [show (dats m hO 0 c).owesAt () t.succ = (dats m hO 0 c).owesAt () t.castSucc from rfl]
  rw [show (dats m hO 0 c).Φ t.succ = keep m hO c (t.val + 1) t.isLt from rfl, dats_keep]
  rw [leaves_0, leaves_1, leaves_2, leaves_3, leaves_4, leaves_5, leaves_6 m hO c t h]
  rw [show keep m hO c (t.val + 1) t.isLt = iprop(iprop(iprop(owns (c : Thread nD τ) scX fullShare (xnS m hO c t) ∗ owns (c : Thread nD τ) scA fullShare (accS m hO c t))
      ∗ (∃ r, prngReg c r)) ∗ Pipeline.ΦT pre0 (tbl m) c) from rfl]
  have hp : (prev m hO t).val % 2 = 0 := by show (t.val - 1) % 2 = 0; omega
  have hne : ¬(t.val % 2 = 0) := by omega
  rw [keep_pos m hO c t (by omega), held_eq, show xnS m hO c t = xnAt m hO c (prev m hO t) from if_neg hne, show accS m hO c t = accLast m hO c t from if_neg hne,
    show xnS m hO c (prev m hO t) = xnAt m hO c (prev m hO t) from if_pos hp, show accS m hO c (prev m hO t) = accFirst m hO c (prev m hO t) from if_pos hp]
  unfold outAt accLast
  have hf : ¬isFirst (grid0.coords t) := fun e => hne ((first_iff t).mp e)
  have hn : isLast (grid0.coords t) := (last_iff t).mpr h
  by_cases ho : on m c (grid0.coords t)
  · rw [if_pos ho]
    iintro ⟨⟨⟨⟨HS0, HS1⟩, Hg⟩, ⟨HT0, HT1⟩⟩, Ho, ⟨%d0, H0⟩, ⟨%d1, H1⟩, ⟨%d2, H2⟩, ⟨%d3, H3⟩, ⟨%d4, H4⟩, ⟨%d5, H5⟩, ⟨%d6, H6⟩⟩
    iapply (run_last_on c (grid0.coords t) _ _ _ _ _ _ _ _ _ _ _ _ _ _ _ _ _ _ (blkOf m hO c 0 t) (blkOf m hO c 1 t) (blkOf m hO c 2 t) (blkOf m hO c 3 t) (blkOf m hO c 4 t) (blkOf m hO c 5 t) (tbl m 0) (tbl m 1) _ _ hf hn ho Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    isplitl [HT0]; · iexact HT0
    isplitl [HT1]; · iexact HT1
    iintro ⟨H0, H1, H2, H3, H4, H5, H6, HS0, HS1, HT0, HT1⟩
    isplitl [HS0 HS1 Hg HT0 HT1]
    · isplitl [HS0 HS1 Hg]
      · isplitl [HS0 HS1]
        · isplitl [HS0]; · iexact HS0
          iexact HS1
        iexact Hg
      isplitl [HT0]; · iexact HT0
      iexact HT1
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [if_neg ho]
    iintro ⟨⟨⟨⟨HS0, HS1⟩, Hg⟩, ⟨HT0, HT1⟩⟩, Ho, ⟨%d0, H0⟩, ⟨%d1, H1⟩, ⟨%d2, H2⟩, ⟨%d3, H3⟩, ⟨%d4, H4⟩, ⟨%d5, H5⟩, ⟨%d6, H6⟩⟩
    iapply (run_last_off c (grid0.coords t) _ _ _ _ _ _ _ _ _ _ _ _ _ _ _ _ _ _ (blkOf m hO c 0 t) (blkOf m hO c 1 t) (blkOf m hO c 2 t) (blkOf m hO c 3 t) (blkOf m hO c 4 t) (blkOf m hO c 5 t) (tbl m 0) (tbl m 1) _ _ hf hn ho Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    isplitl [HT0]; · iexact HT0
    isplitl [HT1]; · iexact HT1
    iintro ⟨H0, H1, H2, H3, H4, H5, H6, HS0, HS1, HT0, HT1⟩
    isplitl [HS0 HS1 Hg HT0 HT1]
    · isplitl [HS0 HS1 Hg]
      · isplitl [HS0 HS1]
        · isplitl [HS0]; · iexact HS0
          iexact HS1
        iexact Hg
      isplitl [HT0]; · iexact HT0
      iexact HT1
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The body at any point. -/
theorem body_any (hO : Ok m) (c : Dev nD) (t : Fin (cfgM m hO).N) :
    given m hO c t ⊢ wp frame (wpE (defs₀ (F := F)) Variants.none c none) Set.univ (bodyAt m hO t) (fun _ => returned m hO c t) :=
  (Nat.mod_two_eq_zero_or_one t.val).elim (body_first m hO c t) (body_last m hO c t)

theorem body_row (hO : Ok m) (t : Fin (cfgM m hO).N) :
    defs₀ (F := F) .tc (cfgM m hO).body ((cfgM m hO).bodyArgs t ((cfgM m hO).slots t)) = bodyAt m hO t := by
  unfold defs₀; rw [Defs.onTc_tc]

/-- The body's obligation at every point. -/
theorem obligation (hO : Ok m) (c : Dev nD) : BodyObligation (dats (F := F) m hO 0 c) (defs₀ (F := F)) Variants.none () Set.univ := fun t => by
  rw [bigSep_W0, bigSep_W0, body_row m hO]
  exact triple_restated (body_any m hO c t) rfl .rfl fun _ => .rfl

theorem keep_in (hO : Ok m) (c : Dev nD) : iprop(Pipeline.ΦA spec0 c ∗ Pipeline.ΦT pre0 (tbl m) c) ⊢ (dats m hO 0 c).Φ 0 := by
  rw [show (dats m hO 0 c).Φ 0 = iprop(Pipeline.ΦA spec0 c ∗ Pipeline.ΦT pre0 (tbl m) c) from rfl]

theorem keep_out (hO : Ok m) (c : Dev nD) : (dats m hO 0 c).Φ (Fin.last (cfgM m hO).N) ⊢ Pipeline.ΦA spec0 c := by
  rw [show (dats m hO 0 c).Φ (Fin.last (cfgM m hO).N) = keep m hO c (cfgM m hO).N (Nat.le_refl _) from rfl]
  refine (keep_forget m hO c _ _).trans ?_
  show (_ : sProp 𝕄) ⊢ _
  iintro ⟨HA, -⟩
  iexact HA

/-! ## The run -/

set_option backward.isDefEq.respectTransparency.types false in
/-- Every execution ends, with the arrays at what the data says and all counters at zero. -/
theorem run_quiet (hO : Ok m) : θ_run defs (onTc (τ := τ) (main (F := F))) (s₀ m ρ)
    (fun r => (Pipeline.FramePost (Pipeline.pin pcfgs fun _ => adm m hO) (dats m hO) 0 (V m)) r ∧ r.2.sem = fun _ => 0) :=
  Pipeline.θ_run_frameP_track_shared (Q' := _) pcfgs (fun _ => adm m hO) (dats m hO) (0 : Fin 1) launch₀0 defs₀ Variants.none m ρ main
    (hbody := fun c => (obligation m hO c).loose) (hq := fun _ _ _ => rfl)
    (howed := fun _ _ => rfl) (V := V m) (hmain := host_main m Variants.none) (hA := dats_A m hO) (hpf := V_tbl m)
    (hin := keep_in m hO) (hout := keep_out m hO)

/-- The arguments end unchanged and the counters at zero. -/
theorem run_frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨((h.1 c).1 0).trans (((dats m hO 0 c).arrAt_in 0 rfl _).trans ((dats_A m hO c 0).trans (V_of_ne m c main_arg0 (by decide) (by decide) (by decide) (by decide) (by decide)))),
      ((h.1 c).2 main_arg1 (by decide : main_arg1 ∈ Pipeline.restRefs sig spec0)).trans (V_of_ne m c main_arg1 (by decide) (by decide) (by decide) (by decide) (by decide)),
      ((h.1 c).2 main_arg2 (by decide : main_arg2 ∈ Pipeline.restRefs sig spec0)).trans (V_of_ne m c main_arg2 (by decide) (by decide) (by decide) (by decide) (by decide)),
      ((h.1 c).2 main_arg3 (by decide : main_arg3 ∈ Pipeline.restRefs sig spec0)).trans (V_of_ne m c main_arg3 (by decide) (by decide) (by decide) (by decide) (by decide)),
      ((h.1 c).2 main_arg4 (by decide : main_arg4 ∈ Pipeline.restRefs sig spec0)).trans (V_of_ne m c main_arg4 (by decide) (by decide) (by decide) (by decide) (by decide)),
      ((h.1 c).2 main_arg5 (by decide : main_arg5 ∈ Pipeline.restRefs sig spec0)).trans (V_of_ne m c main_arg5 (by decide) (by decide) (by decide) (by decide) (by decide)),
      ((h.1 c).1 5).trans (((dats m hO 0 c).arrAt_in 5 rfl _).trans ((dats_A m hO c 5).trans (V_of_ne m c main_arg6 (by decide) (by decide) (by decide) (by decide) (by decide))))⟩, h.2⟩)
    (run_quiet m ρ hO)

end Cert.Moe

end
-- ==== Proof.MoeTables.lean ====
/-
  The tables of the grouped experts' kernel: what the precondition says of them, which blocks of the weights they
  name, and that these are inside the weights. With it, the frames of the call.
-/
module

public import proofs.«01_k».proof.Defs
public import proofs.«01_k».proof.Proof.MoeFrame
public import Idealize.ShloMosaic.Lib.PairWhole
public import Idealize.ShloMosaic.Lib.ReduceAll
public import Idealize.ShloMosaic.Lib.Affine
public import Idealize.ShloMosaic.Lib.Pointwise

@[expose] public section

set_option maxRecDepth 16384

noncomputable section

namespace Cert.Moe

open Idealize.ShloMosaic Idealize.ShloMosaic.TcCoe
open Idealize.SL.Sem
open Cert.Kernel2Ideal Cert.Kernel2Ideal.Gen

/-- The side conditions of the precondition's operations. -/
instance preFacts : Cert.Pre_tiles_in_range.Facts where
  bcast_S_S72 := by decide
  reducesTo_S72_S_d0 := by decide
  h_S_ := by decide

/-- Every tile's expert is one of the eight and every tile's flag is zero or one. -/
structure InRange (te tv : IVec S72 32) : Prop where
  expert : ∀ j, (te j).toNat < 8
  flag : ∀ j, tv j = 0#32 ∨ tv j = 1#32

theorem ofBool_eq_one (p : Bool) : (BitVec.ofBool p = 1#1) ↔ p = true := by cases p <;> decide

/-- A word between two bounds as a signed number is between them as a natural number. -/
theorem lt_of_signed (x : BitVec 32) (n : ℕ) (hn : n < 2 ^ 31) (h0 : IntOp.cmpi .sge x 0#32 = 1#1) (h1 : IntOp.cmpi .slt x (BitVec.ofNat 32 n) = 1#1) : x.toNat < n := by
  simp only [IntOp.cmpi, ofBool_eq_one, BitVec.sle, BitVec.slt, decide_eq_true_eq, BitVec.toInt_eq_toNat_cond, BitVec.toNat_ofNat] at h0 h1
  have hx := x.isLt
  rw [Nat.mod_eq_of_lt (by omega : n < 2 ^ 32)] at h1
  split at h0 <;> split at h1 <;> omega

/-- The precondition, read at the tables. -/
theorem inRange_of {F : FTy → Type} [FloatOps F] (a0 a1 a2 a3) (te tv : IVec S72 32) (a6)
    (h : Cert.Pre_tiles_in_range.fn (F := F) a0 a1 a2 a3 te tv a6 = fun _ => 1#1) : InRange te tv := by
  have h0 := congrFun h ix0
  dsimp only [Cert.Pre_tiles_in_range.fn] at h0
  have key : ∀ j, ((IntOp.cmpi .sge (te j) 0#32 = 1#1 ∧ IntOp.cmpi .slt (te j) 8#32 = 1#1) ∧ IntOp.cmpi .sge (tv j) 0#32 = 1#1) ∧ IntOp.cmpi .slt (tv j) 2#32 = 1#1 := fun j => by
    have e := Host.reduce_andi_all _ _ _ _ _ h0 j
    obtain ⟨e1, e2⟩ := IntOp.andi_eq_one.1 e
    obtain ⟨e3, e4⟩ := IntOp.andi_eq_one.1 e1
    obtain ⟨e5, e6⟩ := IntOp.andi_eq_one.1 e3
    exact ⟨⟨⟨e5, e6⟩, e4⟩, e2⟩
  refine ⟨fun j => lt_of_signed _ 8 (by decide) (key j).1.1.1 (key j).1.1.2, fun j => ?_⟩
  have := lt_of_signed _ 2 (by decide) (key j).1.2 (key j).2
  rcases (by omega : (tv j).toNat = 0 ∨ (tv j).toNat = 1) with e | e
  · exact .inl (BitVec.eq_of_toNat_eq e)
  · exact .inr (BitVec.eq_of_toNat_eq e)

variable {F : FTy → Type} [FloatOps F]

/-- The words of the tables the index maps read. -/
theorem word_at (pf : pre0.Contents (Elt F)) (i : grid0.Coords) :
    (pf.at 0 (Rect.unit (s := S72) ![(Scalar.indexCast (BitVec.ofNat 32 (i 0).val)).toNat] S1.size (k0_off1_inb i)) numel1_S1 : BitVec 32) = (pf 0 : IVec S72 32) (ix1 (i 0))
    ∧ (pf.at 1 (Rect.unit (s := S72) ![(Scalar.indexCast (BitVec.ofNat 32 (i 0).val)).toNat] S1.size (k0_off1_inb i)) numel1_S1 : BitVec 32) = (pf 1 : IVec S72 32) (ix1 (i 0)) := by
  have e : (Rect.unit (s := S72) ![(Scalar.indexCast (BitVec.ofNat 32 (i 0).val)).toNat] S1.size (k0_off1_inb i)).emb (Shape.Idx.first (numel1_S1.symm ▸ Nat.one_pos)) = ix1 (i 0) := by
    funext a
    obtain rfl : a = 0 := Subsingleton.elim _ _
    refine Fin.ext ?_
    have h : (i 0).val < 72 := (i 0).isLt
    show (Scalar.indexCast (BitVec.ofNat 32 (i 0).val)).toNat + 1 * 0 = (i 0).val
    show (BitVec.ofNat 32 (i 0).val).toNat + 1 * 0 = (i 0).val
    rw [BitVec.toNat_ofNat, Nat.mod_eq_of_lt (by omega)]
    omega
  exact ⟨congrArg (pf 0 : IVec S72 32) e, congrArg (pf 1 : IVec S72 32) e⟩

/-- The column block the index maps name: the grid's at a tile in use, the last one at the others. -/
def colBlk (v : BitVec 32) (f : ℕ) : ℕ := if v = 1#32 then f else 1

theorem colBlk_le (v : BitVec 32) (f : Fin 2) : colBlk v f.val ≤ 1 := by
  unfold colBlk; split
  · omega
  · exact Nat.le_refl _

theorem col_word (v : BitVec 32) (hv : v = 0#32 ∨ v = 1#32) (f : Fin 2) :
    (Scalar.addi (Scalar.muli (BitVec.ofNat 32 f.val) v) (Scalar.muli 1#32 (Scalar.subi 1#32 v)) : BitVec 32).toNat = colBlk v f.val
    ∧ (Scalar.addi 2#32 (Scalar.addi (Scalar.muli (BitVec.ofNat 32 f.val) v) (Scalar.muli 1#32 (Scalar.subi 1#32 v))) : BitVec 32).toNat = 2 + colBlk v f.val := by
  rcases hv with rfl | rfl <;> fin_cases f <;> decide

/-- The index maps of the weights, at tables in range. -/
theorem map_2 (pf : pre0.Contents (Elt F)) (i : grid0.Coords) (hr : InRange (pf 0) (pf 1)) :
    cc0_transform_2 k0_off1_inb numel1_S1 pf i = ![((pf 0 : IVec S72 32) (ix1 (i 0))).toNat, 0, colBlk ((pf 1 : IVec S72 32) (ix1 (i 0))) (i 1).val] := by
  unfold cc0_transform_2
  dsimp only
  rw [(word_at pf i).1, (word_at pf i).2]
  rw [(col_word _ (hr.flag _) (i 1)).1]
  rfl
theorem map_3 (pf : pre0.Contents (Elt F)) (i : grid0.Coords) (hr : InRange (pf 0) (pf 1)) :
    cc0_transform_3 k0_off1_inb numel1_S1 pf i = ![((pf 0 : IVec S72 32) (ix1 (i 0))).toNat, 0, 2 + colBlk ((pf 1 : IVec S72 32) (ix1 (i 0))) (i 1).val] := by
  unfold cc0_transform_3
  dsimp only
  rw [(word_at pf i).1, (word_at pf i).2]
  rw [(col_word _ (hr.flag _) (i 1)).2]
  rfl
theorem map_4 (pf : pre0.Contents (Elt F)) (i : grid0.Coords) (hr : InRange (pf 0) (pf 1)) :
    cc0_transform_4 k0_off1_inb numel1_S1 pf i = ![((pf 0 : IVec S72 32) (ix1 (i 0))).toNat, colBlk ((pf 1 : IVec S72 32) (ix1 (i 0))) (i 1).val, 0] := by
  unfold cc0_transform_4
  dsimp only
  rw [(word_at pf i).1, (word_at pf i).2]
  rw [(col_word _ (hr.flag _) (i 1)).1]
  rfl

/-- Tables in range keep every block inside the weights. -/
theorem ok_of (pf : pre0.Contents (Elt F)) (hr : InRange (pf 0) (pf 1)) : ok0 pf := by
  refine ⟨fun i => ?_, fun i => ?_, fun i => ?_⟩
  · have he := hr.expert (ix1 (i 0))
    have hc := colBlk_le ((pf 1 : IVec S72 32) (ix1 (i 0))) (i 1)
    have hb : ∀ a, (cc0_transform_2 k0_off1_inb numel1_S1 pf i a + 1) * S1x1024x1408.size a ≤ S8x1024x5632.size a := fun a => by
      rw [map_2 pf i hr]
      fin_cases a
      · show (((pf 0 : IVec S72 32) (ix1 (i 0))).toNat + 1) * 1 ≤ 8; omega
      · show (0 + 1) * 1024 ≤ 1024; omega
      · show (colBlk ((pf 1 : IVec S72 32) (ix1 (i 0))) (i 1).val + 1) * 1408 ≤ 5632; omega
    refine ⟨hb, .inr (Rect.WholeRows.wholeWords ⟨by decide, ?_, rfl, rfl⟩ _)⟩
    show cc0_transform_2 k0_off1_inb numel1_S1 pf i 1 * 1024 = 0
    rw [map_2 pf i hr]
    rfl
  · have he := hr.expert (ix1 (i 0))
    have hc := colBlk_le ((pf 1 : IVec S72 32) (ix1 (i 0))) (i 1)
    have hb : ∀ a, (cc0_transform_3 k0_off1_inb numel1_S1 pf i a + 1) * S1x1024x1408.size a ≤ S8x1024x5632.size a := fun a => by
      rw [map_3 pf i hr]
      fin_cases a
      · show (((pf 0 : IVec S72 32) (ix1 (i 0))).toNat + 1) * 1 ≤ 8; omega
      · show (0 + 1) * 1024 ≤ 1024; omega
      · show (2 + colBlk ((pf 1 : IVec S72 32) (ix1 (i 0))) (i 1).val + 1) * 1408 ≤ 5632; omega
    refine ⟨hb, .inr (Rect.WholeRows.wholeWords ⟨by decide, ?_, rfl, rfl⟩ _)⟩
    show cc0_transform_3 k0_off1_inb numel1_S1 pf i 1 * 1024 = 0
    rw [map_3 pf i hr]
    rfl
  · have he := hr.expert (ix1 (i 0))
    have hc := colBlk_le ((pf 1 : IVec S72 32) (ix1 (i 0))) (i 1)
    have hb : ∀ a, (cc0_transform_4 k0_off1_inb numel1_S1 pf i a + 1) * S1x1408x1024.size a ≤ S8x2816x1024.size a := fun a => by
      rw [map_4 pf i hr]
      fin_cases a
      · show (((pf 0 : IVec S72 32) (ix1 (i 0))).toNat + 1) * 1 ≤ 8; omega
      · show (colBlk ((pf 1 : IVec S72 32) (ix1 (i 0))) (i 1).val + 1) * 1408 ≤ 2816; omega
      · show (0 + 1) * 1024 ≤ 1024; omega
    refine ⟨hb, .inr (Rect.PackedRows.wholeWords (Rect.packedRows_of_rowAxis _ _ (by decide) ?_ ?_ rfl))⟩
    · show 2 ∣ cc0_transform_4 k0_off1_inb numel1_S1 pf i 1 * 1408
      exact Dvd.dvd.mul_left (by decide) _
    · show 2 ∣ 1408
      decide

/-- The tables the call finds are the arguments. -/
theorem tbl_eq (m : (ℓ : Loc nD τ sig) → Buf (Elt F) ℓ) (c : Dev nD) :
    (tbl m 0 : IVec S72 32) = m ((c.tc : Thread nD τ).loc main_arg4) ∧ (tbl m 1 : IVec S72 32) = m ((c.tc : Thread nD τ).loc main_arg5) := by
  obtain rfl : c = 0 := Subsingleton.elim _ _
  exact ⟨V_of_ne m 0 main_arg4 (by decide) (by decide) (by decide) (by decide) (by decide),
    V_of_ne m 0 main_arg5 (by decide) (by decide) (by decide) (by decide) (by decide)⟩

/-- Under the precondition the tables are in range, at any interpretation of the floats. -/
theorem inRange_tbl (m : (ℓ : Loc nD τ sig) → Buf (Elt F) ℓ)
    (h : InRange (m (((0 : Dev nD).tc : Thread nD τ).loc main_arg4)) (m (((0 : Dev nD).tc : Thread nD τ).loc main_arg5))) :
    InRange (tbl m 0) (tbl m 1) := by
  rw [(tbl_eq m 0).1, (tbl_eq m 0).2]; exact h

/-- The idealized call's frame. -/
theorem frame_ideal : Cert.quiescent_Kernel2Ideal := fun m g h =>
  run_frame (F := Ideal) m g (ok_of _ (inRange_tbl m (inRange_of _ _ _ _ _ _ _ (h 0))))

end Cert.Moe

end
-- ==== Proof.MoeBits.lean ====
/-
  The frame of the grouped experts' call at the machine's floats, from the idealized call's run, which has the same text.
-/
module

public import proofs.«01_k».proof.Proof.MoeTables
public import proofs.«01_k».proof.Proof.Gen.Kernel2

@[expose] public section

set_option maxRecDepth 16384

noncomputable section

namespace Cert.Moe

open Idealize.ShloMosaic Idealize.ShloMosaic.TcCoe
open Idealize.SL.Sem

variable [i1 : Cert.Kernel2.Facts] [i2 : Cert.Kernel2Ideal.Facts]
set_option maxHeartbeats 400000 in
/-- The two programs have the same bodies. -/
theorem bodies_eq : Cert.Kernel2.defs₀ (F := Bits) = Cert.Kernel2Ideal.defs₀ (F := Bits) := by
  unfold Cert.Kernel2.defs₀ Cert.Kernel2Ideal.defs₀
  refine congrArg Defs.onTc ?_
  funext l a
  match l, a with
  | 0, (t, s) => rfl

set_option maxHeartbeats 400000 in
/-- The two programs have the same declarations. -/
theorem defs_eq : Cert.Kernel2.defs (F := Bits) = Cert.Kernel2Ideal.defs (F := Bits) :=
  congrArg (Pipeline.defs (Cert.Kernel2Ideal.pcfgs (F := Bits))) bodies_eq

set_option maxHeartbeats 400000 in
/-- The call's frame: the same run, at the machine's floats. -/
theorem frame_kernel : Cert.quiescent_Kernel2 := fun m g h => by
  have hr : InRange (m (((0 : Dev Cert.Kernel2.nD).tc : Thread Cert.Kernel2.nD Cert.Kernel2.τ).loc Cert.Kernel2.main_arg4)) (m (((0 : Dev Cert.Kernel2.nD).tc : Thread Cert.Kernel2.nD Cert.Kernel2.τ).loc Cert.Kernel2.main_arg5)) :=
    inRange_of _ _ _ _ _ _ _ (h 0)
  rw [defs_eq]
  exact run_frame (F := Bits) m g (ok_of _ (inRange_tbl (F := Bits) m hr))
end Cert.Moe

end
-- ==== Proof.MoeBlk.lean ====
/-
  The blocks of the grouped experts' call in terms of the launched arrays: point `t` works on tile `t / 2` and on column
  block `t % 2` of its expert's weights.
-/
module

public import proofs.«01_k».proof.Proof.MoeTables
public import Idealize.ShloMosaic.Lib.Pipeline.ValueKit
public import Idealize.ShloMosaic.Lib.Pointwise
public import Idealize.ShloMosaic.Lib.IdealHost

@[expose] public section

set_option maxRecDepth 16384

noncomputable section

namespace Cert.Moe

open Idealize.ShloMosaic Idealize.ShloMosaic.TcCoe
open Idealize.SL.Sem
open Cert.Kernel2Ideal Cert.Kernel2Ideal.Gen

/-! ## The arrays the host prepares -/

section
variable (m : (ℓ : Loc nD τ sig) → Buf (Elt Ideal) ℓ) (c : Dev nD)

/-- The launched arguments. -/
def argX : FVec Ideal S294912x128 .f32 := m ((c : Thread nD τ).loc main_arg0)
def argG : FVec Ideal S1024 .f32 := m ((c : Thread nD τ).loc main_arg1)
def argU : FVec Ideal S1x8x1024x5632 .f32 := m ((c : Thread nD τ).loc main_arg2)
def argD : FVec Ideal S1x8x2816x1024 .f32 := m ((c : Thread nD τ).loc main_arg3)
def argE : IVec S72 32 := m ((c : Thread nD τ).loc main_arg4)
def argV : IVec S72 32 := m ((c : Thread nD τ).loc main_arg5)
def argS : FVec Ideal S36864x1 .f32 := m ((c : Thread nD τ).loc main_arg6)

theorem V_x : (V m c main_arg0 : FVec Ideal S294912x128 .f32) = argX m c :=
  V_of_ne m c main_arg0 (by decide) (by decide) (by decide) (by decide) (by decide)
theorem V_s : (V m c main_arg6 : FVec Ideal S36864x1 .f32) = argS m c :=
  V_of_ne m c main_arg6 (by decide) (by decide) (by decide) (by decide) (by decide)
theorem V_g : (V m c main_v4 : FVec Ideal S1x1024 .f32) = shapeCast S1x1024 (argG m c) shapeCasts_S1024_S1x1024 := by
  show StableHlo.after hostOps0 _ (Proc.devRef .tc main_v4) = _
  after_results
  rfl
theorem V_u : (V m c main_v1 : FVec Ideal S8x1024x5632 .bf16)
    = truncf .bf16 (shapeCast S8x1024x5632 (argU m c) shapeCasts_S1x8x1024x5632_S8x1024x5632) bitsLt_bf16_f32 := by
  show StableHlo.after hostOps0 _ (Proc.devRef .tc main_v1) = _
  after_results
  rfl
theorem V_d : (V m c main_v3 : FVec Ideal S8x2816x1024 .bf16)
    = truncf .bf16 (shapeCast S8x2816x1024 (argD m c) shapeCasts_S1x8x2816x1024_S8x2816x1024) bitsLt_bf16_f32 := by
  show StableHlo.after hostOps0 _ (Proc.devRef .tc main_v3) = _
  after_results
  rfl

theorem V_g_at (k : Fin 1024) : (V m c main_v4 : FVec Ideal S1x1024 .f32) (ix2 0 k) = argG m c (ix1 k) := by
  rw [V_g]; pointwise
theorem V_u_at (e : Fin 8) (k : Fin 1024) (j : Fin 5632) : (V m c main_v1 : FVec Ideal S8x1024x5632 .bf16) (ix3 e k j) = argU m c (ix4 0 e k j) := by
  rw [V_u]; pointwise
theorem V_d_at (e : Fin 8) (k : Fin 2816) (j : Fin 1024) : (V m c main_v3 : FVec Ideal S8x2816x1024 .bf16) (ix3 e k j) = argD m c (ix4 0 e k j) := by
  rw [V_d]; pointwise
end

/-! ## The blocks -/

/-- The tile and the column block of a point. -/
theorem coord (t : Fin grid0.N) : (grid0.coords t 0).val = t.val / 2 ∧ (grid0.coords t 1).val = t.val % 2 := by
  have ht : t.val < 144 := Nat.lt_of_lt_of_eq t.isLt N_0
  have e0 : (grid0.coords t 0).val = t.val / 2 % 72 := Pipeline.Grid.coords_val t 0 (by decide) rfl
  have e1 : (grid0.coords t 1).val = t.val / 1 % 2 := Pipeline.Grid.coords_val t 1 (by decide) rfl
  omega

variable (m : (ℓ : Loc nD τ sig) → Buf (Elt Ideal) ℓ) (c : Dev nD)

/-- A block reads its array where it lies. -/
theorem blk_read (hO : Ok m) (w : Fin (cfgM m hO).W) (t : Fin (cfgM m hO).N) (y) :
    blkOf m hO c w t y = (((cfgM m hO).win w).blk t).view.read (Elt Ideal) (V m c (Pipeline.arrRef spec0 w)) y := rfl

theorem at_0 (hO : Ok m) (t : Fin (cfgM m hO).N) (ht : t.val < 144) (r : Fin 4096) (l : Fin 128) :
    (show Vec Ideal S4096x128 .f32 from blkOf m hO c 0 t) (ix2 r l) = argX m c (ix2 ⟨t.val / 2 * 4096 + r.val, by omega⟩ l) := by
  rw [← V_x]
  show (V m c main_arg0 : FVec Ideal S294912x128 .f32) ((((cfgM m hO).win 0).blk t).view.emb (ix2 r l)) = _
  refine congrArg (V m c main_arg0 : FVec Ideal S294912x128 .f32) (funext fun a => Fin.ext ?_)
  refine (Pipeline.Window.rect_emb_val ((cfgM m hO).win 0) t (ix2 r l) a rfl).trans ?_
  have e := (coord t).1
  fin_cases a
  · show (BitVec.ofNat 32 (grid0.coords t 0).val).toNat * 4096 + r.val = t.val / 2 * 4096 + r.val
    rw [e, BitVec.toNat_ofNat, Nat.mod_eq_of_lt (by omega)]
  · show 0 * 128 + l.val = l.val
    omega

theorem at_1 (hO : Ok m) (t : Fin (cfgM m hO).N) (k : Fin 1024) :
    (show Vec Ideal S1x1024 .f32 from blkOf m hO c 1 t) (ix2 0 k) = argG m c (ix1 k) := by
  rw [← V_g_at]
  show (V m c main_v4 : FVec Ideal S1x1024 .f32) ((((cfgM m hO).win 1).blk t).view.emb (ix2 0 k)) = _
  refine congrArg (V m c main_v4 : FVec Ideal S1x1024 .f32) (funext fun a => Fin.ext ?_)
  refine (Pipeline.Window.rect_emb_val ((cfgM m hO).win 1) t (ix2 0 k) a rfl).trans ?_
  fin_cases a
  · show 0 * 1 + 0 = 0
    rfl
  · show 0 * 1024 + k.val = k.val
    omega

/-- The table entries of a point's tile. -/
theorem tbl_at (t : Fin grid0.N) (ht : t.val < 144) :
    (tbl m 0 : IVec S72 32) (ix1 (grid0.coords t 0)) = argE m c (ix1 ⟨t.val / 2, by omega⟩)
    ∧ (tbl m 1 : IVec S72 32) (ix1 (grid0.coords t 0)) = argV m c (ix1 ⟨t.val / 2, by omega⟩) := by
  rw [(tbl_eq m c).1, (tbl_eq m c).2]
  have e : (ix1 (grid0.coords t 0) : S72.Idx) = ix1 ⟨t.val / 2, by omega⟩ := congrArg ix1 (Fin.ext (coord t).1)
  exact ⟨congrArg (argE m c) e, congrArg (argV m c) e⟩

/-- The body's flag is not zero exactly where the table's word is not. -/
theorem on_iff (t : Fin grid0.N) (ht : t.val < 144) : on m c (grid0.coords t) ↔ argV m c (ix1 ⟨t.val / 2, by omega⟩) ≠ 0#32 := by
  have e : flagOf (F := Ideal) c (grid0.coords t) (tbl m 1) = argV m c (ix1 ⟨t.val / 2, by omega⟩) := by
    rw [← (tbl_at m c t ht).2]
    exact (word_at (tbl m) (grid0.coords t)).2
  unfold on
  rw [e]
  generalize argV m c (ix1 ⟨t.val / 2, by omega⟩) = v
  show (BitVec.ofBool (BitVec.setWidth 32 (BitVec.ofBool (v != 0#32)) != 0#32) = 1#1) ↔ _
  by_cases h : v = 0#32
  · subst h; decide
  · have hb : (v != 0#32) = true := by simpa using h
    rw [hb]
    exact ⟨fun _ => h, fun _ => by decide⟩

/-- The blocks of the weights a tile in use reads: its expert's, at the grid's column block. -/
theorem index_on (hO : Ok m) (hr : InRange (tbl m 0) (tbl m 1)) (t : Fin (cfgM m hO).N) (ht : t.val < 144) (e : Fin 8)
    (he : (argE m c (ix1 ⟨t.val / 2, by omega⟩)).toNat = e.val) (hv : argV m c (ix1 ⟨t.val / 2, by omega⟩) = 1#32) :
    ((cfgM m hO).win 2).index t = ![e.val, 0, t.val % 2] ∧ ((cfgM m hO).win 3).index t = ![e.val, 0, 2 + t.val % 2]
    ∧ ((cfgM m hO).win 4).index t = ![e.val, t.val % 2, 0] := by
  have hc : colBlk 1#32 (grid0.coords t 1).val = t.val % 2 := (coord t).2
  refine ⟨(map_2 (tbl m) (grid0.coords t) hr).trans ?_, (map_3 (tbl m) (grid0.coords t) hr).trans ?_, (map_4 (tbl m) (grid0.coords t) hr).trans ?_⟩ <;>
    rw [(tbl_at m c t ht).1, (tbl_at m c t ht).2, he, hv, hc]

/-- A tile in use reads the gate's columns of its expert. -/
theorem at_2 (hO : Ok m) (hr : InRange (tbl m 0) (tbl m 1)) (t : Fin (cfgM m hO).N) (ht : t.val < 144) (e : Fin 8)
    (he : (argE m c (ix1 ⟨t.val / 2, by omega⟩)).toNat = e.val) (hv : argV m c (ix1 ⟨t.val / 2, by omega⟩) = 1#32) (k : Fin 1024) (j : Fin 1408) :
    (show Vec Ideal S1x1024x1408 .bf16 from blkOf m hO c 2 t) (ix3 0 k j) = argU m c (ix4 0 e k ⟨t.val % 2 * 1408 + j.val, by omega⟩) := by
  rw [← V_u_at]
  show (V m c main_v1 : FVec Ideal S8x1024x5632 .bf16) ((((cfgM m hO).win 2).blk t).view.emb (ix3 0 k j)) = _
  refine congrArg (V m c main_v1 : FVec Ideal S8x1024x5632 .bf16) (funext fun a => Fin.ext ?_)
  refine (Pipeline.Window.rect_emb_val ((cfgM m hO).win 2) t (ix3 0 k j) a rfl).trans ?_
  rw [(index_on m c hO hr t ht e he hv).1]
  fin_cases a
  · show e.val * 1 + 0 = e.val
    omega
  · show 0 * 1024 + k.val = k.val
    omega
  · show t.val % 2 * 1408 + j.val = t.val % 2 * 1408 + j.val
    omega

/-- The other factor's columns. -/
theorem at_3 (hO : Ok m) (hr : InRange (tbl m 0) (tbl m 1)) (t : Fin (cfgM m hO).N) (ht : t.val < 144) (e : Fin 8)
    (he : (argE m c (ix1 ⟨t.val / 2, by omega⟩)).toNat = e.val) (hv : argV m c (ix1 ⟨t.val / 2, by omega⟩) = 1#32) (k : Fin 1024) (j : Fin 1408) :
    (show Vec Ideal S1x1024x1408 .bf16 from blkOf m hO c 3 t) (ix3 0 k j) = argU m c (ix4 0 e k ⟨2816 + (t.val % 2 * 1408 + j.val), by omega⟩) := by
  rw [← V_u_at]
  show (V m c main_v1 : FVec Ideal S8x1024x5632 .bf16) ((((cfgM m hO).win 3).blk t).view.emb (ix3 0 k j)) = _
  refine congrArg (V m c main_v1 : FVec Ideal S8x1024x5632 .bf16) (funext fun a => Fin.ext ?_)
  refine (Pipeline.Window.rect_emb_val ((cfgM m hO).win 3) t (ix3 0 k j) a rfl).trans ?_
  rw [(index_on m c hO hr t ht e he hv).2.1]
  fin_cases a
  · show e.val * 1 + 0 = e.val
    omega
  · show 0 * 1024 + k.val = k.val
    omega
  · show (2 + t.val % 2) * 1408 + j.val = 2816 + (t.val % 2 * 1408 + j.val)
    omega

/-- The second weights' rows. -/
theorem at_4 (hO : Ok m) (hr : InRange (tbl m 0) (tbl m 1)) (t : Fin (cfgM m hO).N) (ht : t.val < 144) (e : Fin 8)
    (he : (argE m c (ix1 ⟨t.val / 2, by omega⟩)).toNat = e.val) (hv : argV m c (ix1 ⟨t.val / 2, by omega⟩) = 1#32) (k : Fin 1408) (j : Fin 1024) :
    (show Vec Ideal S1x1408x1024 .bf16 from blkOf m hO c 4 t) (ix3 0 k j) = argD m c (ix4 0 e ⟨t.val % 2 * 1408 + k.val, by omega⟩ j) := by
  rw [← V_d_at]
  show (V m c main_v3 : FVec Ideal S8x2816x1024 .bf16) ((((cfgM m hO).win 4).blk t).view.emb (ix3 0 k j)) = _
  refine congrArg (V m c main_v3 : FVec Ideal S8x2816x1024 .bf16) (funext fun a => Fin.ext ?_)
  refine (Pipeline.Window.rect_emb_val ((cfgM m hO).win 4) t (ix3 0 k j) a rfl).trans ?_
  rw [(index_on m c hO hr t ht e he hv).2.2]
  fin_cases a
  · show e.val * 1 + 0 = e.val
    omega
  · show t.val % 2 * 1408 + k.val = t.val % 2 * 1408 + k.val
    omega
  · show 0 * 1024 + j.val = j.val
    omega

theorem at_5 (hO : Ok m) (t : Fin (cfgM m hO).N) (ht : t.val < 144) (r : Fin 512) :
    (show Vec Ideal S512x1 .f32 from blkOf m hO c 5 t) (ix2 r 0) = argS m c (ix2 ⟨t.val / 2 * 512 + r.val, by omega⟩ 0) := by
  rw [← V_s]
  show (V m c main_arg6 : FVec Ideal S36864x1 .f32) ((((cfgM m hO).win 5).blk t).view.emb (ix2 r 0)) = _
  refine congrArg (V m c main_arg6 : FVec Ideal S36864x1 .f32) (funext fun a => Fin.ext ?_)
  refine (Pipeline.Window.rect_emb_val ((cfgM m hO).win 5) t (ix2 r 0) a rfl).trans ?_
  have e := (coord t).1
  fin_cases a
  · show (BitVec.ofNat 32 (grid0.coords t 0).val).toNat * 512 + r.val = t.val / 2 * 512 + r.val
    rw [e, BitVec.toNat_ofNat, Nat.mod_eq_of_lt (by omega)]
  · show 0 * 1 + 0 = 0
    rfl

/-- Where an entry of the output's block lies in the result. -/
theorem at_6 (hO : Ok m) (t : Fin (cfgM m hO).N) (ht : t.val < 144) (r : Fin 4096) (l : Fin 128) :
    (((cfgM m hO).win 6).blk t).view.emb (ix2 r l) = (ix2 (⟨t.val / 2 * 4096 + r.val, by omega⟩ : Fin 294912) l : S294912x128.Idx) := by
  refine funext fun a => Fin.ext ?_
  refine (Pipeline.Window.rect_emb_val ((cfgM m hO).win 6) t (ix2 r l) a rfl).trans ?_
  have e := (coord t).1
  fin_cases a
  · show (BitVec.ofNat 32 (grid0.coords t 0).val).toNat * 4096 + r.val = t.val / 2 * 4096 + r.val
    rw [e, BitVec.toNat_ofNat, Nat.mod_eq_of_lt (by omega)]
  · show 0 * 128 + l.val = l.val
    omega

end Cert.Moe

end
-- ==== Proof.MoeRef.lean ====
/- The reference's grouped experts read at one entry. -/
module

public import proofs.«01_k».proof.Proof.Gen.Reference2Ideal.Read
public import Idealize.ShloMosaic.Lib.Pointwise

@[expose] public section

set_option maxRecDepth 16384

noncomputable section

namespace Cert.MoeRef

open Idealize.ShloMosaic Idealize.ShloMosaic.TcCoe Idealize.SL.Sem
open Cert.Reference2Ideal Cert.Reference2Ideal.Gen Cert.Reference2Ideal.Read

/-- A sum over the last of two axes is the sum along that axis, at any sizes. -/
theorem reduce_add {n0 n1 : ℕ} {u : Shape} (x : (⟨2, ![n0, n1]⟩ : Shape).Idx → EReal) (init : u.Idx → EReal)
    (h : (⟨2, ![n0, n1]⟩ : Shape).ReducesTo [1] ⟨1, ![n0]⟩) (hu : 0 < u.numel) (a : Fin n0) :
    Host.reduceAdd (F := Ideal) (φ := .f32) x init h hu (ix1 a) = init (Shape.Idx.first hu) + ∑ k : Fin n1, x (ix2 a k) := by
  pointwise

/-- An entry of the row `i` of the activations, read as `1024` numbers. -/
def row (x : FVec Ideal S294912x128 .f32) (i : Fin 36864) (k : Fin 1024) : EReal := x (ix2 ⟨8 * i.val + k.val / 128, by omega⟩ ⟨k.val % 128, by omega⟩)

/-- A normalised entry of the row. -/
def hOf (x : FVec Ideal S294912x128 .f32) (g : FVec Ideal S1024 .f32) (i : Fin 36864) (k : Fin 1024) : EReal :=
  row x i k * Ideal.rsqrt (Ideal.div (∑ q : Fin 1024, row x i q * row x i q) (Ideal.ofBits .f32 0x44800000#32) + Ideal.ofBits .f32 0x358637BD#32) * g (ix1 k)

theorem v0_at (x : FVec Ideal S294912x128 .f32) (i : Fin 36864) (k : Fin 1024) : val_main_v0 (F := Ideal) x (ix2 i k) = row x i k := by
  rw [val_main_v0_apply]
  refine congrArg x ?_
  funext a
  fin_cases a <;> refine Fin.ext ?_
  · show (i.val * 1024 + k.val) / 128 = 8 * i.val + k.val / 128; omega
  · show (i.val * 1024 + k.val) % 128 = k.val % 128; omega

theorem v2_at (x : FVec Ideal S294912x128 .f32) (i : Fin 36864) : val_main_v2 (F := Ideal) x (ix1 i) = ∑ q : Fin 1024, row x i q * row x i q := by
  unfold val_main_v2
  refine (reduce_add (n0 := 36864) (n1 := 1024) (val_main_v1 (F := Ideal) x) (val_main_cst (F := Ideal)) reducesTo_S36864x1024_S36864_d1 h_S_ i).trans ?_
  have e : val_main_cst (F := Ideal) (Shape.Idx.first h_S_) = (0 : EReal) := by pointwise [val_main_cst]
  rw [e, zero_add]
  refine Finset.sum_congr rfl fun q _ => ?_
  rw [val_main_v1_apply, v0_at]
  rfl

theorem v13_at (x : FVec Ideal S294912x128 .f32) (g : FVec Ideal S1024 .f32) (i : Fin 36864) (k : Fin 1024) :
    val_main_v13 (F := Ideal) x g (ix2 i k) = hOf x g i k := by
  unfold hOf
  rw [← v2_at, ← v0_at]
  generalize hv : val_main_v2 (F := Ideal) x = v
  pointwise [val_main_v13, val_main_v12, val_main_v11, val_main_v10, val_main_v9, val_main_v8, val_main_v7, val_main_v6, val_main_v5, val_main_v4, val_main_v3, val_main_cst_0, val_main_cst_1, hv]

end Cert.MoeRef

end
-- ==== Proof.MoeRef2.lean ====
/- The reference's expert layers, its gates, and its result at one entry. -/
module

public import proofs.«01_k».proof.Proof.MoeRef

@[expose] public section

set_option maxRecDepth 16384

noncomputable section

namespace Cert.MoeRef

open Idealize.ShloMosaic Idealize.ShloMosaic.TcCoe Idealize.SL.Sem
open Cert.Reference2Ideal Cert.Reference2Ideal.Gen Cert.Reference2Ideal.Read

/-- One expert's layer on normalised rows, as the reference computes it. -/
def layer (h : FVec Ideal S36864x1024 .f32) (u : FVec Ideal S1024x5632 .f32) (d : FVec Ideal S2816x1024 .f32) : FVec Ideal S36864x1024 .f32 :=
  Host.dotGeneral dot_S36864x2816_S2816x1024_S36864x1024_1_0_0_1_n_n none
    (mulf (mulf (extractStridedSlice S36864x2816 ![0, 0] (Host.dotGeneral dot_S36864x1024_S1024x5632_S36864x5632_1_0_0_1_n_n none h u) slices_S36864x5632_S36864x2816_0_0)
        (Host.divf (broadcastInDim S36864x2816 ![] bcast_S_S36864x2816 (constant S_ .f32 0x3F800000#32))
          (addf (broadcastInDim S36864x2816 ![] bcast_S_S36864x2816 (constant S_ .f32 0x3F800000#32))
            (Host.exp (Host.negf (extractStridedSlice S36864x2816 ![0, 0] (Host.dotGeneral dot_S36864x1024_S1024x5632_S36864x5632_1_0_0_1_n_n none h u) slices_S36864x5632_S36864x2816_0_0))))))
      (extractStridedSlice S36864x2816 ![0, 2816] (Host.dotGeneral dot_S36864x1024_S1024x5632_S36864x5632_1_0_0_1_n_n none h u) slices_S36864x5632_S36864x2816_0_2816)) d

/-- The gate's nonlinearity. -/
def silu (a : EReal) : EReal := a * Ideal.div (Ideal.ofBits .f32 0x3F800000#32) (Ideal.ofBits .f32 0x3F800000#32 + Ideal.exp (-a))

/-- One expert's layer at one entry, on a normalised row. -/
def yOf (h : Fin 1024 → EReal) (w2 : FVec Ideal S1x8x1024x5632 .f32) (w3 : FVec Ideal S1x8x2816x1024 .f32) (e : Fin 8) (n : Fin 1024) : EReal :=
  ∑ j : Fin 2816, silu (∑ k : Fin 1024, h k * w2 (ix4 0 e k ⟨j.val, by omega⟩)) * (∑ k : Fin 1024, h k * w2 (ix4 0 e k ⟨2816 + j.val, by omega⟩)) * w3 (ix4 0 e j n)

theorem up_at (h : FVec Ideal S36864x1024 .f32) (u : FVec Ideal S1024x5632 .f32) (i : Fin 36864) (j : Fin 5632) :
    Host.dotGeneral (F := Ideal) dot_S36864x1024_S1024x5632_S36864x5632_1_0_0_1_n_n none h u (ix2 i j) = ∑ k : Fin 1024, h (ix2 i k) * u (ix2 k j) := by
  pointwise

theorem down_at (a : FVec Ideal S36864x2816 .f32) (d : FVec Ideal S2816x1024 .f32) (i : Fin 36864) (n : Fin 1024) :
    Host.dotGeneral (F := Ideal) dot_S36864x2816_S2816x1024_S36864x1024_1_0_0_1_n_n none a d (ix2 i n) = ∑ k : Fin 2816, a (ix2 i k) * d (ix2 k n) := by
  pointwise

theorem layer_at (h : FVec Ideal S36864x1024 .f32) (u : FVec Ideal S1024x5632 .f32) (d : FVec Ideal S2816x1024 .f32) (i : Fin 36864) (n : Fin 1024) :
    layer h u d (ix2 i n) = ∑ j : Fin 2816, silu (∑ k : Fin 1024, h (ix2 i k) * u (ix2 k ⟨j.val, by omega⟩)) * (∑ k : Fin 1024, h (ix2 i k) * u (ix2 k ⟨2816 + j.val, by omega⟩)) * d (ix2 j n) := by
  unfold layer
  rw [down_at]
  refine Finset.sum_congr rfl fun j _ => ?_
  simp only [← up_at]
  generalize Host.dotGeneral (F := Ideal) dot_S36864x1024_S1024x5632_S36864x5632_1_0_0_1_n_n none h u = v
  pointwise [silu]

/-- The first weights of expert `e`, cut out. -/
theorem cut_up (w : FVec Ideal S1x8x1024x5632 .f32) (e : Fin 8) (o : Fin 4 → ℕ) (ho : o = ![0, e.val, 0, 0]) (hs : S1x8x1024x5632.Slices o S1x1x1024x5632) (hc) (k : Fin 1024) (j : Fin 5632) :
    shapeCast S1024x5632 (extractStridedSlice S1x1x1024x5632 o w hs) hc (ix2 k j) = w (ix4 0 e k j) := by
  subst ho
  pointwise
theorem cut_down (w : FVec Ideal S1x8x2816x1024 .f32) (e : Fin 8) (o : Fin 4 → ℕ) (ho : o = ![0, e.val, 0, 0]) (hs : S1x8x2816x1024.Slices o S1x1x2816x1024) (hc) (k : Fin 2816) (j : Fin 1024) :
    shapeCast S2816x1024 (extractStridedSlice S1x1x2816x1024 o w hs) hc (ix2 k j) = w (ix4 0 e k j) := by
  subst ho
  pointwise
theorem cut_gate (G : FVec Ideal S36864x8 .f32) (e : Fin 8) (o : Fin 2 → ℕ) (ho : o = ![0, e.val]) (hs : S36864x8.Slices o S36864x1) (hb) (i : Fin 36864) (n : Fin 1024) :
    broadcastInDim S36864x1024 ![0, 1] hb (extractStridedSlice S36864x1 o G hs) (ix2 i n) = G (ix2 i e) := by
  subst ho
  pointwise

/-- One expert's gated layer at one entry. -/
theorem term (H : FVec Ideal S36864x1024 .f32) (G : FVec Ideal S36864x8 .f32) (w2 : FVec Ideal S1x8x1024x5632 .f32) (w3 : FVec Ideal S1x8x2816x1024 .f32)
    (e : Fin 8) (o1 : Fin 2 → ℕ) (ho1 : o1 = ![0, e.val]) (o2 o3 : Fin 4 → ℕ) (ho2 : o2 = ![0, e.val, 0, 0]) (ho3 : o3 = ![0, e.val, 0, 0])
    (hs1 : S36864x8.Slices o1 S36864x1) (hs2 : S1x8x1024x5632.Slices o2 S1x1x1024x5632) (hs3 : S1x8x2816x1024.Slices o3 S1x1x2816x1024)
    (hc2 : S1x1x1024x5632.ShapeCasts S1024x5632) (hc3 : S1x1x2816x1024.ShapeCasts S2816x1024) (hb) (i : Fin 36864) (n : Fin 1024) :
    mulf (F := Ideal) (φ := .f32) (broadcastInDim S36864x1024 ![0, 1] hb (extractStridedSlice S36864x1 o1 G hs1))
        (layer H (shapeCast S1024x5632 (extractStridedSlice S1x1x1024x5632 o2 w2 hs2) hc2) (shapeCast S2816x1024 (extractStridedSlice S1x1x2816x1024 o3 w3 hs3) hc3)) (ix2 i n)
      = G (ix2 i e) * yOf (fun k => H (ix2 i k)) w2 w3 e n := by
  show _ * _ = _
  rw [cut_gate G e o1 ho1 hs1 hb i n, layer_at]
  unfold yOf
  simp only [cut_up w2 e o2 ho2 hs2 hc2, cut_down w3 e o3 ho3 hs3 hc3]

variable (x : FVec Ideal S294912x128 .f32) (g : FVec Ideal S1024 .f32) (w2 : FVec Ideal S1x8x1024x5632 .f32) (w3 : FVec Ideal S1x8x2816x1024 .f32)
  (te tv : IVec S72 32) (sc : FVec Ideal S36864x1 .f32)

/-- The gate of row `i` for expert `e`. -/
def gate (i : Fin 36864) (e : Fin 8) : EReal := val_main_v25 (F := Ideal) te tv sc (ix2 i e)

/-- The gated layer of expert `e` at one entry. -/
def part (i : Fin 36864) (n : Fin 1024) (e : Fin 8) : EReal := gate te tv sc i e * yOf (hOf x g i) w2 w3 e n

theorem part_0 (i : Fin 36864) (n : Fin 1024) : val_main_v39 (F := Ideal) x g w2 w3 te tv sc (ix2 i n) = part x g w2 w3 te tv sc i n 0 := by
  refine (term (val_main_v13 (F := Ideal) x g) (val_main_v25 (F := Ideal) te tv sc) w2 w3 0 ![0, 0] rfl ![0, 0, 0, 0] ![0, 0, 0, 0] rfl rfl
    slices_S36864x8_S36864x1_0_0 slices_S1x8x1024x5632_S1x1x1024x5632_0_0_0_0 slices_S1x8x2816x1024_S1x1x2816x1024_0_0_0_0
    shapeCasts_S1x1x1024x5632_S1024x5632 shapeCasts_S1x1x2816x1024_S2816x1024 bcast_S36864x1_S36864x1024_0_1 i n).trans ?_
  simp only [v13_at]
  rfl
theorem part_1 (i : Fin 36864) (n : Fin 1024) : val_main_v53 (F := Ideal) x g w2 w3 te tv sc (ix2 i n) = part x g w2 w3 te tv sc i n 1 := by
  refine (term (val_main_v13 (F := Ideal) x g) (val_main_v25 (F := Ideal) te tv sc) w2 w3 1 ![0, 1] rfl ![0, 1, 0, 0] ![0, 1, 0, 0] rfl rfl
    slices_S36864x8_S36864x1_0_1 slices_S1x8x1024x5632_S1x1x1024x5632_0_1_0_0 slices_S1x8x2816x1024_S1x1x2816x1024_0_1_0_0
    shapeCasts_S1x1x1024x5632_S1024x5632 shapeCasts_S1x1x2816x1024_S2816x1024 bcast_S36864x1_S36864x1024_0_1 i n).trans ?_
  simp only [v13_at]
  rfl
theorem part_2 (i : Fin 36864) (n : Fin 1024) : val_main_v67 (F := Ideal) x g w2 w3 te tv sc (ix2 i n) = part x g w2 w3 te tv sc i n 2 := by
  refine (term (val_main_v13 (F := Ideal) x g) (val_main_v25 (F := Ideal) te tv sc) w2 w3 2 ![0, 2] rfl ![0, 2, 0, 0] ![0, 2, 0, 0] rfl rfl
    slices_S36864x8_S36864x1_0_2 slices_S1x8x1024x5632_S1x1x1024x5632_0_2_0_0 slices_S1x8x2816x1024_S1x1x2816x1024_0_2_0_0
    shapeCasts_S1x1x1024x5632_S1024x5632 shapeCasts_S1x1x2816x1024_S2816x1024 bcast_S36864x1_S36864x1024_0_1 i n).trans ?_
  simp only [v13_at]
  rfl
theorem part_3 (i : Fin 36864) (n : Fin 1024) : val_main_v81 (F := Ideal) x g w2 w3 te tv sc (ix2 i n) = part x g w2 w3 te tv sc i n 3 := by
  refine (term (val_main_v13 (F := Ideal) x g) (val_main_v25 (F := Ideal) te tv sc) w2 w3 3 ![0, 3] rfl ![0, 3, 0, 0] ![0, 3, 0, 0] rfl rfl
    slices_S36864x8_S36864x1_0_3 slices_S1x8x1024x5632_S1x1x1024x5632_0_3_0_0 slices_S1x8x2816x1024_S1x1x2816x1024_0_3_0_0
    shapeCasts_S1x1x1024x5632_S1024x5632 shapeCasts_S1x1x2816x1024_S2816x1024 bcast_S36864x1_S36864x1024_0_1 i n).trans ?_
  simp only [v13_at]
  rfl
theorem part_4 (i : Fin 36864) (n : Fin 1024) : val_main_v95 (F := Ideal) x g w2 w3 te tv sc (ix2 i n) = part x g w2 w3 te tv sc i n 4 := by
  refine (term (val_main_v13 (F := Ideal) x g) (val_main_v25 (F := Ideal) te tv sc) w2 w3 4 ![0, 4] rfl ![0, 4, 0, 0] ![0, 4, 0, 0] rfl rfl
    slices_S36864x8_S36864x1_0_4 slices_S1x8x1024x5632_S1x1x1024x5632_0_4_0_0 slices_S1x8x2816x1024_S1x1x2816x1024_0_4_0_0
    shapeCasts_S1x1x1024x5632_S1024x5632 shapeCasts_S1x1x2816x1024_S2816x1024 bcast_S36864x1_S36864x1024_0_1 i n).trans ?_
  simp only [v13_at]
  rfl
theorem part_5 (i : Fin 36864) (n : Fin 1024) : val_main_v109 (F := Ideal) x g w2 w3 te tv sc (ix2 i n) = part x g w2 w3 te tv sc i n 5 := by
  refine (term (val_main_v13 (F := Ideal) x g) (val_main_v25 (F := Ideal) te tv sc) w2 w3 5 ![0, 5] rfl ![0, 5, 0, 0] ![0, 5, 0, 0] rfl rfl
    slices_S36864x8_S36864x1_0_5 slices_S1x8x1024x5632_S1x1x1024x5632_0_5_0_0 slices_S1x8x2816x1024_S1x1x2816x1024_0_5_0_0
    shapeCasts_S1x1x1024x5632_S1024x5632 shapeCasts_S1x1x2816x1024_S2816x1024 bcast_S36864x1_S36864x1024_0_1 i n).trans ?_
  simp only [v13_at]
  rfl
theorem part_6 (i : Fin 36864) (n : Fin 1024) : val_main_v123 (F := Ideal) x g w2 w3 te tv sc (ix2 i n) = part x g w2 w3 te tv sc i n 6 := by
  refine (term (val_main_v13 (F := Ideal) x g) (val_main_v25 (F := Ideal) te tv sc) w2 w3 6 ![0, 6] rfl ![0, 6, 0, 0] ![0, 6, 0, 0] rfl rfl
    slices_S36864x8_S36864x1_0_6 slices_S1x8x1024x5632_S1x1x1024x5632_0_6_0_0 slices_S1x8x2816x1024_S1x1x2816x1024_0_6_0_0
    shapeCasts_S1x1x1024x5632_S1024x5632 shapeCasts_S1x1x2816x1024_S2816x1024 bcast_S36864x1_S36864x1024_0_1 i n).trans ?_
  simp only [v13_at]
  rfl
theorem part_7 (i : Fin 36864) (n : Fin 1024) : val_main_v137 (F := Ideal) x g w2 w3 te tv sc (ix2 i n) = part x g w2 w3 te tv sc i n 7 := by
  refine (term (val_main_v13 (F := Ideal) x g) (val_main_v25 (F := Ideal) te tv sc) w2 w3 7 ![0, 7] rfl ![0, 7, 0, 0] ![0, 7, 0, 0] rfl rfl
    slices_S36864x8_S36864x1_0_7 slices_S1x8x1024x5632_S1x1x1024x5632_0_7_0_0 slices_S1x8x2816x1024_S1x1x2816x1024_0_7_0_0
    shapeCasts_S1x1x1024x5632_S1024x5632 shapeCasts_S1x1x2816x1024_S2816x1024 bcast_S36864x1_S36864x1024_0_1 i n).trans ?_
  simp only [v13_at]
  rfl

/-- The reference's sum over the experts. -/
theorem v138_at (i : Fin 36864) (n : Fin 1024) : val_main_v138 (F := Ideal) x g w2 w3 te tv sc (ix2 i n) = ∑ e : Fin 8, part x g w2 w3 te tv sc i n e := by
  rw [val_main_v138_apply, val_main_v124_apply, val_main_v110_apply, val_main_v96_apply, val_main_v82_apply, val_main_v68_apply, val_main_v54_apply, val_main_v40_apply,
    part_0, part_1, part_2, part_3, part_4, part_5, part_6, part_7]
  have e : val_main_v26 (F := Ideal) (ix2 i n) = (0 : EReal) := by pointwise [val_main_v26, val_main_cst_3]
  rw [e, Fin.sum_univ_eight]
  show (((((((((0 : EReal) + _) + _) + _) + _) + _) + _) + _) + _) = _
  rw [zero_add]

/-- The gate, from the tables. -/
theorem gate_at (i : Fin 36864) (e : Fin 8) :
    gate te tv sc i e = FloatOps.uitofp (F := Ideal) .f32 (IntOp.cmpi .eq (te (ix1 ⟨i.val / 512, by omega⟩)) (BitVec.ofNat 32 e.val))
      * Scalar.select (IntOp.cmpi .ne (tv (ix1 ⟨i.val / 512, by omega⟩)) 0#32) (sc (ix2 i 0)) 0 := by
  unfold gate
  have e1 : val_main_v20 (F := Ideal) te (ix2 i e) = FloatOps.uitofp (F := Ideal) .f32 (IntOp.cmpi .eq (te (ix1 ⟨i.val / 512, by omega⟩)) (BitVec.ofNat 32 e.val)) := by
    pointwise [val_main_v20, val_main_v16, val_main_v15, val_main_v14, val_main_call0_v0, val_main_call0_v1, val_main_call0_v2, val_main_call0_v3, val_main_call0_v4]
  have e2 : val_main_v24 (F := Ideal) tv sc (ix2 i e) = Scalar.select (IntOp.cmpi .ne (tv (ix1 ⟨i.val / 512, by omega⟩)) 0#32) (sc (ix2 i 0)) (Ideal.ofBits .f32 0x00000000#32) := by
    pointwise [val_main_v24, val_main_v23, val_main_v22, val_main_v21, val_main_v19, val_main_v18, val_main_v17, val_main_call1_v0, val_main_call1_v1, val_main_cst_2, val_main_c]
    show Scalar.select _ _ (Ideal.ofBits .f32 0x00000000#32) = _
    rw [Ideal.ofBits_zero]
  rw [val_main_v25_apply, e1, e2, Ideal.ofBits_zero]
  rfl

theorem uitofp_bit (b : Bool) : FloatOps.uitofp (F := Ideal) .f32 (BitVec.ofBool b) = if b then (1 : EReal) else 0 := by
  cases b
  · show (((BitVec.ofBool false).toNat : ℝ) : EReal) = 0
    simp
  · show (((BitVec.ofBool true).toNat : ℝ) : EReal) = 1
    simp

/-- The gate of another expert is zero. -/
theorem gate_other (i : Fin 36864) (e : Fin 8) (h : (te (ix1 ⟨i.val / 512, by omega⟩)).toNat ≠ e.val) : gate te tv sc i e = 0 := by
  rw [gate_at]
  have hb : (te (ix1 ⟨i.val / 512, by omega⟩) == BitVec.ofNat 32 e.val) = false := by
    rw [beq_eq_false_iff_ne]
    intro hh
    refine h ?_
    rw [hh, BitVec.toNat_ofNat, Nat.mod_eq_of_lt (by omega)]
  show FloatOps.uitofp (F := Ideal) .f32 (BitVec.ofBool (te (ix1 ⟨i.val / 512, by omega⟩) == BitVec.ofNat 32 e.val)) * _ = _
  rw [hb, uitofp_bit, if_neg Bool.false_ne_true, zero_mul]

/-- The gate of a row whose tile is not in use is zero. -/
theorem gate_off (i : Fin 36864) (e : Fin 8) (h : tv (ix1 ⟨i.val / 512, by omega⟩) = 0#32) : gate te tv sc i e = 0 := by
  rw [gate_at, h]
  show _ * (0 : EReal) = 0
  rw [mul_zero]

/-- The gate of the row's own expert is the slot's scale. -/
theorem gate_own (i : Fin 36864) (e : Fin 8) (h : (te (ix1 ⟨i.val / 512, by omega⟩)).toNat = e.val) (hv : tv (ix1 ⟨i.val / 512, by omega⟩) = 1#32) :
    gate te tv sc i e = sc (ix2 i 0) := by
  rw [gate_at, hv]
  have hb : (te (ix1 ⟨i.val / 512, by omega⟩) == BitVec.ofNat 32 e.val) = true := by
    rw [beq_iff_eq]
    refine BitVec.eq_of_toNat_eq ?_
    rw [h, BitVec.toNat_ofNat, Nat.mod_eq_of_lt (by omega)]
  show FloatOps.uitofp (F := Ideal) .f32 (BitVec.ofBool (te (ix1 ⟨i.val / 512, by omega⟩) == BitVec.ofNat 32 e.val)) * sc (ix2 i 0) = _
  rw [hb, uitofp_bit, if_pos rfl, one_mul]

/-- The reference at a row whose tile is not in use. -/
theorem out_off (i : Fin 36864) (n : Fin 1024) (h : tv (ix1 ⟨i.val / 512, by omega⟩) = 0#32) :
    val_main_v138 (F := Ideal) x g w2 w3 te tv sc (ix2 i n) = 0 := by
  rw [v138_at]
  refine Finset.sum_eq_zero fun e _ => ?_
  unfold part
  rw [gate_off te tv sc i e h, zero_mul]

/-- The reference at a row whose tile is in use: its own expert's layer, scaled. -/
theorem out_on (i : Fin 36864) (n : Fin 1024) (e : Fin 8) (h : (te (ix1 ⟨i.val / 512, by omega⟩)).toNat = e.val) (hv : tv (ix1 ⟨i.val / 512, by omega⟩) = 1#32) :
    val_main_v138 (F := Ideal) x g w2 w3 te tv sc (ix2 i n) = sc (ix2 i 0) * yOf (hOf x g i) w2 w3 e n := by
  rw [v138_at, Finset.sum_eq_single e]
  · unfold part
    rw [gate_own te tv sc i e h hv]
  · intro b _ hb
    unfold part
    rw [gate_other te tv sc i b (fun hh => hb (Fin.ext (hh.symm.trans h))), zero_mul]
  · exact fun hh => absurd (Finset.mem_univ e) hh

/-- The result array at row `8 i + c` is entry `128 c + l` of row `i`. -/
theorem v139_at (i : Fin 36864) (c : Fin 8) (l : Fin 128) (r : Fin 294912) (hr : r.val = 8 * i.val + c.val) :
    val_main_v139 (F := Ideal) x g w2 w3 te tv sc (ix2 r l) = val_main_v138 (F := Ideal) x g w2 w3 te tv sc (ix2 i ⟨128 * c.val + l.val, by omega⟩) := by
  rw [val_main_v139_apply]
  refine congrArg _ ?_
  funext a
  fin_cases a <;> refine Fin.ext ?_
  · show (r.val * 128 + l.val) / 1024 = i.val; omega
  · show (r.val * 128 + l.val) % 1024 = 128 * c.val + l.val; omega

end Cert.MoeRef

end
-- ==== Proof.MoeMath.lean ====
/-
  What a block of the grouped experts' call holds, entry by entry, over the extended reals: the normalised rows, one
  tile of an expert's layer, and the scaled output.
-/
module

public import proofs.«01_k».proof.Proof.MoeStep
public import proofs.«01_k».proof.Proof.MoeRef2
public import Idealize.ShloMosaic.Lib.Pipeline.ValueKit
public import Idealize.ShloMosaic.Lib.Pointwise
public import Idealize.ShloMosaic.Lib.IdealHost

@[expose] public section

set_option maxRecDepth 16384

noncomputable section

namespace Cert.MoeMath

open Idealize.ShloMosaic Idealize.ShloMosaic.TcCoe
open Cert.Kernel2Ideal Cert.Kernel2Ideal.Gen
open Cert.Moe
open Cert.MoeRef (silu)

/-! ## Constants -/

/-- The number 1024. -/
theorem bits_1024 : Ideal.ofBits .f32 0x44800000#32 = ((1024 : ℝ) : EReal) := by
  simp [Ideal.ofBits, Ideal.ieee, -EReal.coe_mul]; norm_num
/-- The number 1/1024. -/
theorem bits_recip : Ideal.ofBits .f32 0x3A800000#32 = (((1024 : ℝ)⁻¹ : ℝ) : EReal) := by
  simp [Ideal.ofBits, Ideal.ieee, -EReal.coe_mul]; norm_num

/-- A division by 1024 is a product with its reciprocal. -/
theorem div_1024 (x : EReal) : Ideal.div x (Ideal.ofBits .f32 0x44800000#32) = x * Ideal.ofBits .f32 0x3A800000#32 := by
  rw [bits_1024, bits_recip, EReal.coe_inv]
  unfold Ideal.div
  rw [if_neg (by norm_num)]

/-- An exponential is not negative. -/
theorem exp_nonneg (x : EReal) : 0 ≤ Ideal.exp x := by
  induction x with
  | bot => exact le_refl _
  | top => exact le_top
  | coe r => exact EReal.coe_nonneg.mpr (Real.exp_pos r).le

/-- One plus an exponential is not zero. -/
theorem one_add_exp_ne (x : EReal) : (1 : EReal) + Ideal.exp x ≠ 0 :=
  ne_of_gt (lt_of_lt_of_le zero_lt_one (le_add_of_nonneg_right (exp_nonneg x)))

/-- The gate's nonlinearity as one quotient. -/
theorem silu_eq (a : EReal) : Ideal.div a (Ideal.ofBits .f32 0x3F800000#32 + Ideal.exp (Ideal.ofBits .f32 0x00000000#32 - a)) = silu a := by
  unfold silu
  rw [Ideal.ofBits_one_f32, Ideal.ofBits_zero, zero_sub, Ideal.mul_one_div (one_add_exp_ne _)]

/-! ## The normalised rows -/

/-- An entry of row `r` of a block, read as `1024` numbers. -/
def rowB (x : Vec Ideal S4096x128 .f32) (r : Fin 512) (k : Fin 1024) : EReal := x (ix2 ⟨8 * r.val + k.val / 128, by omega⟩ ⟨k.val % 128, by omega⟩)

/-- The factor of row `r`. -/
def fac (x : Vec Ideal S4096x128 .f32) (r : Fin 512) : EReal :=
  Ideal.rsqrt (Ideal.div (∑ q : Fin 1024, rowB x r q * rowB x r q) (Ideal.ofBits .f32 0x44800000#32) + Ideal.ofBits .f32 0x358637BD#32)

theorem lanes_at (x : Vec Ideal S4096x128 .f32) (c : Fin 8) (r : Fin 512) (l : Fin 128) :
    lanes x c (ix2 r l) = rowB x r ⟨c.val * 128 + l.val, by omega⟩ := by
  refine congrArg x ?_
  funext a
  fin_cases a <;> refine Fin.ext ?_
  · show 8 * r.val + c.val = 8 * r.val + (c.val * 128 + l.val) / 128; omega
  · show l.val = (c.val * 128 + l.val) % 128; omega

/-- The sum of squares of one lane group. -/
def sq (v : Vec Ideal S512x128 .f32) (r : Fin 512) : EReal := ∑ l : Fin 128, v (ix2 r l) * v (ix2 r l)

theorem sq_at (v : Vec Ideal S512x128 .f32) (r : Fin 512) : k0_pay14 (F := Ideal) v (ix2 r 0) = sq v r := by
  unfold sq
  pointwise [k0_pay14]
theorem six_at (v0 v1 v2 v3 v4 v5 : Vec Ideal S512x128 .f32) (r : Fin 512) :
    k0_pay13 (F := Ideal) v0 v1 v2 v3 v4 v5 (ix2 r 0) = 0 + sq v0 r + sq v1 r + sq v2 r + sq v3 r + sq v4 r + sq v5 r := by
  rw [← sq_at v0, ← sq_at v1, ← sq_at v2, ← sq_at v3, ← sq_at v4, ← sq_at v5, ← Ideal.ofBits_zero]
  rfl
theorem root_at (v : Vec Ideal S512x128 .f32) (s6 s7 : FVec Ideal S512x1 .f32) (r : Fin 512) :
    k0_pay15 (F := Ideal) v s6 s7 (ix2 r 0)
      = Ideal.rsqrt ((s6 (ix2 r 0) + s7 (ix2 r 0) + sq v r) * Ideal.ofBits .f32 0x3A800000#32 + Ideal.ofBits .f32 0x358637BD#32) := by
  rw [← sq_at v]
  rfl

/-- The eight groups' sums of squares are the row's. -/
theorem groups (x : Vec Ideal S4096x128 .f32) (r : Fin 512) :
    0 + sq (lanes x 0) r + sq (lanes x 1) r + sq (lanes x 2) r + sq (lanes x 3) r + sq (lanes x 4) r + sq (lanes x 5) r + sq (lanes x 6) r + sq (lanes x 7) r
      = ∑ q : Fin 1024, rowB x r q * rowB x r q := by
  rw [Fin.sum_univ_tiles 8 128 rfl, Fin.sum_univ_eight, zero_add]
  simp only [sq, lanes_at]

theorem inv_at (x : Vec Ideal S4096x128 .f32) (r : Fin 512) : Moe.inv (F := Ideal) x (ix2 r 0) = fac x r := by
  unfold Moe.inv fac sum6 sum7
  rw [root_at, six_at, sq_at, groups, div_1024]

theorem piece_at (x : Vec Ideal S4096x128 .f32) (g : Vec Ideal S1x1024 .f32) (c : Fin 8) (r : Fin 512) (l : Fin 128) :
    xnPiece (F := Ideal) x g c (ix2 r l) = lanes x c (ix2 r l) * Moe.inv (F := Ideal) x (ix2 r 0) * part g c (ix2 0 l) := by
  have hi : k0_pay15 (F := Ideal) (lanes x 7) (sum6 x) (sum7 x) = Moe.inv x := rfl
  fin_cases c
  · generalize hv : Moe.inv (F := Ideal) x = v at hi ⊢
    show k0_pay16 (F := Ideal) (lanes x 0) (lanes x 7) (sum6 x) (sum7 x) (part g 0) (ix2 r l) = _
    unfold k0_pay16
    rw [hi]
    pointwise
  · generalize hv : Moe.inv (F := Ideal) x = v at hi ⊢
    show k0_pay17 (F := Ideal) (lanes x 1) (lanes x 7) (sum6 x) (sum7 x) (part g 1) (ix2 r l) = _
    unfold k0_pay17
    rw [hi]
    pointwise
  · generalize hv : Moe.inv (F := Ideal) x = v at hi ⊢
    show k0_pay18 (F := Ideal) (lanes x 2) (lanes x 7) (sum6 x) (sum7 x) (part g 2) (ix2 r l) = _
    unfold k0_pay18
    rw [hi]
    pointwise
  · generalize hv : Moe.inv (F := Ideal) x = v at hi ⊢
    show k0_pay20 (F := Ideal) (k0_pay19 (lanes x 3) (lanes x 7) (sum6 x) (sum7 x)) (part g 3) (ix2 r l) = _
    unfold k0_pay20 k0_pay19
    rw [hi]
    pointwise
  · show k0_pay21 (F := Ideal) (lanes x 4) (Moe.inv x) (part g 4) (ix2 r l) = _
    generalize Moe.inv (F := Ideal) x = v
    pointwise [k0_pay21]
  · show k0_pay22 (F := Ideal) (lanes x 5) (Moe.inv x) (part g 5) (ix2 r l) = _
    generalize Moe.inv (F := Ideal) x = v
    pointwise [k0_pay22]
  · show k0_pay23 (F := Ideal) (lanes x 6) (Moe.inv x) (part g 6) (ix2 r l) = _
    generalize Moe.inv (F := Ideal) x = v
    pointwise [k0_pay23]
  · show k0_pay1 (F := Ideal) (k0_pay24 (lanes x 7) (Moe.inv x)) (part g 7) (ix2 r l) = _
    generalize Moe.inv (F := Ideal) x = v
    pointwise [k0_pay1, k0_pay24]

/-- The normalised rows of a block. -/
theorem xn_at (x : Vec Ideal S4096x128 .f32) (g : Vec Ideal S1x1024 .f32) (r : Fin 512) (k : Fin 1024) :
    xnOf (F := Ideal) x g (ix2 r k) = rowB x r k * fac x r * g (ix2 0 k) := by
  refine (piece_at x g ⟨k.val / 128, by omega⟩ r ⟨k.val % 128, by omega⟩).trans ?_
  rw [lanes_at, inv_at]
  have e1 : (⟨k.val / 128 * 128 + k.val % 128, by omega⟩ : Fin 1024) = k := Fin.ext (by dsimp only; omega)
  have e2 : part g ⟨k.val / 128, by omega⟩ (ix2 0 ⟨k.val % 128, by omega⟩) = g (ix2 0 k) := by
    refine congrArg g ?_
    funext a
    fin_cases a <;> refine Fin.ext ?_
    · rfl
    · show 128 * (k.val / 128) + k.val % 128 = k.val; omega
  exact congrArg₂ (· * ·) (congrArg (fun z => rowB x r z * fac x r) e1) e2

/-! ## One tile of an expert's layer, and the output block -/

theorem up_at (a : FVec Ideal S512x1024 .bf16) (u : FVec Ideal S1024x1408 .bf16) (r : Fin 512) (j : Fin 1408) :
    matmul (F := Ideal) dot_S512x1024_S1024x1408_S512x1408_1_0_0_1_n_n none a u (constant S512x1408 .f32 0x00000000#32) (ix2 r j)
      = ∑ k : Fin 1024, a (ix2 r k) * u (ix2 k j) := by
  pointwise
theorem down_at (a : FVec Ideal S512x1408 .bf16) (d : FVec Ideal S1408x1024 .bf16) (r : Fin 512) (n : Fin 1024) :
    matmul (F := Ideal) dot_S512x1408_S1408x1024_S512x1024_1_0_0_1_n_n none a d (constant S512x1024 .f32 0x00000000#32) (ix2 r n)
      = ∑ j : Fin 1408, a (ix2 r j) * d (ix2 j n) := by
  pointwise

/-- One tile of hidden columns adds its columns' contributions. -/
theorem step_at (xn : Vec Ideal S512x1024 .bf16) (g u : Vec Ideal S1x1024x1408 .bf16) (d : Vec Ideal S1x1408x1024 .bf16) (acc : Vec Ideal S512x1024 .f32)
    (r : Fin 512) (n : Fin 1024) :
    step (F := Ideal) xn g u d acc (ix2 r n) = acc (ix2 r n) + ∑ j : Fin 1408, silu (∑ k : Fin 1024, xn (ix2 r k) * g (ix3 0 k j))
      * (∑ k : Fin 1024, xn (ix2 r k) * u (ix3 0 k j)) * d (ix3 0 j n) := by
  have hc : ∀ (w : FVec Ideal S1x1024x1408 .bf16) (k : Fin 1024) (j : Fin 1408),
      shapeCast S1024x1408 w shapeCasts_S1x1024x1408_S1024x1408 (ix2 k j) = w (ix3 0 k j) := fun w k j => by pointwise
  have hd : ∀ (j : Fin 1408), shapeCast S1408x1024 d shapeCasts_S1x1408x1024_S1408x1024 (ix2 j n) = d (ix3 0 j n) := fun j => by pointwise
  unfold step k0_pay3
  rw [shapeCast_self]
  refine congrArg (acc (ix2 r n) + ·) ?_
  rw [down_at]
  refine Finset.sum_congr rfl fun j _ => ?_
  rw [hd]
  refine Ideal.mul_congr ?_ rfl
  simp only [← hc, ← up_at]
  rw [← silu_eq]
  rfl

theorem zero_at (r : Fin 512) (n : Fin 1024) : zero (F := Ideal) (ix2 r n) = 0 := by
  pointwise [zero, k0_pay2]

/-- An entry of the output block. -/
theorem out_at (acc : Vec Ideal S512x1024 .f32) (sc : Vec Ideal S512x1 .f32) (c : Fin 8) (r : Fin 512) (l : Fin 128) :
    outPiece (F := Ideal) acc sc c (ix2 r l) = acc (ix2 r ⟨128 * c.val + l.val, by omega⟩) * sc (ix2 r 0) := by
  fin_cases c
  · show k0_pay5 (F := Ideal) acc sc (ix2 r l) = _
    pointwise [k0_pay5, k0_pay4]
  · show k0_pay6 (F := Ideal) acc sc (ix2 r l) = _
    pointwise [k0_pay6, k0_pay4]
  · show k0_pay7 (F := Ideal) acc sc (ix2 r l) = _
    pointwise [k0_pay7, k0_pay4]
  · show k0_pay8 (F := Ideal) acc sc (ix2 r l) = _
    pointwise [k0_pay8, k0_pay4]
  · show k0_pay9 (F := Ideal) acc sc (ix2 r l) = _
    pointwise [k0_pay9, k0_pay4]
  · show k0_pay10 (F := Ideal) acc sc (ix2 r l) = _
    pointwise [k0_pay10, k0_pay4]
  · show k0_pay11 (F := Ideal) acc sc (ix2 r l) = _
    pointwise [k0_pay11, k0_pay4]
  · show k0_pay12 (F := Ideal) acc sc (ix2 r l) = _
    pointwise [k0_pay12, k0_pay4]

end Cert.MoeMath

end
-- ==== Proof.MoeValue.lean ====
/-
  The grouped experts' call: its result array is the reference's, for tables in range.
-/
module

public import proofs.«01_k».proof.Proof.MoeBlk
public import proofs.«01_k».proof.Proof.MoeMath

@[expose] public section

set_option maxRecDepth 16384

noncomputable section

namespace Cert.Moe

open Idealize.ShloMosaic Idealize.ShloMosaic.TcCoe
open Idealize.SL.Sem
open Idealize.ShloMosaic.Pipeline (Dat)
open Cert.Kernel2Ideal Cert.Kernel2Ideal.Gen
open Cert.MoeMath (rowB fac xn_at step_at zero_at out_at)
open Cert.MoeRef (row hOf yOf silu)

/-- What half `q` of an expert's hidden columns contributes to an entry. -/
def half (h : Fin 1024 → EReal) (w2 : FVec Ideal S1x8x1024x5632 .f32) (w3 : FVec Ideal S1x8x2816x1024 .f32) (e : Fin 8) (n : Fin 1024) (q : Fin 2) : EReal :=
  ∑ j : Fin 1408, silu (∑ k : Fin 1024, h k * w2 (ix4 0 e k ⟨q.val * 1408 + j.val, by omega⟩))
    * (∑ k : Fin 1024, h k * w2 (ix4 0 e k ⟨2816 + (q.val * 1408 + j.val), by omega⟩)) * w3 (ix4 0 e ⟨q.val * 1408 + j.val, by omega⟩ n)

/-- An expert's layer is its two halves' sum. -/
theorem halves (h : Fin 1024 → EReal) (w2 : FVec Ideal S1x8x1024x5632 .f32) (w3 : FVec Ideal S1x8x2816x1024 .f32) (e : Fin 8) (n : Fin 1024) :
    yOf h w2 w3 e n = half h w2 w3 e n 0 + half h w2 w3 e n 1 := by
  unfold yOf half
  rw [Fin.sum_univ_tiles 2 1408 rfl, Fin.sum_univ_two]

variable (m : (ℓ : Loc nD τ sig) → Buf (Elt Ideal) ℓ) (c : Dev nD)

/-- The rows a tile normalises are the reference's normalised rows. -/
theorem xn_eq (hO : Ok m) (t : Fin (cfgM m hO).N) (ht : t.val < 144) (r : Fin 512) (i : Fin 36864) (hi : i.val = t.val / 2 * 512 + r.val) (k : Fin 1024) :
    xnAt m hO c t (ix2 r k) = hOf (argX m c) (argG m c) i k := by
  have hrow : ∀ k, rowB (show Vec Ideal S4096x128 .f32 from blkOf m hO c 0 t) r k = row (argX m c) i k := fun k => by
    refine (at_0 m c hO t ht _ _).trans ?_
    unfold row
    refine congrArg (fun z => argX m c (ix2 z _)) (Fin.ext ?_)
    show t.val / 2 * 4096 + (8 * r.val + k.val / 128) = 8 * i.val + k.val / 128
    omega
  refine (xn_at (show Vec Ideal S4096x128 .f32 from blkOf m hO c 0 t) (show Vec Ideal S1x1024 .f32 from blkOf m hO c 1 t) r k).trans ?_
  unfold fac hOf
  simp only [hrow]
  exact congrArg (_ * ·) (at_1 m c hO t k)

/-- A point of a tile in use adds its half of the expert's layer. -/
theorem step_eq (hO : Ok m) (hr : InRange (tbl m 0) (tbl m 1)) (t : Fin (cfgM m hO).N) (ht : t.val < 144) (e : Fin 8)
    (he : (argE m c (ix1 ⟨t.val / 2, by omega⟩)).toNat = e.val) (hv : argV m c (ix1 ⟨t.val / 2, by omega⟩) = 1#32)
    (xn : Vec Ideal S512x1024 .bf16) (acc : Vec Ideal S512x1024 .f32) (r : Fin 512) (n : Fin 1024) (h : Fin 1024 → EReal) (hx : ∀ k, xn (ix2 r k) = h k) :
    step (F := Ideal) xn (blkOf m hO c 2 t) (blkOf m hO c 3 t) (blkOf m hO c 4 t) acc (ix2 r n)
      = acc (ix2 r n) + half h (argU m c) (argD m c) e n ⟨t.val % 2, by omega⟩ := by
  refine (step_at xn (show Vec Ideal S1x1024x1408 .bf16 from blkOf m hO c 2 t) (show Vec Ideal S1x1024x1408 .bf16 from blkOf m hO c 3 t)
    (show Vec Ideal S1x1408x1024 .bf16 from blkOf m hO c 4 t) acc r n).trans ?_
  unfold half
  refine congrArg (acc (ix2 r n) + ·) (Finset.sum_congr rfl fun j _ => ?_)
  rw [at_4 m c hO hr t ht e he hv]
  simp only [at_2 m c hO hr t ht e he hv, at_3 m c hO hr t ht e he hv, hx]

/-- The accumulator at the end of a tile in use holds the expert's layer. -/
theorem acc_on (hO : Ok m) (hr : InRange (tbl m 0) (tbl m 1)) (t : Fin (cfgM m hO).N) (ht : t.val < 144) (h1 : t.val % 2 = 1) (e : Fin 8)
    (he : (argE m c (ix1 ⟨t.val / 2, by omega⟩)).toNat = e.val) (hv : argV m c (ix1 ⟨t.val / 2, by omega⟩) = 1#32)
    (r : Fin 512) (n : Fin 1024) (i : Fin 36864) (hi : i.val = t.val / 2 * 512 + r.val) :
    accLast m hO c t (ix2 r n) = yOf (hOf (argX m c) (argG m c) i) (argU m c) (argD m c) e n := by
  have hpv : (prev m hO t).val = t.val - 1 := rfl
  have hp : (prev m hO t).val < 144 := by omega
  have ep : (⟨(prev m hO t).val / 2, by omega⟩ : Fin 72) = ⟨t.val / 2, by omega⟩ := Fin.ext (by dsimp only; omega)
  have he' : (argE m c (ix1 ⟨(prev m hO t).val / 2, by omega⟩)).toNat = e.val := by rw [ep]; exact he
  have hv' : argV m c (ix1 ⟨(prev m hO t).val / 2, by omega⟩) = 1#32 := by rw [ep]; exact hv
  have hx : ∀ k, xnAt m hO c (prev m hO t) (ix2 r k) = hOf (argX m c) (argG m c) i k :=
    fun k => xn_eq m c hO (prev m hO t) hp r i (by omega) k
  have ho : on m c (grid0.coords t) := (on_iff m c t ht).mpr (by rw [hv]; decide)
  have ho' : on m c (grid0.coords (prev m hO t)) := (on_iff m c (prev m hO t) hp).mpr (by rw [hv']; decide)
  unfold accLast accFirst
  rw [if_pos ho, if_pos ho', step_eq m c hO hr t ht e he hv _ _ r n _ hx, step_eq m c hO hr (prev m hO t) hp e he' hv' _ _ r n _ hx, zero_at, zero_add, halves]
  have q1 : (⟨t.val % 2, by omega⟩ : Fin 2) = 1 := Fin.ext h1
  have q0 : (⟨(prev m hO t).val % 2, by omega⟩ : Fin 2) = 0 := Fin.ext (by show (prev m hO t).val % 2 = 0; omega)
  rw [q1, q0]

/-- The accumulator at the end of another tile is zero. -/
theorem acc_off (hO : Ok m) (t : Fin (cfgM m hO).N) (ht : t.val < 144) (h1 : t.val % 2 = 1) (hv : argV m c (ix1 ⟨t.val / 2, by omega⟩) = 0#32)
    (r : Fin 512) (n : Fin 1024) : accLast m hO c t (ix2 r n) = 0 := by
  have hpv : (prev m hO t).val = t.val - 1 := rfl
  have hp : (prev m hO t).val < 144 := by omega
  have ep : (⟨(prev m hO t).val / 2, by omega⟩ : Fin 72) = ⟨t.val / 2, by omega⟩ := Fin.ext (by dsimp only; omega)
  have ho : ¬on m c (grid0.coords t) := fun hh => (on_iff m c t ht).mp hh hv
  have ho' : ¬on m c (grid0.coords (prev m hO t)) := fun hh => (on_iff m c (prev m hO t) hp).mp hh (by rw [ep]; exact hv)
  unfold accLast accFirst
  rw [if_neg ho, if_neg ho', zero_at]

/-- The reference's value of the launched arrays. -/
def refVal : FVec Ideal S294912x128 .f32 :=
  Cert.Reference2Ideal.Read.val_main_v139 (F := Ideal) (argX m c) (argG m c) (argU m c) (argD m c) (argE m c) (argV m c) (argS m c)

/-- What a tile's last point writes back, at one entry of its block, is the reference there. -/
theorem point (hO : Ok m) (hr : InRange (tbl m 0) (tbl m 1)) (t : Fin (cfgM m hO).N) (ht : t.val < 144) (h1 : t.val % 2 = 1) (y : Fin 4096) (l : Fin 128) :
    outAt m hO c t (ix2 y l) = refVal m c (ix2 ⟨t.val / 2 * 4096 + y.val, by omega⟩ l) := by
  have hr' : InRange (argE m c) (argV m c) := by
    have e := tbl_eq m c
    rw [e.1, e.2] at hr
    exact hr
  unfold refVal
  rw [Cert.MoeRef.v139_at _ _ _ _ _ _ _ (⟨t.val / 2 * 512 + y.val / 8, by omega⟩ : Fin 36864) (⟨y.val % 8, by omega⟩ : Fin 8) l _ (by dsimp only; omega)]
  refine (out_at (accLast m hO c t) (show Vec Ideal S512x1 .f32 from blkOf m hO c 5 t) ⟨y.val % 8, by omega⟩ ⟨y.val / 8, by omega⟩ l).trans ?_
  rw [at_5 m c hO t ht]
  have et : (⟨(t.val / 2 * 512 + y.val / 8) / 512, by omega⟩ : Fin 72) = ⟨t.val / 2, by omega⟩ := Fin.ext (by dsimp only; omega)
  rcases hr'.flag (ix1 ⟨t.val / 2, by omega⟩) with hv | hv
  · rw [acc_off m c hO t ht h1 hv, zero_mul, Cert.MoeRef.out_off]
    exact (congrArg (fun z => argV m c (ix1 z)) et).trans hv
  · have hlt := hr'.expert (ix1 ⟨t.val / 2, by omega⟩)
    rw [acc_on m c hO hr t ht h1 ⟨_, hlt⟩ rfl hv _ _ (⟨t.val / 2 * 512 + y.val / 8, by omega⟩ : Fin 36864) rfl, mul_comm]
    rw [Cert.MoeRef.out_on _ _ _ _ _ _ _ _ _ ⟨_, hlt⟩ (congrArg (fun z => (argE m c (ix1 z)).toNat) et) ((congrArg (fun z => argV m c (ix1 z)) et).trans hv)]

/-- The tiles' last points write back, and their blocks cover the result. -/
theorem out_covers (hO : Ok m) (i : S294912x128.Idx) :
    ∃ t : Fin (cfgM m hO).N, ((cfgM m hO).win 6).flush t = true ∧ i ∈ (((cfgM m hO).win 6).blk t).view.set := by
  have h0 : (i 0).val < 294912 := (i 0).isLt
  have hN : 2 * ((i 0).val / 4096) + 1 < grid0.N := by rw [N_0]; omega
  refine ⟨⟨2 * ((i 0).val / 4096) + 1, hN⟩, ?_, ?_⟩
  · exact (by decide +kernel : ∀ t : Fin grid0.N, t.val % 2 = 1 → Pipeline.Window.flushOf grid0 true cc0_transform_6 t = true) ⟨2 * ((i 0).val / 4096) + 1, hN⟩ (by dsimp only; omega)
  · have e := at_6 m hO ⟨2 * ((i 0).val / 4096) + 1, hN⟩ (by dsimp only; omega) ⟨(i 0).val % 4096, by omega⟩ ⟨(i 1).val, (i 1).isLt⟩
    have ei : i = (((cfgM m hO).win 6).blk ⟨2 * ((i 0).val / 4096) + 1, hN⟩).view.emb (ix2 (⟨(i 0).val % 4096, by omega⟩ : Fin 4096) (⟨(i 1).val, (i 1).isLt⟩ : Fin 128)) := by
      rw [e]
      funext a
      fin_cases a <;> refine Fin.ext ?_
      · show (i 0).val = (2 * ((i 0).val / 4096) + 1) / 2 * 4096 + (i 0).val % 4096
        omega
      · rfl
    exact Finset.mem_map.mpr ⟨_, Finset.mem_univ _, ei.symm⟩

/-- The same at any entry of the block. -/
theorem entry (hO : Ok m) (hr : InRange (tbl m 0) (tbl m 1)) (t : Fin (cfgM m hO).N) (ht : t.val < 144) (h1 : t.val % 2 = 1) (y : S4096x128.Idx) :
    outAt m hO c t y = refVal m c ((((cfgM m hO).win 6).blk t).view.emb y) := by
  obtain ⟨y0, y1, rfl⟩ : ∃ (y0 : Fin 4096) (y1 : Fin 128), y = ix2 y0 y1 := ⟨y 0, y 1, eq_ix2 y⟩
  exact (point m c hO hr t ht h1 y0 y1).trans (congrArg (refVal m c) (at_6 m hO t ht y0 y1).symm)

/-- THE RESULT ARRAY of the grouped experts' call is the reference's value of the launched arrays. -/
theorem final (hO : Ok m) (hr : InRange (tbl m 0) (tbl m 1)) : (dats m hO 0 c).arrAt 6 (cfgM m hO).N = refVal m c := by
  refine (dats m hO 0 c).arrAt_eq_of_emb 6 _ (fun t hf y => ?_) (out_covers m hO)
  have ht : t.val < 144 := Nat.lt_of_lt_of_eq t.isLt N_0
  have h1 : t.val % 2 = 1 := by
    rcases Nat.mod_two_eq_zero_or_one t.val with h | h
    · rw [out_kept m hO t h] at hf; exact absurd hf (by decide)
    · exact h
  rw [after_6]
  exact entry m c hO hr t ht h1 y

end Cert.Moe

end
-- ==== Proof.Moe.lean ====
/- The grouped experts: the reference's frames and the value claim. -/
module

public import proofs.«01_k».proof.Proof.MoeValue
public import proofs.«01_k».proof.Proof.MoeTables
public import proofs.«01_k».proof.Proof.Gen.Reference2Ideal.Run
public import proofs.«01_k».proof.Proof.Gen.Reference2Ideal.Read
public import Idealize.ShloMosaic.Lib.Claim

@[expose] public section

set_option maxRecDepth 16384

noncomputable section

namespace Cert.Moe

open Idealize.ShloMosaic Idealize.SL.Sem

variable [Cert.Kernel2Ideal.Facts] [Cert.Reference2Ideal.Facts]

/-- The reference runs, leaves its arguments as they were and every semaphore at zero. -/
theorem frame_reference : Cert.quiescent_Reference2Ideal := fun m g _ =>
  (θ_run Cert.Reference2Ideal.defs _ _).mono (fun r h => ⟨fun c => (h c).2, sem_eq_zero_of_no_sems (by decide) r.2⟩)
    (Cert.Reference2Ideal.Value.run (F := Ideal) m g)

/-- The reference's run from the memory of the claim's precondition. -/
theorem frame_reference_pre : Cert.quiescent_Reference2Ideal_pre_tiles_in_range := fun m g _ =>
  frame_reference m g trivial

/-- THE VALUE CLAIM: for tables that name experts in range the kernel's result is the reference's. -/
theorem algebraic : Cert.algebraic_Kernel2Ideal_Reference2Ideal := fun m g m' g' hpre hargs => by
  have hr : InRange (tbl m 0) (tbl m 1) := inRange_tbl m (inRange_of _ _ _ _ _ _ _ (hpre 0))
  refine ⟨fun c => refVal m c,
    (θ_run Cert.Kernel2Ideal.defs _ _).mono
      (fun _ h c => ⟨((h.1.1 c).1 6).trans (final m c (ok_of _ hr) hr), h.2.1 c⟩)
      (θ_run_and (run_quiet m g (ok_of _ hr)) (run_frame m g (ok_of _ hr))),
    (θ_run Cert.Reference2Ideal.defs _ _).mono
      (fun _ h c => ⟨((h c).1.trans (Cert.Reference2Ideal.Read.val_main_v139_eq _)).trans ?_, (h c).2⟩)
      (Cert.Reference2Ideal.Value.run m' g')⟩
  obtain ⟨e0, e1, e2, e3, e4, e5, e6⟩ := hargs c
  exact (congr (congr (congr (congr (congr (congr (congrArg (Cert.Reference2Ideal.Read.val_main_v139 (F := Ideal)) e0) e1) e2) e3) e4) e5) e6)

end Cert.Moe

end
-- ==== Proof.DenseRun.lean ====
/-
  The dense feed-forward kernel's body, run on any staging buffers: at the first column block of a tile it fills the
  normalised rows and starts the accumulator, at the second it adds to the accumulator and stores the block.
-/
module

public import proofs.«01_k».proof.Proof.Gen.Kernel3Ideal.Frame.Runs
public import Idealize.ShloMosaic.Lib.Pipeline.ReadBack
public import Idealize.ShloMosaic.Lib.Pipeline.FrameBody
public import Idealize.ShloMosaic.Lib.Ring
public import Idealize.ShloMosaic.Lib.VecWindow
public import Idealize.ShloMosaic.Lib.Pointwise
public import Idealize.ShloMosaic.Lib.Tactic

@[expose] public section

set_option maxRecDepth 16384

noncomputable section

namespace Cert.Dense

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel3Ideal Cert.Kernel3Ideal.Gen

variable {F : FTy → Type} [FloatOps F]

local notation "𝕄" => MT nD τ sig Unit (Elt F) ℕ (UR sig nD τ) ℕ

/-- The flag the body reads at a grid point. -/
abbrev flagOf (c : Dev nD) (i : grid0.Coords) (f : TbBuf0 (F := F) c tbM0_1) : BitVec 32 :=
  tbM0_1.view.readAt (Elt F) (Rect.unit (s := S32) (k0_off1 i) S1.size (k0_off1_inb i)).toLoadRect f (Shape.Idx.first (numel1_S1.symm ▸ Nat.one_pos))

/-! ## The body's three values, as functions of the blocks -/

/-- The normalised rows. -/
def xnOf (x : Vec F S512x1024 .f32) (g : Vec F S1x1024 .f32) : Vec F S512x1024 .bf16 := k0_pay1 x g
/-- The accumulator before any contribution. -/
def zero : Vec F S512x1024 .f32 := k0_pay2
/-- The accumulator after one tile of hidden columns. -/
def step (xn : Vec F S512x1024 .bf16) (g u : Vec F S1x1024x1408 .bf16) (d : Vec F S1x1408x1024 .bf16) (acc : Vec F S512x1024 .f32) :
    Vec F S512x1024 .f32 := k0_pay3 xn g u acc d
/-- The block stored: the rows plus the accumulator. -/
def outOf (x acc : Vec F S512x1024 .f32) : Vec F S512x1024 .f32 := k0_pay4 x acc

/-! ## What the loads of the body amount to -/

/-- A load of a whole buffer known by its contents. -/
theorem load_whole {S : Shape} {e : EltTy} (M : Memref sig .tc .vmem S e) (hM : M.IsWhole) (x : Vec F S e) (o : Fin S.rank → ℕ)
    (h : ∀ a, o a + S.size a ≤ S.size a) :
    M.view.readAt (Elt F) (Rect.unit (s := S) o S.size h).toLoadRect (hM.unread x) = x :=
  funext fun j => (congrFun (hM.read_unread x) _).trans (congrArg x (Rect.emb_unit_full h j))

/-- The accumulator's step, from what its loads read. -/
theorem step_congr {xn xn' : Vec F S512x1024 .bf16} {g g' u u' : Vec F S1x1024x1408 .bf16} {d d' : Vec F S1x1408x1024 .bf16} {a a' : Vec F S512x1024 .f32}
    (h1 : xn = xn') (h2 : g = g') (h3 : u = u') (h4 : a = a') (h5 : d = d') : k0_pay3 xn g u a d = step xn' g' u' d' a' := by
  subst h1; subst h2; subst h3; subst h4; subst h5; rfl

set_option maxHeartbeats 4000000 in
/-- A first column block: the normalised rows are filled, the accumulator has this block's contribution. -/
theorem run_first (c : Dev nD) (i : grid0.Coords) (arg4 : Memref sig .tc .vmem S512x1024 .f32) (harg4 : arg4.IsWhole) (arg5 : Memref sig .tc .vmem S1x1024 .f32) (harg5 : arg5.IsWhole)
    (arg6 : Memref sig .tc .vmem S1x1024x1408 .bf16) (harg6 : arg6.IsWhole) (arg7 : Memref sig .tc .vmem S1x1024x1408 .bf16) (harg7 : arg7.IsWhole)
    (arg8 : Memref sig .tc .vmem S1x1408x1024 .bf16) (harg8 : arg8.IsWhole) (arg9 : Memref sig .tc .vmem S512x1 .f32) (harg9 : arg9.IsWhole)
    (arg10 : Memref sig .tc .vmem S512x1024 .f32) (harg10 : arg10.IsWhole) (arg11 : Memref sig .tc .vmem S512x1024 .bf16) (harg11 : arg11.IsWhole)
    (arg12 : Memref sig .tc .vmem S512x1024 .f32) (harg12 : arg12.IsWhole)
    (x0 : Vec F S512x1024 .f32) (x1 : Vec F S1x1024 .f32) (x2 x3 : Vec F S1x1024x1408 .bf16) (x4 : Vec F S1x1408x1024 .bf16) (x5 : Vec F S512x1 .f32)
    (xt0 : TbBuf0 (F := F) c tbM0_0) (xt1 : TbBuf0 (F := F) c tbM0_1)
    (x6 : Vec F S512x1024 .f32) (hf : cond0_0 i) (hn : ¬cond0_2 i) (ho : cond0_1 i (flagOf c i xt1)) (E : Set ℕ) (K : PUnit → sProp 𝕄) :
    iprop(owns (c : Thread nD τ) arg4 fullShare x0 ∗ owns (c : Thread nD τ) arg5 fullShare x1 ∗ owns (c : Thread nD τ) arg6 fullShare x2
      ∗ owns (c : Thread nD τ) arg7 fullShare x3 ∗ owns (c : Thread nD τ) arg8 fullShare x4 ∗ owns (c : Thread nD τ) arg9 fullShare x5
      ∗ owns (c : Thread nD τ) arg10 fullShare x6 ∗ (∃ d, owns (c : Thread nD τ) arg11 fullShare d) ∗ (∃ d, owns (c : Thread nD τ) arg12 fullShare d)
      ∗ tbPt0 c tbM0_0 xt0 ∗ tbPt0 c tbM0_1 xt1
      ∗ (iprop(owns (c : Thread nD τ) arg4 fullShare x0 ∗ owns (c : Thread nD τ) arg5 fullShare x1 ∗ owns (c : Thread nD τ) arg6 fullShare x2
      ∗ owns (c : Thread nD τ) arg7 fullShare x3 ∗ owns (c : Thread nD τ) arg8 fullShare x4 ∗ owns (c : Thread nD τ) arg9 fullShare x5
        ∗ owns (c : Thread nD τ) arg10 fullShare x6 ∗ owns (c : Thread nD τ) arg11 fullShare (xnOf x0 x1)
        ∗ owns (c : Thread nD τ) arg12 fullShare (step (xnOf x0 x1) x2 x3 x4 zero)
        ∗ tbPt0 c tbM0_0 xt0 ∗ tbPt0 c tbM0_1 xt1) -∗ K ⟨⟩))
    ⊢ wp frame (wpE (defs₀ (F := F)) Variants.none c none) E
        (cc0_ffn_dense i tbM0_0 htbM0_0 tbM0_1 htbM0_1 arg4 harg4 arg5 harg5 arg6 harg6 arg7 harg7 arg8 harg8 arg9 harg9 arg10 harg10 arg11 harg11 arg12 harg12) K := by
  simp only [cc0_ffn_dense_eq_skeleton]; unfold cc0_ffn_dense_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, HT0, HT1, Hk⟩
  obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hf6
  sl_exec (disch := first | sl_exact hf | sl_exact ho | sl_exact hn)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; · ipureintro; exact harg8.read_unread _
    iexact H4
  isplitl [H5]
  · iexists _; isplitr; · ipureintro; exact harg9.read_unread _
    iexact H5
  isplitl [H6]
  · iexists _; isplitr; · ipureintro; exact harg10.read_unread _
    iexact H6
  isplitl [HS0]
  · iexists _; isplitr
    swap; · iexact HS0
    ipureintro
    sl_unfold_run_names
    exact (View.read_writes_full _ _ _ _ _).trans (congrArg₂ (k0_pay1 (F := F)) (load_whole arg4 harg4 x0 _ _) (load_whole arg5 harg5 x1 _ _))
  isplitl [HS1]
  · iexists _; isplitr
    swap; · iexact HS1
    ipureintro
    sl_unfold_run_names
    exact (View.read_writes_full _ _ _ _ _).trans (step_congr ((View.readCov_full _ _ _ _ _).trans (congrArg₂ (k0_pay1 (F := F)) (load_whole arg4 harg4 x0 _ _) (load_whole arg5 harg5 x1 _ _))) (load_whole arg6 harg6 x2 _ _) (load_whole arg7 harg7 x3 _ _)
      (View.readCov_full _ _ _ _ _) (load_whole arg8 harg8 x4 _ _))
  isplitl [HT0]; · iexact HT0
  iexact HT1

set_option maxHeartbeats 4000000 in
/-- A last column block: its contribution is added, and the rows plus the accumulator are stored. -/
theorem run_last (c : Dev nD) (i : grid0.Coords) (arg4 : Memref sig .tc .vmem S512x1024 .f32) (harg4 : arg4.IsWhole) (arg5 : Memref sig .tc .vmem S1x1024 .f32) (harg5 : arg5.IsWhole)
    (arg6 : Memref sig .tc .vmem S1x1024x1408 .bf16) (harg6 : arg6.IsWhole) (arg7 : Memref sig .tc .vmem S1x1024x1408 .bf16) (harg7 : arg7.IsWhole)
    (arg8 : Memref sig .tc .vmem S1x1408x1024 .bf16) (harg8 : arg8.IsWhole) (arg9 : Memref sig .tc .vmem S512x1 .f32) (harg9 : arg9.IsWhole)
    (arg10 : Memref sig .tc .vmem S512x1024 .f32) (harg10 : arg10.IsWhole) (arg11 : Memref sig .tc .vmem S512x1024 .bf16) (harg11 : arg11.IsWhole)
    (arg12 : Memref sig .tc .vmem S512x1024 .f32) (harg12 : arg12.IsWhole)
    (x0 : Vec F S512x1024 .f32) (x1 : Vec F S1x1024 .f32) (x2 x3 : Vec F S1x1024x1408 .bf16) (x4 : Vec F S1x1408x1024 .bf16) (x5 : Vec F S512x1 .f32)
    (xt0 : TbBuf0 (F := F) c tbM0_0) (xt1 : TbBuf0 (F := F) c tbM0_1)
    (xn : Vec F S512x1024 .bf16) (acc : Vec F S512x1024 .f32) (hf : ¬cond0_0 i) (hn : cond0_2 i) (ho : cond0_1 i (flagOf c i xt1)) (E : Set ℕ) (K : PUnit → sProp 𝕄) :
    iprop(owns (c : Thread nD τ) arg4 fullShare x0 ∗ owns (c : Thread nD τ) arg5 fullShare x1 ∗ owns (c : Thread nD τ) arg6 fullShare x2
      ∗ owns (c : Thread nD τ) arg7 fullShare x3 ∗ owns (c : Thread nD τ) arg8 fullShare x4 ∗ owns (c : Thread nD τ) arg9 fullShare x5
      ∗ (∃ d, owns (c : Thread nD τ) arg10 fullShare d) ∗ owns (c : Thread nD τ) arg11 fullShare xn ∗ owns (c : Thread nD τ) arg12 fullShare acc
      ∗ tbPt0 c tbM0_0 xt0 ∗ tbPt0 c tbM0_1 xt1
      ∗ (iprop(owns (c : Thread nD τ) arg4 fullShare x0 ∗ owns (c : Thread nD τ) arg5 fullShare x1 ∗ owns (c : Thread nD τ) arg6 fullShare x2
      ∗ owns (c : Thread nD τ) arg7 fullShare x3 ∗ owns (c : Thread nD τ) arg8 fullShare x4 ∗ owns (c : Thread nD τ) arg9 fullShare x5
        ∗ owns (c : Thread nD τ) arg10 fullShare (outOf x0 (step xn x2 x3 x4 acc)) ∗ owns (c : Thread nD τ) arg11 fullShare xn
        ∗ owns (c : Thread nD τ) arg12 fullShare (step xn x2 x3 x4 acc)
        ∗ tbPt0 c tbM0_0 xt0 ∗ tbPt0 c tbM0_1 xt1) -∗ K ⟨⟩))
    ⊢ wp frame (wpE (defs₀ (F := F)) Variants.none c none) E
        (cc0_ffn_dense i tbM0_0 htbM0_0 tbM0_1 htbM0_1 arg4 harg4 arg5 harg5 arg6 harg6 arg7 harg7 arg8 harg8 arg9 harg9 arg10 harg10 arg11 harg11 arg12 harg12) K := by
  simp only [cc0_ffn_dense_eq_skeleton]; unfold cc0_ffn_dense_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, HS0⟩, ⟨%f8, %hf8, HS1⟩, HT0, HT1, Hk⟩
  obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg11.eq_unread hf7; obtain rfl := harg12.eq_unread hf8
  sl_exec (disch := first | sl_exact hf | sl_exact ho | sl_exact hn)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; · ipureintro; exact harg8.read_unread _
    iexact H4
  isplitl [H5]
  · iexists _; isplitr; · ipureintro; exact harg9.read_unread _
    iexact H5
  isplitl [H6]
  · iexists _; isplitr
    swap; · iexact H6
    ipureintro
    sl_unfold_run_names
    exact (View.read_writes_full _ _ _ _ _).trans (congrArg₂ (k0_pay4 (F := F)) (load_whole arg4 harg4 x0 _ _) ((View.readCov_full _ _ _ _ _).trans
      (step_congr (load_whole arg11 harg11 xn _ _) (load_whole arg6 harg6 x2 _ _) (load_whole arg7 harg7 x3 _ _) (load_whole arg12 harg12 acc _ _) (load_whole arg8 harg8 x4 _ _))))
  isplitl [HS0]
  · iexists _; isplitr; · ipureintro; exact harg11.read_unread _
    iexact HS0
  isplitl [HS1]
  · iexists _; isplitr
    swap; · iexact HS1
    ipureintro
    sl_unfold_run_names
    exact (View.read_writes_full _ _ _ _ _).trans (step_congr (load_whole arg11 harg11 xn _ _) (load_whole arg6 harg6 x2 _ _) (load_whole arg7 harg7 x3 _ _)
      (load_whole arg12 harg12 acc _ _) (load_whole arg8 harg8 x4 _ _))
  isplitl [HT0]; · iexact HT0
  iexact HT1

end Cert.Dense

end
-- ==== Proof.DenseTables.lean ====
/-
  The tables of the dense layer's call: the host fills them with constants, every tile's expert zero and every tile in
  use, so that every block lies inside the one expert's weights.
-/
module

public import proofs.«01_k».proof.Defs
public import proofs.«01_k».proof.Proof.Gen.Kernel3Ideal.Frame.Runs
public import Idealize.ShloMosaic.Lib.PairWhole
public import Idealize.ShloMosaic.Lib.Affine
public import Idealize.ShloMosaic.Lib.Pointwise

@[expose] public section

set_option maxRecDepth 16384

noncomputable section

namespace Cert.Dense

open Idealize.ShloMosaic Idealize.ShloMosaic.TcCoe
open Idealize.SL.Sem
open Cert.Kernel3Ideal Cert.Kernel3Ideal.Gen

variable {F : FTy → Type} [FloatOps F]

/-- Every tile's expert is the first and every tile is in use. -/
structure AllOn (te tv : IVec S32 32) : Prop where
  expert : ∀ j, te j = 0#32
  flag : ∀ j, tv j = 1#32

/-- The words of the tables the index maps read. -/
theorem word_at (pf : pre0.Contents (Elt F)) (i : grid0.Coords) (hr : AllOn (pf 0) (pf 1)) :
    (pf.at 0 (Rect.unit (s := S32) ![(Scalar.indexCast (BitVec.ofNat 32 (i 0).val)).toNat] S1.size (k0_off1_inb i)) numel1_S1 : BitVec 32) = 0#32
    ∧ (pf.at 1 (Rect.unit (s := S32) ![(Scalar.indexCast (BitVec.ofNat 32 (i 0).val)).toNat] S1.size (k0_off1_inb i)) numel1_S1 : BitVec 32) = 1#32 :=
  ⟨hr.expert _, hr.flag _⟩

/-- The column block the index maps compute is the grid's. -/
theorem col_word (f : Fin 2) :
    (Scalar.addi (Scalar.muli (BitVec.ofNat 32 f.val) 1#32) (Scalar.muli 1#32 (Scalar.subi 1#32 1#32)) : BitVec 32).toNat = f.val
    ∧ (Scalar.addi 2#32 (Scalar.addi (Scalar.muli (BitVec.ofNat 32 f.val) 1#32) (Scalar.muli 1#32 (Scalar.subi 1#32 1#32))) : BitVec 32).toNat = 2 + f.val := by
  fin_cases f <;> decide

/-- The index maps of the weights, at such tables. -/
theorem map_2 (pf : pre0.Contents (Elt F)) (i : grid0.Coords) (hr : AllOn (pf 0) (pf 1)) :
    cc0_transform_2 k0_off1_inb numel1_S1 pf i = ![0, 0, (i 1).val] := by
  unfold cc0_transform_2
  dsimp only
  rw [(word_at pf i hr).1, (word_at pf i hr).2]
  rw [(col_word (i 1)).1]
  rfl
theorem map_3 (pf : pre0.Contents (Elt F)) (i : grid0.Coords) (hr : AllOn (pf 0) (pf 1)) :
    cc0_transform_3 k0_off1_inb numel1_S1 pf i = ![0, 0, 2 + (i 1).val] := by
  unfold cc0_transform_3
  dsimp only
  rw [(word_at pf i hr).1, (word_at pf i hr).2]
  rw [(col_word (i 1)).2]
  rfl
theorem map_4 (pf : pre0.Contents (Elt F)) (i : grid0.Coords) (hr : AllOn (pf 0) (pf 1)) :
    cc0_transform_4 k0_off1_inb numel1_S1 pf i = ![0, (i 1).val, 0] := by
  unfold cc0_transform_4
  dsimp only
  rw [(word_at pf i hr).1, (word_at pf i hr).2]
  rw [(col_word (i 1)).1]
  rfl

/-- Such tables keep every block inside the weights. -/
theorem ok_of (pf : pre0.Contents (Elt F)) (hr : AllOn (pf 0) (pf 1)) : ok0 pf := by
  refine ⟨fun i => ?_, fun i => ?_, fun i => ?_⟩
  · have hc : (i 1).val < 2 := (i 1).isLt
    have hb : ∀ a, (cc0_transform_2 k0_off1_inb numel1_S1 pf i a + 1) * S1x1024x1408.size a ≤ S1x1024x5632.size a := fun a => by
      rw [map_2 pf i hr]
      fin_cases a
      · show (0 + 1) * 1 ≤ 1; omega
      · show (0 + 1) * 1024 ≤ 1024; omega
      · show ((i 1).val + 1) * 1408 ≤ 5632; omega
    refine ⟨hb, .inr (Rect.WholeRows.wholeWords ⟨by decide, ?_, rfl, rfl⟩ _)⟩
    show cc0_transform_2 k0_off1_inb numel1_S1 pf i 1 * 1024 = 0
    rw [map_2 pf i hr]
    rfl
  · have hc : (i 1).val < 2 := (i 1).isLt
    have hb : ∀ a, (cc0_transform_3 k0_off1_inb numel1_S1 pf i a + 1) * S1x1024x1408.size a ≤ S1x1024x5632.size a := fun a => by
      rw [map_3 pf i hr]
      fin_cases a
      · show (0 + 1) * 1 ≤ 1; omega
      · show (0 + 1) * 1024 ≤ 1024; omega
      · show (2 + (i 1).val + 1) * 1408 ≤ 5632; omega
    refine ⟨hb, .inr (Rect.WholeRows.wholeWords ⟨by decide, ?_, rfl, rfl⟩ _)⟩
    show cc0_transform_3 k0_off1_inb numel1_S1 pf i 1 * 1024 = 0
    rw [map_3 pf i hr]
    rfl
  · have hc : (i 1).val < 2 := (i 1).isLt
    have hb : ∀ a, (cc0_transform_4 k0_off1_inb numel1_S1 pf i a + 1) * S1x1408x1024.size a ≤ S1x2816x1024.size a := fun a => by
      rw [map_4 pf i hr]
      fin_cases a
      · show (0 + 1) * 1 ≤ 1; omega
      · show ((i 1).val + 1) * 1408 ≤ 2816; omega
      · show (0 + 1) * 1024 ≤ 1024; omega
    refine ⟨hb, .inr (Rect.PackedRows.wholeWords (Rect.packedRows_of_rowAxis _ _ (by decide) ?_ ?_ rfl))⟩
    · show 2 ∣ cc0_transform_4 k0_off1_inb numel1_S1 pf i 1 * 1408
      exact Dvd.dvd.mul_left (by decide) _
    · show 2 ∣ 1408
      decide

/-- The tables the call finds are the host's constants. -/
theorem tbl_on (m : (ℓ : Loc nD τ sig) → Buf (Elt F) ℓ) : AllOn (tbl m 0) (tbl m 1) := by
  have e0 : (tbl m 0 : IVec S32 32) = broadcastInDim S32 ![] bcast_S_S32 (constantI S_ 32 0#32) := by
    show StableHlo.after hostOps0 _ (Proc.devRef .tc main_v6) = _
    after_results
  have e1 : (tbl m 1 : IVec S32 32) = broadcastInDim S32 ![] bcast_S_S32 (constantI S_ 32 1#32) := by
    show StableHlo.after hostOps0 _ (Proc.devRef .tc main_v7) = _
    after_results
  exact ⟨fun j => congrFun e0 j, fun j => congrFun e1 j⟩

/-- The call's side condition holds, at any interpretation of the floats. -/
theorem ok (m : (ℓ : Loc nD τ sig) → Buf (Elt F) ℓ) : Ok m := ok_of _ (tbl_on m)

end Cert.Dense

end
-- ==== Proof.DenseFrame.lean ====
/-
  The dense feed-forward kernel as a whole: what its buffers hold at every grid point, that its body keeps to it, and
  so the run of the program.
-/
module

public import proofs.«01_k».proof.Proof.DenseRun
public import proofs.«01_k».proof.Proof.DenseTables
public import Idealize.ShloMosaic.Lib.Claim

@[expose] public section

set_option maxRecDepth 16384

noncomputable section

namespace Cert.Dense

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal Cert.Kernel3Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's flag is set at every point. -/
theorem flag_on (c : Dev nD) (t : Fin grid0.N) : cond0_1 (grid0.coords t) (flagOf c (grid0.coords t) (tbl m 1)) := by
  have e : flagOf (F := F) c (grid0.coords t) (tbl m 1) = 1#32 := (tbl_on m).flag _
  rw [e]
  show (BitVec.ofBool (BitVec.setWidth 32 (BitVec.ofBool ((1#32 : BitVec 32) != 0#32)) != 0#32) = 1#1)
  decide

/-! ## What the buffers hold after each point -/

/-- The point before. -/
def prev (hO : Ok m) (t : Fin (cfgM m hO).N) : Fin (cfgM m hO).N := ⟨t.val - 1, lt_of_le_of_lt (Nat.sub_le _ _) t.isLt⟩

/-- The rows a first column block normalises. -/
def xnAt (hO : Ok m) (c : Dev nD) (t : Fin (cfgM m hO).N) : Vec F S512x1024 .bf16 := xnOf (iblk m hO c 0 t) (iblk m hO c 1 t)
/-- The accumulator after a first column block. -/
def accFirst (hO : Ok m) (c : Dev nD) (t : Fin (cfgM m hO).N) : Vec F S512x1024 .f32 :=
  step (xnAt m hO c t) (iblk m hO c 2 t) (iblk m hO c 3 t) (iblk m hO c 4 t) zero
/-- The accumulator after a last column block. -/
def accLast (hO : Ok m) (c : Dev nD) (t : Fin (cfgM m hO).N) : Vec F S512x1024 .f32 :=
  step (xnAt m hO c (prev m hO t)) (iblk m hO c 2 t) (iblk m hO c 3 t) (iblk m hO c 4 t) (accFirst m hO c (prev m hO t))

/-- The normalised rows after any point. -/
def xnS (hO : Ok m) (c : Dev nD) (t : Fin (cfgM m hO).N) : Vec F S512x1024 .bf16 :=
  if t.val % 2 = 0 then xnAt m hO c t else xnAt m hO c (prev m hO t)
/-- The accumulator after any point. -/
def accS (hO : Ok m) (c : Dev nD) (t : Fin (cfgM m hO).N) : Vec F S512x1024 .f32 :=
  if t.val % 2 = 0 then accFirst m hO c t else accLast m hO c t
/-- The block stored at a last column block. -/
def outAt (hO : Ok m) (c : Dev nD) (t : Fin (cfgM m hO).N) : Vec F S512x1024 .f32 := outOf (iblk m hO c 0 t) (accLast m hO c t)

/-- What the body keeps between points. -/
def keep (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) scM0_0 fullShare (xnS m hO c ⟨n, hn⟩) ∗ owns (c : Thread nD τ) scM0_1 fullShare (accS m hO c ⟨n, hn⟩))
      ∗ (∃ r, prngReg c r)) ∗ Pipeline.ΦT pre0 (tbl m) c)

theorem keep_pos (hO : Ok m) (c : Dev nD) (t : Fin (cfgM m hO).N) (hz : t.val ≠ 0) :
    keep m hO c t.val (Nat.le_of_lt t.isLt) = iprop(iprop(iprop(owns (c : Thread nD τ) scM0_0 fullShare (xnS m hO c (prev m hO t))
      ∗ owns (c : Thread nD τ) scM0_1 fullShare (accS m hO c (prev m hO t))) ∗ (∃ r, prngReg c r)) ∗ Pipeline.ΦT pre0 (tbl m) c) := by
  obtain ⟨n, hn⟩ := t
  cases n with
  | zero => exact absurd rfl hz
  | succ n => rfl

/-- Whatever a later point kept gives up its contents. -/
theorem keep_forget (hO : Ok m) (c : Dev nD) : ∀ (n : ℕ) (h : n ≤ (cfgM m hO).N),
    keep m hO c n h ⊢ iprop(Pipeline.ΦA spec0 c ∗ Pipeline.ΦT pre0 (tbl m) c)
  | 0, _ => Idealize.SL.BI.Entails.refl _
  | n + 1, hn => by
    rw [PhiA0_eq]
    show iprop(iprop(iprop(owns (c : Thread nD τ) scM0_0 fullShare (xnS m hO c ⟨n, hn⟩) ∗ owns (c : Thread nD τ) scM0_1 fullShare (accS m hO c ⟨n, hn⟩))
      ∗ (∃ r, prngReg c r)) ∗ Pipeline.ΦT pre0 (tbl m) c) ⊢ _
    iintro ⟨⟨⟨HS0, HS1⟩, Hg⟩, HT⟩
    isplitl [HS0 HS1 Hg]
    · isplitl [HS0 HS1]
      · isplitl [HS0]
        · iexists _; iexact HS0
        iexists _; iexact HS1
      iexact Hg
    iexact HT

/-- The same beside anything. -/
theorem keep_forget_beside (hO : Ok m) (c : Dev nD) (n : ℕ) (h : n ≤ (cfgM m hO).N) (R : sProp 𝕄) :
    iprop(keep m hO c n h ∗ R) ⊢ iprop(iprop(Pipeline.ΦA spec0 c ∗ Pipeline.ΦT pre0 (tbl m) c) ∗ R) := by
  iintro ⟨HK, HR⟩
  isplitl [HK]
  · iapply (keep_forget m hO c n h)
    iexact HK
  iexact HR

/-! ## The call's data -/

/-- The arrays at entry, what each buffer holds after each point, what the body keeps. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => outAt m hO c t
  Φ t := keep m hO c t.val (Nat.le_of_lt_succ t.isLt)
  q w := Pipeline.shareOf spec0 w
  owed _ := 0

theorem dats_A (hO : Ok m) (c : Dev nD) (w : Fin (cfgM m hO).W) : (dats m hO 0 c).A w = V m c (Pipeline.arrRef spec0 w) := by
  dsimp only [dats]
theorem dats_keep (hO : Ok m) (c : Dev nD) (t : Fin (cfgM m hO).N) : (dats m hO 0 c).Φ t.castSucc = keep m hO c t.val (Nat.le_of_lt t.isLt) := by
  dsimp only [dats]; exact Pipeline.Dat.Φ_castSucc (keep m hO c) t

theorem after_0 (hO : Ok m) (c : Dev nD) (t : Fin (cfgM m hO).N) : (dats m hO 0 c).after 0 t = iblk m hO c 0 t := by dsimp only [dats]; try rfl
theorem after_1 (hO : Ok m) (c : Dev nD) (t : Fin (cfgM m hO).N) : (dats m hO 0 c).after 1 t = iblk m hO c 1 t := by dsimp only [dats]; try rfl
theorem after_2 (hO : Ok m) (c : Dev nD) (t : Fin (cfgM m hO).N) : (dats m hO 0 c).after 2 t = iblk m hO c 2 t := by dsimp only [dats]; try rfl
theorem after_3 (hO : Ok m) (c : Dev nD) (t : Fin (cfgM m hO).N) : (dats m hO 0 c).after 3 t = iblk m hO c 3 t := by dsimp only [dats]; try rfl
theorem after_4 (hO : Ok m) (c : Dev nD) (t : Fin (cfgM m hO).N) : (dats m hO 0 c).after 4 t = iblk m hO c 4 t := by dsimp only [dats]; try rfl
theorem after_5 (hO : Ok m) (c : Dev nD) (t : Fin (cfgM m hO).N) : (dats m hO 0 c).after 5 t = iblk m hO c 5 t := by dsimp only [dats]; try rfl
theorem after_6 (hO : Ok m) (c : Dev nD) (t : Fin (cfgM m hO).N) : (dats m hO 0 c).after 6 t = outAt m hO c t := by dsimp only [dats]; try rfl

/-- Every input's buffer holds its block when the body starts. -/
theorem before_0 (hO : Ok m) (c : Dev nD) (t : Fin (cfgM m hO).N) (d) : (dats m hO 0 c).before 0 t d = iblk m hO c 0 t :=
  before0_0_of m hO (dats m hO 0 c) (dats_A m hO c 0) (after_0 m hO c) t d
theorem before_1 (hO : Ok m) (c : Dev nD) (t : Fin (cfgM m hO).N) (d) : (dats m hO 0 c).before 1 t d = iblk m hO c 1 t :=
  before0_1_of m hO (dats m hO 0 c) (dats_A m hO c 1) (after_1 m hO c) t d
theorem before_2 (hO : Ok m) (c : Dev nD) (t : Fin (cfgM m hO).N) (d) : (dats m hO 0 c).before 2 t d = iblk m hO c 2 t :=
  before0_2_of m hO (dats m hO 0 c) (dats_A m hO c 2) (after_2 m hO c) t d
theorem before_3 (hO : Ok m) (c : Dev nD) (t : Fin (cfgM m hO).N) (d) : (dats m hO 0 c).before 3 t d = iblk m hO c 3 t :=
  before0_3_of m hO (dats m hO 0 c) (dats_A m hO c 3) (after_3 m hO c) t d
theorem before_4 (hO : Ok m) (c : Dev nD) (t : Fin (cfgM m hO).N) (d) : (dats m hO 0 c).before 4 t d = iblk m hO c 4 t :=
  before0_4_of m hO (dats m hO 0 c) (dats_A m hO c 4) (after_4 m hO c) t d
theorem before_5 (hO : Ok m) (c : Dev nD) (t : Fin (cfgM m hO).N) (d) : (dats m hO 0 c).before 5 t d = iblk m hO c 5 t :=
  before0_5_of m hO (dats m hO 0 c) (dats_A m hO c 5) (after_5 m hO c) t d

/-! ## The body keeps to it -/

/-- The body at a point. -/
abbrev bodyAt (hO : Ok m) (t : Fin (cfgM m hO).N) : Prog (TpuEff nD τ sig (Elt F) Λ₀ .tc) PUnit :=
  cc0_ffn_dense (grid0.coords t) tbM0_0 htbM0_0 tbM0_1 htbM0_1 (ms0_0 m hO t) (hs0_0 m hO t) (ms0_1 m hO t) (hs0_1 m hO t)
    (ms0_2 m hO t) (hs0_2 m hO t) (ms0_3 m hO t) (hs0_3 m hO t) (ms0_4 m hO t) (hs0_4 m hO t) (ms0_5 m hO t) (hs0_5 m hO t)
    (ms0_6 m hO t) (hs0_6 m hO t) scM0_0 (Memref.isWhole_whole _) scM0_1 (Memref.isWhole_whole _)

/-- What the body is given, -/
def given (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d)))

/-- and what it returns. -/
def returned (hO : Ok m) (c : Dev nD) (t : Fin (cfgM m hO).N) : sProp 𝕄 :=
  iprop((dats m hO 0 c).Φ t.succ ∗ (dats m hO 0 c).owesAt () t.succ
    ∗ (dats m hO 0 c).leavesExact 0 t ∗ (dats m hO 0 c).leavesExact 1 t ∗ (dats m hO 0 c).leavesExact 2 t ∗ (dats m hO 0 c).leavesExact 3 t
    ∗ (dats m hO 0 c).leavesExact 4 t ∗ (dats m hO 0 c).leavesExact 5 t ∗ (dats m hO 0 c).leavesExact 6 t)

theorem leaves_0 (hO : Ok m) (c : Dev nD) (t : Fin (cfgM m hO).N) : (dats m hO 0 c).leavesExact 0 t = owns (c : Thread nD τ) (ms0_0 m hO t) fullShare (iblk m hO c 0 t) := by
  unfold Dat.leavesExact; rw [show (cfgM m hO).idle 0 ((cfgM m hO).grid.coords t) = false from rfl, after_0]; try rfl
theorem leaves_1 (hO : Ok m) (c : Dev nD) (t : Fin (cfgM m hO).N) : (dats m hO 0 c).leavesExact 1 t = owns (c : Thread nD τ) (ms0_1 m hO t) fullShare (iblk m hO c 1 t) := by
  unfold Dat.leavesExact; rw [show (cfgM m hO).idle 1 ((cfgM m hO).grid.coords t) = false from rfl, after_1]; try rfl
theorem leaves_2 (hO : Ok m) (c : Dev nD) (t : Fin (cfgM m hO).N) : (dats m hO 0 c).leavesExact 2 t = owns (c : Thread nD τ) (ms0_2 m hO t) fullShare (iblk m hO c 2 t) := by
  unfold Dat.leavesExact; rw [show (cfgM m hO).idle 2 ((cfgM m hO).grid.coords t) = false from rfl, after_2]; try rfl
theorem leaves_3 (hO : Ok m) (c : Dev nD) (t : Fin (cfgM m hO).N) : (dats m hO 0 c).leavesExact 3 t = owns (c : Thread nD τ) (ms0_3 m hO t) fullShare (iblk m hO c 3 t) := by
  unfold Dat.leavesExact; rw [show (cfgM m hO).idle 3 ((cfgM m hO).grid.coords t) = false from rfl, after_3]; try rfl
theorem leaves_4 (hO : Ok m) (c : Dev nD) (t : Fin (cfgM m hO).N) : (dats m hO 0 c).leavesExact 4 t = owns (c : Thread nD τ) (ms0_4 m hO t) fullShare (iblk m hO c 4 t) := by
  unfold Dat.leavesExact; rw [show (cfgM m hO).idle 4 ((cfgM m hO).grid.coords t) = false from rfl, after_4]; try rfl
theorem leaves_5 (hO : Ok m) (c : Dev nD) (t : Fin (cfgM m hO).N) : (dats m hO 0 c).leavesExact 5 t = owns (c : Thread nD τ) (ms0_5 m hO t) fullShare (iblk m hO c 5 t) := by
  unfold Dat.leavesExact; rw [show (cfgM m hO).idle 5 ((cfgM m hO).grid.coords t) = false from rfl, after_5]; try rfl
theorem leaves_6 (hO : Ok m) (c : Dev nD) (t : Fin (cfgM m hO).N) (h : t.val % 2 = 1) :
    (dats m hO 0 c).leavesExact 6 t = owns (c : Thread nD τ) (ms0_6 m hO t) fullShare (outAt m hO c t) := by
  unfold Dat.leavesExact; rw [show (cfgM m hO).idle 6 ((cfgM m hO).grid.coords t) = false from liveAt0_6_C m hO t (fun e => by have := (hcond0_0 t).mp e; omega) ((hcond0_2 t).mpr h), after_6]; try rfl

set_option maxHeartbeats 4000000 in
/-- The body at a first column block. -/
theorem body_first (hO : Ok m) (c : Dev nD) (t : Fin (cfgM m hO).N) (h : t.val % 2 = 0) :
    given m hO c t ⊢ wp frame (wpE (defs₀ (F := F)) Variants.none c none) Set.univ (bodyAt m hO t) (fun _ => returned m hO c t) := by
  have hf : cond0_0 (grid0.coords t) := (hcond0_0 t).mpr h
  have hn : ¬cond0_2 (grid0.coords t) := fun e => by have := (hcond0_2 t).mp e; omega
  unfold given returned bodyAt
  simp only [before_0, before_1, before_2, before_3, before_4, before_5]
  rw [show (dats m hO 0 c).owesAt () t.succ = (dats m hO 0 c).owesAt () t.castSucc from rfl]
  rw [show (dats m hO 0 c).Φ t.succ = keep m hO c (t.val + 1) t.isLt from rfl, dats_keep]
  rw [leaves_0, leaves_1, leaves_2, leaves_3, leaves_4, leaves_5, Dat.leavesExact_idle (dats m hO 0 c) 6 t (idleAt0_6_A m hO t hf hn) (noFlush0_6_A m hO t hf hn)]
  rw [show keep m hO c (t.val + 1) t.isLt = iprop(iprop(iprop(owns (c : Thread nD τ) scM0_0 fullShare (xnS m hO c t) ∗ owns (c : Thread nD τ) scM0_1 fullShare (accS m hO c t))
      ∗ (∃ r, prngReg c r)) ∗ Pipeline.ΦT pre0 (tbl m) c) from rfl]
  refine (keep_forget_beside m hO c _ _ _).trans ?_
  rw [PhiA0_eq, PhiT0_eq, show xnS m hO c t = xnAt m hO c t from if_pos h, show accS m hO c t = accFirst m hO c t from if_pos h]
  unfold accFirst xnAt
  have ho := flag_on m c t
  iintro ⟨⟨⟨⟨HS0, HS1⟩, Hg⟩, ⟨HT0, HT1⟩⟩, Ho, ⟨%d0, H0⟩, ⟨%d1, H1⟩, ⟨%d2, H2⟩, ⟨%d3, H3⟩, ⟨%d4, H4⟩, ⟨%d5, H5⟩, ⟨%d6, H6⟩⟩
  iapply (run_first c (grid0.coords t) _ _ _ _ _ _ _ _ _ _ _ _ _ _ _ _ _ _ (iblk m hO c 0 t) (iblk m hO c 1 t) (iblk m hO c 2 t) (iblk m hO c 3 t) (iblk m hO c 4 t) (iblk m hO c 5 t) (tbl m 0) (tbl m 1) _ hf hn ho Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  isplitl [HT0]; · iexact HT0
  isplitl [HT1]; · iexact HT1
  iintro ⟨H0, H1, H2, H3, H4, H5, H6, HS0, HS1, HT0, HT1⟩
  isplitl [HS0 HS1 Hg HT0 HT1]
  · isplitl [HS0 HS1 Hg]
    · isplitl [HS0 HS1]
      · isplitl [HS0]; · iexact HS0
        iexact HS1
      iexact Hg
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists _; iexact H6

set_option maxHeartbeats 4000000 in
/-- The body at a last column block. -/
theorem body_last (hO : Ok m) (c : Dev nD) (t : Fin (cfgM m hO).N) (h : t.val % 2 = 1) :
    given m hO c t ⊢ wp frame (wpE (defs₀ (F := F)) Variants.none c none) Set.univ (bodyAt m hO t) (fun _ => returned m hO c t) := by
  unfold given returned bodyAt
  simp only [before_0, before_1, before_2, before_3, before_4, before_5]
  rw [show (dats m hO 0 c).owesAt () t.succ = (dats m hO 0 c).owesAt () t.castSucc from rfl]
  rw [show (dats m hO 0 c).Φ t.succ = keep m hO c (t.val + 1) t.isLt from rfl, dats_keep]
  rw [leaves_0, leaves_1, leaves_2, leaves_3, leaves_4, leaves_5, leaves_6 m hO c t h]
  rw [show keep m hO c (t.val + 1) t.isLt = iprop(iprop(iprop(owns (c : Thread nD τ) scM0_0 fullShare (xnS m hO c t) ∗ owns (c : Thread nD τ) scM0_1 fullShare (accS m hO c t))
      ∗ (∃ r, prngReg c r)) ∗ Pipeline.ΦT pre0 (tbl m) c) from rfl]
  have hp : (prev m hO t).val % 2 = 0 := by show (t.val - 1) % 2 = 0; omega
  have hne : ¬(t.val % 2 = 0) := by omega
  rw [keep_pos m hO c t (by omega), PhiT0_eq, show xnS m hO c t = xnAt m hO c (prev m hO t) from if_neg hne, show accS m hO c t = accLast m hO c t from if_neg hne,
    show xnS m hO c (prev m hO t) = xnAt m hO c (prev m hO t) from if_pos hp, show accS m hO c (prev m hO t) = accFirst m hO c (prev m hO t) from if_pos hp]
  unfold outAt accLast
  have hf : ¬cond0_0 (grid0.coords t) := fun e => hne ((hcond0_0 t).mp e)
  have hn : cond0_2 (grid0.coords t) := (hcond0_2 t).mpr h
  have ho := flag_on m c t
  iintro ⟨⟨⟨⟨HS0, HS1⟩, Hg⟩, ⟨HT0, HT1⟩⟩, Ho, ⟨%d0, H0⟩, ⟨%d1, H1⟩, ⟨%d2, H2⟩, ⟨%d3, H3⟩, ⟨%d4, H4⟩, ⟨%d5, H5⟩, ⟨%d6, H6⟩⟩
  iapply (run_last c (grid0.coords t) _ _ _ _ _ _ _ _ _ _ _ _ _ _ _ _ _ _ (iblk m hO c 0 t) (iblk m hO c 1 t) (iblk m hO c 2 t) (iblk m hO c 3 t) (iblk m hO c 4 t) (iblk m hO c 5 t) (tbl m 0) (tbl m 1) _ _ hf hn ho Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  isplitl [HT0]; · iexact HT0
  isplitl [HT1]; · iexact HT1
  iintro ⟨H0, H1, H2, H3, H4, H5, H6, HS0, HS1, HT0, HT1⟩
  isplitl [HS0 HS1 Hg HT0 HT1]
  · isplitl [HS0 HS1 Hg]
    · isplitl [HS0 HS1]
      · isplitl [HS0]; · iexact HS0
        iexact HS1
      iexact Hg
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body at any point. -/
theorem body_any (hO : Ok m) (c : Dev nD) (t : Fin (cfgM m hO).N) :
    given m hO c t ⊢ wp frame (wpE (defs₀ (F := F)) Variants.none c none) Set.univ (bodyAt m hO t) (fun _ => returned m hO c t) :=
  (Nat.mod_two_eq_zero_or_one t.val).elim (body_first m hO c t) (body_last m hO c t)

theorem body_row (hO : Ok m) (t : Fin (cfgM m hO).N) :
    defs₀ (F := F) .tc (cfgM m hO).body ((cfgM m hO).bodyArgs t ((cfgM m hO).slots t)) = bodyAt m hO t := by
  unfold defs₀; rw [Defs.onTc_tc]

/-- The body's obligation at every point. -/
theorem obligation (hO : Ok m) (c : Dev nD) : BodyObligation (dats (F := F) m hO 0 c) (defs₀ (F := F)) Variants.none () Set.univ := fun t => by
  rw [bigSep_W0, bigSep_W0, body_row m hO]
  exact triple_restated (body_any m hO c t) rfl .rfl fun _ => .rfl

theorem keep_in (hO : Ok m) (c : Dev nD) : iprop(Pipeline.ΦA spec0 c ∗ Pipeline.ΦT pre0 (tbl m) c) ⊢ (dats m hO 0 c).Φ 0 := by
  rw [show (dats m hO 0 c).Φ 0 = iprop(Pipeline.ΦA spec0 c ∗ Pipeline.ΦT pre0 (tbl m) c) from rfl]

theorem keep_out (hO : Ok m) (c : Dev nD) : (dats m hO 0 c).Φ (Fin.last (cfgM m hO).N) ⊢ Pipeline.ΦA spec0 c := by
  rw [show (dats m hO 0 c).Φ (Fin.last (cfgM m hO).N) = keep m hO c (cfgM m hO).N (Nat.le_refl _) from rfl]
  refine (keep_forget m hO c _ _).trans ?_
  show (_ : sProp 𝕄) ⊢ _
  iintro ⟨HA, -⟩
  iexact HA

/-! ## The run -/

set_option backward.isDefEq.respectTransparency.types false in
/-- Every execution ends, with the arrays at what the data says and all counters at zero. -/
theorem run_quiet (hO : Ok m) : θ_run defs (onTc (τ := τ) (main (F := F))) (s₀ m ρ)
    (fun r => (Pipeline.FramePost (Pipeline.pin pcfgs fun _ => adm m hO) (dats m hO) 0 (V m)) r ∧ r.2.sem = fun _ => 0) :=
  Pipeline.θ_run_frameP_track_shared (Q' := _) pcfgs (fun _ => adm m hO) (dats m hO) (0 : Fin 1) launch₀0 defs₀ Variants.none m ρ main
    (hbody := fun c => (obligation m hO c).loose) (hq := fun _ _ _ => rfl)
    (howed := fun _ _ => rfl) (V := V m) (hmain := hmain m Variants.none) (hA := dats_A m hO) (hpf := V_pre m)
    (hin := keep_in m hO) (hout := keep_out m hO)

/-- The arguments end unchanged and the counters at zero. -/
theorem run_frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ hO (dats m hO) (dats_A m hO) ((θ_run defs _ _).mono (fun _ h => h.1) (run_quiet m ρ hO)))
    ((θ_run defs _ _).mono (fun _ h => h.2) (run_quiet m ρ hO))

/-- The idealized call's frame. -/
theorem frame_ideal : Cert.quiescent_Kernel3Ideal := fun m g _ => run_frame (F := Ideal) m g (ok m)

end Cert.Dense

end
-- ==== Proof.DenseBits.lean ====
/-
  The frame of the dense layer's call at the machine's floats, from the idealized call's run, which has the same text.
-/
module

public import proofs.«01_k».proof.Proof.DenseFrame
public import proofs.«01_k».proof.Proof.Gen.Kernel3

@[expose] public section

set_option maxRecDepth 16384

noncomputable section

namespace Cert.Dense

open Idealize.ShloMosaic Idealize.ShloMosaic.TcCoe
open Idealize.SL.Sem

variable [i1 : Cert.Kernel3.Facts] [i2 : Cert.Kernel3Ideal.Facts]
set_option maxHeartbeats 400000 in
/-- The two programs have the same bodies. -/
theorem bodies_eq : Cert.Kernel3.defs₀ (F := Bits) = Cert.Kernel3Ideal.defs₀ (F := Bits) := by
  unfold Cert.Kernel3.defs₀ Cert.Kernel3Ideal.defs₀
  refine congrArg Defs.onTc ?_
  funext l a
  match l, a with
  | 0, (t, s) => rfl

set_option maxHeartbeats 400000 in
/-- The two programs have the same declarations. -/
theorem defs_eq : Cert.Kernel3.defs (F := Bits) = Cert.Kernel3Ideal.defs (F := Bits) :=
  congrArg (Pipeline.defs (Cert.Kernel3Ideal.pcfgs (F := Bits))) bodies_eq

set_option maxHeartbeats 4000000 in
/-- The two programs have the same main program. -/
theorem main_eq : Cert.Kernel3.main (F := Bits) = Cert.Kernel3Ideal.main (F := Bits) := by
  unfold Cert.Kernel3.main Cert.Kernel3Ideal.main
  rfl

set_option maxHeartbeats 4000000 in
/-- The call's frame: the same run, at the machine's floats. -/
theorem frame_kernel : Cert.quiescent_Kernel3 := fun m g _ => by
  have h := run_frame (F := Bits) m g (ok m)
  rw [defs_eq, main_eq]
  exact h

end Cert.Dense

end
-- ==== Proof.DenseBlk.lean ====
/-
  The blocks of the dense layer's call in terms of the launched arrays: point `t` works on row tile `t / 2` and on column
  block `t % 2` of the weights.
-/
module

public import proofs.«01_k».proof.Proof.DenseFrame
public import Idealize.ShloMosaic.Lib.Pipeline.ValueKit
public import Idealize.ShloMosaic.Lib.Pointwise
public import Idealize.ShloMosaic.Lib.IdealHost

@[expose] public section

set_option maxRecDepth 16384

noncomputable section

namespace Cert.Dense

open Idealize.ShloMosaic Idealize.ShloMosaic.TcCoe
open Idealize.SL.Sem
open Cert.Kernel3Ideal Cert.Kernel3Ideal.Gen

variable (m : (ℓ : Loc nD τ sig) → Buf (Elt Ideal) ℓ) (c : Dev nD)

/-! ## The arrays the host prepares -/

/-- The launched arguments. -/
def argX : FVec Ideal S16384x1024 .f32 := m ((c : Thread nD τ).loc main_arg0)
def argG : FVec Ideal S1024 .f32 := m ((c : Thread nD τ).loc main_arg1)
def argU : FVec Ideal S1x1024x5632 .f32 := m ((c : Thread nD τ).loc main_arg2)
def argD : FVec Ideal S1x2816x1024 .f32 := m ((c : Thread nD τ).loc main_arg3)

theorem V_g : (V m c main_v9 : FVec Ideal S1x1024 .f32) = shapeCast S1x1024 (argG m c) shapeCasts_S1024_S1x1024 := by
  show StableHlo.after hostOps0 _ (Proc.devRef .tc main_v9) = _
  after_results
  rfl
theorem V_u : (V m c main_v2 : FVec Ideal S1x1024x5632 .bf16) = broadcastInDim S1x1024x5632 ![1, 2] bcast_S1024x5632_S1x1024x5632_1_2
    (truncf .bf16 (shapeCast S1024x5632 (argU m c) shapeCasts_S1x1024x5632_S1024x5632) bitsLt_bf16_f32) := by
  show StableHlo.after hostOps0 _ (Proc.devRef .tc main_v2) = _
  after_results
  rfl
theorem V_d : (V m c main_v5 : FVec Ideal S1x2816x1024 .bf16) = broadcastInDim S1x2816x1024 ![1, 2] bcast_S2816x1024_S1x2816x1024_1_2
    (truncf .bf16 (shapeCast S2816x1024 (argD m c) shapeCasts_S1x2816x1024_S2816x1024) bitsLt_bf16_f32) := by
  show StableHlo.after hostOps0 _ (Proc.devRef .tc main_v5) = _
  after_results
  rfl

theorem V_g_at (k : Fin 1024) : (V m c main_v9 : FVec Ideal S1x1024 .f32) (ix2 0 k) = argG m c (ix1 k) := by
  rw [V_g]; pointwise
theorem V_u_at (k : Fin 1024) (j : Fin 5632) : (V m c main_v2 : FVec Ideal S1x1024x5632 .bf16) (ix3 0 k j) = argU m c (ix3 0 k j) := by
  rw [V_u]; pointwise
theorem V_d_at (k : Fin 2816) (j : Fin 1024) : (V m c main_v5 : FVec Ideal S1x2816x1024 .bf16) (ix3 0 k j) = argD m c (ix3 0 k j) := by
  rw [V_d]; pointwise

/-! ## The blocks -/

/-- The row tile and the column block of a point. -/
theorem coord (t : Fin grid0.N) : (grid0.coords t 0).val = t.val / 2 ∧ (grid0.coords t 1).val = t.val % 2 := by
  have ht : t.val < 64 := Nat.lt_of_lt_of_eq t.isLt N_0
  have e0 : (grid0.coords t 0).val = t.val / 2 % 32 := Pipeline.Grid.coords_val t 0 (by decide) rfl
  have e1 : (grid0.coords t 1).val = t.val / 1 % 2 := Pipeline.Grid.coords_val t 1 (by decide) rfl
  omega

theorem at_0 (hO : Ok m) (t : Fin (cfgM m hO).N) (ht : t.val < 64) (r : Fin 512) (k : Fin 1024) :
    (show Vec Ideal S512x1024 .f32 from iblk m hO c 0 t) (ix2 r k) = argX m c (ix2 ⟨t.val / 2 * 512 + r.val, by omega⟩ k) := by
  refine Eq.trans ?_ (congrFun (V_main_arg0 m c) (ix2 (⟨t.val / 2 * 512 + r.val, by omega⟩ : Fin 16384) k))
  show (V m c main_arg0 : FVec Ideal S16384x1024 .f32) ((((cfgM m hO).win 0).blk t).view.emb (ix2 r k)) = _
  refine congrArg (V m c main_arg0 : FVec Ideal S16384x1024 .f32) (funext fun a => Fin.ext ?_)
  refine (Pipeline.Window.rect_emb_val ((cfgM m hO).win 0) t (ix2 r k) a rfl).trans ?_
  have e := (coord t).1
  fin_cases a
  · show (BitVec.ofNat 32 (grid0.coords t 0).val).toNat * 512 + r.val = t.val / 2 * 512 + r.val
    rw [e, BitVec.toNat_ofNat, Nat.mod_eq_of_lt (by omega)]
  · show 0 * 1024 + k.val = k.val
    omega

theorem at_1 (hO : Ok m) (t : Fin (cfgM m hO).N) (k : Fin 1024) :
    (show Vec Ideal S1x1024 .f32 from iblk m hO c 1 t) (ix2 0 k) = argG m c (ix1 k) := by
  rw [← V_g_at]
  show (V m c main_v9 : FVec Ideal S1x1024 .f32) ((((cfgM m hO).win 1).blk t).view.emb (ix2 0 k)) = _
  refine congrArg (V m c main_v9 : FVec Ideal S1x1024 .f32) (funext fun a => Fin.ext ?_)
  refine (Pipeline.Window.rect_emb_val ((cfgM m hO).win 1) t (ix2 0 k) a rfl).trans ?_
  fin_cases a
  · show 0 * 1 + 0 = 0
    rfl
  · show 0 * 1024 + k.val = k.val
    omega

/-- The blocks of the weights a point reads: the grid's column block. -/
theorem index_on (hO : Ok m) (t : Fin (cfgM m hO).N) :
    ((cfgM m hO).win 2).index t = ![0, 0, t.val % 2] ∧ ((cfgM m hO).win 3).index t = ![0, 0, 2 + t.val % 2]
    ∧ ((cfgM m hO).win 4).index t = ![0, t.val % 2, 0] := by
  have hc : (grid0.coords t 1).val = t.val % 2 := (coord t).2
  refine ⟨(map_2 (tbl m) (grid0.coords t) (tbl_on m)).trans ?_, (map_3 (tbl m) (grid0.coords t) (tbl_on m)).trans ?_,
    (map_4 (tbl m) (grid0.coords t) (tbl_on m)).trans ?_⟩ <;> rw [hc]

/-- The gate's columns. -/
theorem at_2 (hO : Ok m) (t : Fin (cfgM m hO).N) (k : Fin 1024) (j : Fin 1408) :
    (show Vec Ideal S1x1024x1408 .bf16 from iblk m hO c 2 t) (ix3 0 k j) = argU m c (ix3 0 k ⟨t.val % 2 * 1408 + j.val, by omega⟩) := by
  rw [← V_u_at]
  show (V m c main_v2 : FVec Ideal S1x1024x5632 .bf16) ((((cfgM m hO).win 2).blk t).view.emb (ix3 0 k j)) = _
  refine congrArg (V m c main_v2 : FVec Ideal S1x1024x5632 .bf16) (funext fun a => Fin.ext ?_)
  refine (Pipeline.Window.rect_emb_val ((cfgM m hO).win 2) t (ix3 0 k j) a rfl).trans ?_
  rw [(index_on m hO t).1]
  fin_cases a
  · show 0 * 1 + 0 = 0
    rfl
  · show 0 * 1024 + k.val = k.val
    omega
  · show t.val % 2 * 1408 + j.val = t.val % 2 * 1408 + j.val
    rfl

/-- The other factor's columns. -/
theorem at_3 (hO : Ok m) (t : Fin (cfgM m hO).N) (k : Fin 1024) (j : Fin 1408) :
    (show Vec Ideal S1x1024x1408 .bf16 from iblk m hO c 3 t) (ix3 0 k j) = argU m c (ix3 0 k ⟨2816 + (t.val % 2 * 1408 + j.val), by omega⟩) := by
  rw [← V_u_at]
  show (V m c main_v2 : FVec Ideal S1x1024x5632 .bf16) ((((cfgM m hO).win 3).blk t).view.emb (ix3 0 k j)) = _
  refine congrArg (V m c main_v2 : FVec Ideal S1x1024x5632 .bf16) (funext fun a => Fin.ext ?_)
  refine (Pipeline.Window.rect_emb_val ((cfgM m hO).win 3) t (ix3 0 k j) a rfl).trans ?_
  rw [(index_on m hO t).2.1]
  fin_cases a
  · show 0 * 1 + 0 = 0
    rfl
  · show 0 * 1024 + k.val = k.val
    omega
  · show (2 + t.val % 2) * 1408 + j.val = 2816 + (t.val % 2 * 1408 + j.val)
    omega

/-- The second weights' rows. -/
theorem at_4 (hO : Ok m) (t : Fin (cfgM m hO).N) (k : Fin 1408) (j : Fin 1024) :
    (show Vec Ideal S1x1408x1024 .bf16 from iblk m hO c 4 t) (ix3 0 k j) = argD m c (ix3 0 ⟨t.val % 2 * 1408 + k.val, by omega⟩ j) := by
  rw [← V_d_at]
  show (V m c main_v5 : FVec Ideal S1x2816x1024 .bf16) ((((cfgM m hO).win 4).blk t).view.emb (ix3 0 k j)) = _
  refine congrArg (V m c main_v5 : FVec Ideal S1x2816x1024 .bf16) (funext fun a => Fin.ext ?_)
  refine (Pipeline.Window.rect_emb_val ((cfgM m hO).win 4) t (ix3 0 k j) a rfl).trans ?_
  rw [(index_on m hO t).2.2]
  fin_cases a
  · show 0 * 1 + 0 = 0
    rfl
  · show t.val % 2 * 1408 + k.val = t.val % 2 * 1408 + k.val
    rfl
  · show 0 * 1024 + j.val = j.val
    omega

/-- Where an entry of the output's block lies in the result. -/
theorem at_6 (hO : Ok m) (t : Fin (cfgM m hO).N) (ht : t.val < 64) (r : Fin 512) (k : Fin 1024) :
    (((cfgM m hO).win 6).blk t).view.emb (ix2 r k) = (ix2 (⟨t.val / 2 * 512 + r.val, by omega⟩ : Fin 16384) k : S16384x1024.Idx) := by
  refine funext fun a => Fin.ext ?_
  refine (Pipeline.Window.rect_emb_val ((cfgM m hO).win 6) t (ix2 r k) a rfl).trans ?_
  have e := (coord t).1
  fin_cases a
  · show (BitVec.ofNat 32 (grid0.coords t 0).val).toNat * 512 + r.val = t.val / 2 * 512 + r.val
    rw [e, BitVec.toNat_ofNat, Nat.mod_eq_of_lt (by omega)]
  · show 0 * 1024 + k.val = k.val
    omega

end Cert.Dense

end
-- ==== Proof.DenseMath.lean ====
/-
  What a block of the dense layer's call holds, entry by entry, over the extended reals: the normalised rows, one tile
  of the layer, and the stored sum.
-/
module

public import proofs.«01_k».proof.Proof.DenseRun
public import proofs.«01_k».proof.Proof.MoeMath
public import Idealize.ShloMosaic.Lib.Pointwise
public import Idealize.ShloMosaic.Lib.IdealHost

@[expose] public section

set_option maxRecDepth 16384

noncomputable section

namespace Cert.DenseMath

open Idealize.ShloMosaic Idealize.ShloMosaic.TcCoe
open Cert.Kernel3Ideal Cert.Kernel3Ideal.Gen
open Cert.Dense
open Cert.MoeRef (silu)
open Cert.MoeMath (silu_eq)

/-- The normalised rows of a block. -/
theorem xn_at (x : Vec Ideal S512x1024 .f32) (g : Vec Ideal S1x1024 .f32) (r : Fin 512) (k : Fin 1024) :
    xnOf (F := Ideal) x g (ix2 r k) = x (ix2 r k) * Ideal.rsqrt (Ideal.div (∑ q : Fin 1024, x (ix2 r q) * x (ix2 r q)) (Ideal.ofBits .f32 0x44800000#32)
      + Ideal.ofBits .f32 0x358637BD#32) * g (ix2 0 k) := by
  pointwise [xnOf, k0_pay1]

theorem up_at (a : FVec Ideal S512x1024 .bf16) (u : FVec Ideal S1024x1408 .bf16) (r : Fin 512) (j : Fin 1408) :
    matmul (F := Ideal) dot_S512x1024_S1024x1408_S512x1408_1_0_0_1_n_n none a u (constant S512x1408 .f32 0x00000000#32) (ix2 r j)
      = ∑ k : Fin 1024, a (ix2 r k) * u (ix2 k j) := by
  pointwise
theorem down_at (a : FVec Ideal S512x1408 .bf16) (d : FVec Ideal S1408x1024 .bf16) (r : Fin 512) (n : Fin 1024) :
    matmul (F := Ideal) dot_S512x1408_S1408x1024_S512x1024_1_0_0_1_n_n none a d (constant S512x1024 .f32 0x00000000#32) (ix2 r n)
      = ∑ j : Fin 1408, a (ix2 r j) * d (ix2 j n) := by
  pointwise

/-- One tile of hidden columns adds its columns' contributions. -/
theorem step_at (xn : Vec Ideal S512x1024 .bf16) (g u : Vec Ideal S1x1024x1408 .bf16) (d : Vec Ideal S1x1408x1024 .bf16) (acc : Vec Ideal S512x1024 .f32)
    (r : Fin 512) (n : Fin 1024) :
    step (F := Ideal) xn g u d acc (ix2 r n) = acc (ix2 r n) + ∑ j : Fin 1408, silu (∑ k : Fin 1024, xn (ix2 r k) * g (ix3 0 k j))
      * (∑ k : Fin 1024, xn (ix2 r k) * u (ix3 0 k j)) * d (ix3 0 j n) := by
  have hc : ∀ (w : FVec Ideal S1x1024x1408 .bf16) (k : Fin 1024) (j : Fin 1408),
      shapeCast S1024x1408 w shapeCasts_S1x1024x1408_S1024x1408 (ix2 k j) = w (ix3 0 k j) := fun w k j => by pointwise
  have hd : ∀ (j : Fin 1408), shapeCast S1408x1024 d shapeCasts_S1x1408x1024_S1408x1024 (ix2 j n) = d (ix3 0 j n) := fun j => by pointwise
  unfold step k0_pay3
  rw [shapeCast_self]
  refine congrArg (acc (ix2 r n) + ·) ?_
  rw [down_at]
  refine Finset.sum_congr rfl fun j _ => ?_
  rw [hd]
  refine Ideal.mul_congr ?_ rfl
  simp only [← hc, ← up_at]
  rw [← silu_eq]
  rfl

theorem zero_at (r : Fin 512) (n : Fin 1024) : zero (F := Ideal) (ix2 r n) = 0 := by
  pointwise [zero, k0_pay2]

/-- The stored block: the rows plus the accumulator. -/
theorem out_at (x acc : Vec Ideal S512x1024 .f32) (r : Fin 512) (n : Fin 1024) : outOf (F := Ideal) x acc (ix2 r n) = x (ix2 r n) + acc (ix2 r n) := by
  pointwise [outOf, k0_pay4]

end Cert.DenseMath

end
-- ==== Proof.DenseRef.lean ====
/- The dense layer's reference, read at one entry over the extended reals. -/
module

public import proofs.«01_k».proof.Proof.Gen.Reference3Ideal.Read
public import proofs.«01_k».proof.Proof.MoeRef2
public import Idealize.ShloMosaic.Lib.Pointwise
public import Idealize.ShloMosaic.Lib.IdealHost

@[expose] public section

set_option maxRecDepth 16384

noncomputable section

namespace Cert.DenseRef

open Idealize.ShloMosaic Idealize.ShloMosaic.TcCoe Idealize.SL.Sem
open Cert.Reference3Ideal Cert.Reference3Ideal.Gen Cert.Reference3Ideal.Read
open Cert.MoeRef (silu reduce_add)

/-- A normalised entry of row `i`. -/
def hOf (x : FVec Ideal S16384x1024 .f32) (g : FVec Ideal S1024 .f32) (i : Fin 16384) (k : Fin 1024) : EReal :=
  x (ix2 i k) * Ideal.rsqrt (Ideal.div (∑ q : Fin 1024, x (ix2 i q) * x (ix2 i q)) (Ideal.ofBits .f32 0x44800000#32) + Ideal.ofBits .f32 0x358637BD#32) * g (ix1 k)

/-- The gated layer at one entry, on a normalised row. -/
def yOf (h : Fin 1024 → EReal) (w2 : FVec Ideal S1x1024x5632 .f32) (w3 : FVec Ideal S1x2816x1024 .f32) (n : Fin 1024) : EReal :=
  ∑ j : Fin 2816, silu (∑ k : Fin 1024, h k * w2 (ix3 0 k ⟨j.val, by omega⟩)) * (∑ k : Fin 1024, h k * w2 (ix3 0 k ⟨2816 + j.val, by omega⟩)) * w3 (ix3 0 j n)

theorem v1_at (x : FVec Ideal S16384x1024 .f32) (i : Fin 16384) : val_main_v1 (F := Ideal) x (ix1 i) = ∑ q : Fin 1024, x (ix2 i q) * x (ix2 i q) := by
  unfold val_main_v1
  refine (reduce_add (n0 := 16384) (n1 := 1024) (val_main_v0 (F := Ideal) x) (val_main_cst (F := Ideal)) reducesTo_S16384x1024_S16384_d1 h_S_ i).trans ?_
  have e : val_main_cst (F := Ideal) (Shape.Idx.first h_S_) = (0 : EReal) := by pointwise [val_main_cst]
  rw [e, zero_add]
  rfl

/-- The reference's normalised rows. -/
theorem v12_at (x : FVec Ideal S16384x1024 .f32) (g : FVec Ideal S1024 .f32) (i : Fin 16384) (k : Fin 1024) :
    val_main_v12 (F := Ideal) x g (ix2 i k) = hOf x g i k := by
  unfold hOf
  rw [← v1_at]
  generalize hv : val_main_v1 (F := Ideal) x = v
  pointwise [val_main_v12, val_main_v11, val_main_v10, val_main_v9, val_main_v8, val_main_v7, val_main_v6, val_main_v5, val_main_v4, val_main_v3, val_main_v2, val_main_cst_0, val_main_cst_1, hv]

theorem up_at (h : FVec Ideal S16384x1024 .f32) (u : FVec Ideal S1024x5632 .f32) (i : Fin 16384) (j : Fin 5632) :
    Host.dotGeneral (F := Ideal) dot_S16384x1024_S1024x5632_S16384x5632_1_0_0_1_n_n none h u (ix2 i j) = ∑ k : Fin 1024, h (ix2 i k) * u (ix2 k j) := by
  pointwise

theorem down_at (a : FVec Ideal S16384x2816 .f32) (d : FVec Ideal S2816x1024 .f32) (i : Fin 16384) (n : Fin 1024) :
    Host.dotGeneral (F := Ideal) dot_S16384x2816_S2816x1024_S16384x1024_1_0_0_1_n_n none a d (ix2 i n) = ∑ k : Fin 2816, a (ix2 i k) * d (ix2 k n) := by
  pointwise

/-- The first weights without their leading axis, and the second. -/
theorem v13_at (w : FVec Ideal S1x1024x5632 .f32) (k : Fin 1024) (j : Fin 5632) : val_main_v13 (F := Ideal) w (ix2 k j) = w (ix3 0 k j) := by
  pointwise [val_main_v13]
theorem v14_at (w : FVec Ideal S1x2816x1024 .f32) (k : Fin 2816) (j : Fin 1024) : val_main_v14 (F := Ideal) w (ix2 k j) = w (ix3 0 k j) := by
  pointwise [val_main_v14]

theorem v15_at (x : FVec Ideal S16384x1024 .f32) (g : FVec Ideal S1024 .f32) (w : FVec Ideal S1x1024x5632 .f32) (i : Fin 16384) (j : Fin 5632) :
    val_main_v15 (F := Ideal) x g w (ix2 i j) = ∑ k : Fin 1024, hOf x g i k * w (ix3 0 k j) := by
  unfold val_main_v15
  rw [up_at]
  exact Finset.sum_congr rfl fun k _ => by rw [v12_at, v13_at]

/-- The gated hidden columns. -/
theorem v19_at (x : FVec Ideal S16384x1024 .f32) (g : FVec Ideal S1024 .f32) (w : FVec Ideal S1x1024x5632 .f32) (i : Fin 16384) (j : Fin 2816) :
    val_main_v19 (F := Ideal) x g w (ix2 i j) = silu (∑ k : Fin 1024, hOf x g i k * w (ix3 0 k ⟨j.val, by omega⟩)) * (∑ k : Fin 1024, hOf x g i k * w (ix3 0 k ⟨2816 + j.val, by omega⟩)) := by
  rw [← v15_at, ← v15_at]
  generalize hv : val_main_v15 (F := Ideal) x g w = v
  pointwise [val_main_v19, val_main_v18, val_main_v17, val_main_v16, val_main_call0_v5, val_main_call0_v4, val_main_call0_v3, val_main_call0_v2, val_main_call0_v1, val_main_call0_v0, val_main_call0_cst, val_main_call0_cst_0, hv, silu]

/-- The reference's result at one entry: the row's entry plus the gated layer of its normalised row. -/
theorem v21_at (x : FVec Ideal S16384x1024 .f32) (g : FVec Ideal S1024 .f32) (w2 : FVec Ideal S1x1024x5632 .f32) (w3 : FVec Ideal S1x2816x1024 .f32)
    (i : Fin 16384) (n : Fin 1024) :
    val_main_v21 (F := Ideal) x g w2 w3 (ix2 i n) = x (ix2 i n) + yOf (hOf x g i) w2 w3 n := by
  rw [val_main_v21_apply]
  refine congrArg (x (ix2 i n) + ·) ?_
  unfold val_main_v20 yOf
  rw [down_at]
  exact Finset.sum_congr rfl fun j _ => by rw [v19_at, v14_at]

end Cert.DenseRef

end
-- ==== Proof.DenseValue.lean ====
/-
  The dense layer's call: its result array is the reference's.
-/
module

public import proofs.«01_k».proof.Proof.DenseBlk
public import proofs.«01_k».proof.Proof.DenseMath
public import proofs.«01_k».proof.Proof.DenseRef

@[expose] public section

set_option maxRecDepth 16384

noncomputable section

namespace Cert.Dense

open Idealize.ShloMosaic Idealize.ShloMosaic.TcCoe
open Idealize.SL.Sem
open Idealize.ShloMosaic.Pipeline (Dat)
open Cert.Kernel3Ideal Cert.Kernel3Ideal.Gen
open Cert.DenseMath (xn_at step_at zero_at out_at)
open Cert.DenseRef (hOf yOf)
open Cert.MoeRef (silu)

/-- What half `q` of the hidden columns contributes to an entry. -/
def half (h : Fin 1024 → EReal) (w2 : FVec Ideal S1x1024x5632 .f32) (w3 : FVec Ideal S1x2816x1024 .f32) (n : Fin 1024) (q : Fin 2) : EReal :=
  ∑ j : Fin 1408, silu (∑ k : Fin 1024, h k * w2 (ix3 0 k ⟨q.val * 1408 + j.val, by omega⟩))
    * (∑ k : Fin 1024, h k * w2 (ix3 0 k ⟨2816 + (q.val * 1408 + j.val), by omega⟩)) * w3 (ix3 0 ⟨q.val * 1408 + j.val, by omega⟩ n)

/-- The layer is its two halves' sum. -/
theorem halves (h : Fin 1024 → EReal) (w2 : FVec Ideal S1x1024x5632 .f32) (w3 : FVec Ideal S1x2816x1024 .f32) (n : Fin 1024) :
    yOf h w2 w3 n = half h w2 w3 n 0 + half h w2 w3 n 1 := by
  unfold yOf half
  rw [Fin.sum_univ_tiles 2 1408 rfl, Fin.sum_univ_two]

variable (m : (ℓ : Loc nD τ sig) → Buf (Elt Ideal) ℓ) (c : Dev nD)

/-- The rows a tile normalises are the reference's normalised rows. -/
theorem xn_eq (hO : Ok m) (t : Fin (cfgM m hO).N) (ht : t.val < 64) (r : Fin 512) (i : Fin 16384) (hi : i.val = t.val / 2 * 512 + r.val) (k : Fin 1024) :
    xnAt m hO c t (ix2 r k) = hOf (argX m c) (argG m c) i k := by
  have hrow : ∀ k, (show Vec Ideal S512x1024 .f32 from iblk m hO c 0 t) (ix2 r k) = argX m c (ix2 i k) := fun k =>
    (at_0 m c hO t ht r k).trans (congrArg (fun z => argX m c (ix2 z k)) (Fin.ext hi.symm))
  refine (xn_at (show Vec Ideal S512x1024 .f32 from iblk m hO c 0 t) (show Vec Ideal S1x1024 .f32 from iblk m hO c 1 t) r k).trans ?_
  unfold hOf
  simp only [hrow]
  exact congrArg (_ * ·) (at_1 m c hO t k)

/-- A point adds its half of the layer. -/
theorem step_eq (hO : Ok m) (t : Fin (cfgM m hO).N) (xn : Vec Ideal S512x1024 .bf16) (acc : Vec Ideal S512x1024 .f32) (r : Fin 512) (n : Fin 1024)
    (h : Fin 1024 → EReal) (hx : ∀ k, xn (ix2 r k) = h k) :
    step (F := Ideal) xn (iblk m hO c 2 t) (iblk m hO c 3 t) (iblk m hO c 4 t) acc (ix2 r n)
      = acc (ix2 r n) + half h (argU m c) (argD m c) n ⟨t.val % 2, by omega⟩ := by
  refine (step_at xn (show Vec Ideal S1x1024x1408 .bf16 from iblk m hO c 2 t) (show Vec Ideal S1x1024x1408 .bf16 from iblk m hO c 3 t)
    (show Vec Ideal S1x1408x1024 .bf16 from iblk m hO c 4 t) acc r n).trans ?_
  unfold half
  refine congrArg (acc (ix2 r n) + ·) (Finset.sum_congr rfl fun j _ => ?_)
  rw [at_4 m c hO t]
  simp only [at_2 m c hO t, at_3 m c hO t, hx]

/-- The accumulator at the end of a tile holds the layer of its normalised rows. -/
theorem acc_eq (hO : Ok m) (t : Fin (cfgM m hO).N) (ht : t.val < 64) (h1 : t.val % 2 = 1)
    (r : Fin 512) (n : Fin 1024) (i : Fin 16384) (hi : i.val = t.val / 2 * 512 + r.val) :
    accLast m hO c t (ix2 r n) = yOf (hOf (argX m c) (argG m c) i) (argU m c) (argD m c) n := by
  have hpv : (prev m hO t).val = t.val - 1 := rfl
  have hp : (prev m hO t).val < 64 := by omega
  have hx : ∀ k, xnAt m hO c (prev m hO t) (ix2 r k) = hOf (argX m c) (argG m c) i k :=
    fun k => xn_eq m c hO (prev m hO t) hp r i (by omega) k
  unfold accLast accFirst
  rw [step_eq m c hO t _ _ r n _ hx, step_eq m c hO (prev m hO t) _ _ r n _ hx, zero_at, zero_add, halves]
  have q1 : (⟨t.val % 2, by omega⟩ : Fin 2) = 1 := Fin.ext h1
  have q0 : (⟨(prev m hO t).val % 2, by omega⟩ : Fin 2) = 0 := Fin.ext (by show (prev m hO t).val % 2 = 0; omega)
  rw [q1, q0]

/-- The reference's value of the launched arrays. -/
def refVal : FVec Ideal S16384x1024 .f32 :=
  Cert.Reference3Ideal.Read.val_main_v21 (F := Ideal) (argX m c) (argG m c) (argU m c) (argD m c)

/-- What a tile's last point writes back, at one entry of its block, is the reference there. -/
theorem point (hO : Ok m) (t : Fin (cfgM m hO).N) (ht : t.val < 64) (h1 : t.val % 2 = 1) (y : Fin 512) (n : Fin 1024) :
    outAt m hO c t (ix2 y n) = refVal m c (ix2 ⟨t.val / 2 * 512 + y.val, by omega⟩ n) := by
  refine (out_at (show Vec Ideal S512x1024 .f32 from iblk m hO c 0 t) (accLast m hO c t) y n).trans ?_
  rw [at_0 m c hO t ht, acc_eq m c hO t ht h1 y n ⟨t.val / 2 * 512 + y.val, by omega⟩ rfl]
  exact (Cert.DenseRef.v21_at _ _ _ _ _ _).symm

/-- The tiles' last points write back, and their blocks cover the result. -/
theorem out_covers (hO : Ok m) (i : S16384x1024.Idx) :
    ∃ t : Fin (cfgM m hO).N, ((cfgM m hO).win 6).flush t = true ∧ i ∈ (((cfgM m hO).win 6).blk t).view.set := by
  have h0 : (i 0).val < 16384 := (i 0).isLt
  have hN : 2 * ((i 0).val / 512) + 1 < grid0.N := by rw [N_0]; omega
  refine ⟨⟨2 * ((i 0).val / 512) + 1, hN⟩, ?_, ?_⟩
  · exact (by decide +kernel : ∀ t : Fin grid0.N, t.val % 2 = 1 → Pipeline.Window.flushOf grid0 true cc0_transform_6 t = true) ⟨2 * ((i 0).val / 512) + 1, hN⟩ (by dsimp only; omega)
  · have e := at_6 m hO ⟨2 * ((i 0).val / 512) + 1, hN⟩ (by dsimp only; omega) ⟨(i 0).val % 512, by omega⟩ ⟨(i 1).val, (i 1).isLt⟩
    have ei : i = (((cfgM m hO).win 6).blk ⟨2 * ((i 0).val / 512) + 1, hN⟩).view.emb (ix2 (⟨(i 0).val % 512, by omega⟩ : Fin 512) (⟨(i 1).val, (i 1).isLt⟩ : Fin 1024)) := by
      rw [e]
      funext a
      fin_cases a <;> refine Fin.ext ?_
      · show (i 0).val = (2 * ((i 0).val / 512) + 1) / 2 * 512 + (i 0).val % 512
        omega
      · rfl
    exact Finset.mem_map.mpr ⟨_, Finset.mem_univ _, ei.symm⟩

/-- The same at any entry of the block. -/
theorem entry (hO : Ok m) (t : Fin (cfgM m hO).N) (ht : t.val < 64) (h1 : t.val % 2 = 1) (y : S512x1024.Idx) :
    outAt m hO c t y = refVal m c ((((cfgM m hO).win 6).blk t).view.emb y) := by
  obtain ⟨y0, y1, rfl⟩ : ∃ (y0 : Fin 512) (y1 : Fin 1024), y = ix2 y0 y1 := ⟨y 0, y 1, eq_ix2 y⟩
  exact (point m c hO t ht h1 y0 y1).trans (congrArg (refVal m c) (at_6 m hO t ht y0 y1).symm)

/-- THE RESULT ARRAY of the dense layer's call is the reference's value of the launched arrays. -/
theorem final (hO : Ok m) : (dats m hO 0 c).arrAt 6 (cfgM m hO).N = refVal m c := by
  refine (dats m hO 0 c).arrAt_eq_of_emb 6 _ (fun t hf y => ?_) (out_covers m hO)
  have ht : t.val < 64 := Nat.lt_of_lt_of_eq t.isLt N_0
  have h1 : t.val % 2 = 1 := by
    rcases Nat.mod_two_eq_zero_or_one t.val with h | h
    · have hk : ((cfgM m hO).win 6).flush t = false := noFlush0_6_A m hO t ((hcond0_0 t).mpr h) (fun e => by have := (hcond0_2 t).mp e; omega)
      rw [hk] at hf; exact absurd hf (by decide)
    · exact h
  rw [after_6]
  exact entry m c hO t ht h1 y

end Cert.Dense

end
-- ==== Proof.Dense.lean ====
/- The dense layer: the reference's frame and the value claim. -/
module

public import proofs.«01_k».proof.Proof.DenseValue
public import proofs.«01_k».proof.Proof.Gen.Reference3Ideal.Run
public import proofs.«01_k».proof.Proof.Gen.Reference3Ideal.Read
public import Idealize.ShloMosaic.Lib.Claim

@[expose] public section

set_option maxRecDepth 16384

noncomputable section

namespace Cert.Dense

open Idealize.ShloMosaic Idealize.SL.Sem

variable [Cert.Kernel3Ideal.Facts] [Cert.Reference3Ideal.Facts]

/-- The reference runs, leaves its arguments as they were and every semaphore at zero. -/
theorem frame_reference : Cert.quiescent_Reference3Ideal := fun m g _ =>
  (θ_run Cert.Reference3Ideal.defs _ _).mono (fun r h => ⟨fun c => (h c).2, sem_eq_zero_of_no_sems (by decide) r.2⟩)
    (Cert.Reference3Ideal.Value.run (F := Ideal) m g)

/-- THE VALUE CLAIM: the kernel's result is the reference's. -/
theorem algebraic : Cert.algebraic_Kernel3Ideal_Reference3Ideal := fun m g m' g' hpre hargs => by
  refine ⟨fun c => refVal m c,
    (θ_run Cert.Kernel3Ideal.defs _ _).mono
      (fun _ h c => ⟨((h.1.1 c).1 6).trans (final m c (ok m)), h.2.1 c⟩)
      (θ_run_and (run_quiet m g (ok m)) (run_frame m g (ok m))),
    (θ_run Cert.Reference3Ideal.defs _ _).mono
      (fun _ h c => ⟨((h c).1.trans (Cert.Reference3Ideal.Read.val_main_v21_eq _ _ _ _)).trans ?_, (h c).2⟩)
      (Cert.Reference3Ideal.Value.run m' g')⟩
  obtain ⟨e0, e1, e2, e3⟩ := hargs c
  exact congr (congr (congr (congrArg (Cert.Reference3Ideal.Read.val_main_v21 (F := Ideal)) e0) e1) e2) e3

end Cert.Dense

end
-- ==== Proof.MemOut.lean ====
/-
  What one row tile of the memory's keys and values leaves in its three blocks, at any floats: the projected rows, and
  the projected rows' key and value columns by heads.
-/
module

public import proofs.«01_k».proof.Proof.Gen.Kernel4Ideal.Frame.RunA
public import Idealize.ShloMosaic.Lib.Pipeline.ValueKit
public import Idealize.ShloMosaic.Lib.VecWindow
public import Idealize.ShloMosaic.Lib.Ring
public import Idealize.ShloMosaic.Lib.Pointwise

@[expose] public section

set_option maxRecDepth 16384

noncomputable section

namespace Cert.Mem

open Idealize.ShloMosaic Idealize.ShloMosaic.TcCoe Idealize.ShloMosaic.Tactic Idealize.SL.Sem
open Cert.Kernel4Ideal Cert.Kernel4Ideal.Gen

variable {F : FTy → Type} [FloatOps F]

/-- Four heads of 256 columns from column `o` on. -/
def headsOf (o : ℕ) (ho : o + 1024 ≤ 2048) (p : Vec F S512x2048 .f32) : Vec F S1x512x4x256 .f32 := fun y =>
  p (ix2 (n0 := 512) (n1 := 2048) ⟨(y 1).val, (y 1).isLt⟩ ⟨o + ((y 2).val * 256 + (y 3).val), by
    have h2 : (y 2).val < 4 := (y 2).isLt
    have h3 : (y 3).val < 256 := (y 3).isLt
    omega⟩)

/-- A head stored through the layer's slice holds that head's columns. -/
theorem head_piece (o : ℕ) (ho : o + 1024 ≤ 2048) (p : Vec F S512x2048 .f32) (h : ℕ) (hh : h < 4) (w : FVec F S512x1x256 .f32)
    (hw : ∀ (r : Fin 512) (d : Fin 256), w (ix3 r 0 d) = p (ix2 r ⟨o + (h * 256 + d.val), by omega⟩))
    (i0 : ∀ a, (![0, 0, 0, 0] : Fin 4 → ℕ) a + (![1, 512, 4, 256] : Fin 4 → ℕ) a ≤ S1x512x4x256.size a)
    (i1 : ∀ a, (![0, h, 0] : Fin 3 → ℕ) a + (![512, 1, 256] : Fin 3 → ℕ) a ≤ S512x4x256.size a)
    (p2 : (![1, 512, 4, 256] : Fin 4 → ℕ) 0 = 1) (p3 : ∀ i : Fin 3, (![1, 512, 4, 256] : Fin 4 → ℕ) i.succ = S512x4x256.size i)
    (p1 : ∀ a, (Rect.unit (s := S1x512x4x256) ![0, 0, 0, 0] ![1, 512, 4, 256] i0).stride a = 1)
    (hR : (((Rect.unit (s := S1x512x4x256) ![0, 0, 0, 0] ![1, 512, 4, 256] i0).within ((Rect.unit (s := S512x4x256) ![0, h, 0] ![512, 1, 256] i1).consLift ![1, 512, 4, 256] p2 p3) p1)).shape.numel
      = (Rect.unit (s := S512x4x256) ![0, h, 0] ![512, 1, 256] i1).shape.numel)
    (x : (((Rect.unit (s := S1x512x4x256) ![0, 0, 0, 0] ![1, 512, 4, 256] i0).within ((Rect.unit (s := S512x4x256) ![0, h, 0] ![512, 1, 256] i1).consLift ![1, 512, 4, 256] p2 p3) p1)).shape.Idx) :
    Rect.payAlong hR w x = headsOf o ho p ((((Rect.unit (s := S1x512x4x256) ![0, 0, 0, 0] ![1, 512, 4, 256] i0).within ((Rect.unit (s := S512x4x256) ![0, h, 0] ![512, 1, 256] i1).consLift ![1, 512, 4, 256] p2 p3) p1)).emb x) := by
  have h1 : (x 1).val < 512 := (x 1).isLt
  have h2 : (x 2).val = 0 := Nat.lt_one_iff.mp (x 2).isLt
  have h3 : (x 3).val < 256 := (x 3).isLt
  refine (Rect.payAlong_consLift (Rect.unit (s := S512x4x256) ![0, h, 0] ![512, 1, 256] i1) ![1, 512, 4, 256] p2 p3 w hR x
    (ix3 (⟨(x 1).val, h1⟩ : Fin 512) (0 : Fin 1) (⟨(x 3).val, h3⟩ : Fin 256)) (fun i => by fin_cases i <;> first | rfl | exact h2.symm)).trans ?_
  refine (hw _ _).trans ?_
  unfold headsOf
  refine congrArg p ((ix2_inj ..).2 ⟨Fin.ext ?_, Fin.ext ?_⟩)
  · show (x 1).val = 0 + 0 + 1 * (x 1).val
    omega
  · show o + (h * 256 + (x 3).val) = o + ((0 + h + 1 * (x 2).val) * 256 + (0 + 0 + 1 * (x 3).val))
    omega

/-- A head's columns, cut from the projected rows. -/
theorem cut_at (o : ℕ) (ho : o + 256 ≤ 2048) (p : FVec F S512x2048 .f32) (hs : S512x2048.Slices ![0, o] S512x256) (r : Fin 512) (d : Fin 256)
    (n : Fin 2048) (hn : n.val = o + d.val) :
    shapeCast S512x1x256 (extractStridedSlice S512x256 ![0, o] p hs) shapeCasts_S512x256_S512x1x256 (ix3 r 0 d) = p (ix2 r n) := by
  have e : n = ⟨o + d.val, by omega⟩ := Fin.ext hn
  rw [e]
  pointwise

/-- A load of a whole buffer known by its contents. -/
theorem load_whole {S : Shape} {e : EltTy} (M : Memref sig .tc .vmem S e) (hM : M.IsWhole) (x : Vec F S e) (o : Fin S.rank → ℕ)
    (h : ∀ a, o a + S.size a ≤ S.size a) :
    M.view.readAt (Elt F) (Rect.unit (s := S) o S.size h).toLoadRect (hM.unread x) = x :=
  funext fun j => (congrFun (hM.read_unread x) _).trans (congrArg x (Rect.emb_unit_full h j))

section
variable (c : Dev nD) (i : grid0.Coords) (a1 : Memref sig .tc .vmem S512x1024 .f32) (h1 : a1.IsWhole) (a2 : Memref sig .tc .vmem S1x1024 .f32) (h2 : a2.IsWhole)
  (a3 : Memref sig .tc .vmem S1024x2048 .bf16) (h3 : a3.IsWhole) (a4 : Memref sig .tc .vmem S512x2048 .f32) (h4 : a4.IsWhole)
  (a5 : Memref sig .tc .vmem S1x512x4x256 .f32) (h5 : a5.IsWhole) (a6 : Memref sig .tc .vmem S1x512x4x256 .f32) (h6 : a6.IsWhole)
  (x : Vec F S512x1024 .f32) (g : Vec F S1x1024 .f32) (w : Vec F S1024x2048 .bf16)

/-- The projected rows, from what the loads of the body read. -/
theorem prod_load :
    k0_pay3 (F := F)
      (View.readAt (Elt F) a1.view (Rect.unit (s := S512x1024) ![0, 0] S512x1024.size inb_S512x1024_S512x1024_0_0).toLoadRect (h1.unread x))
      (View.readAt (Elt F) a2.view (Rect.unit (s := S1x1024) ![0, 0] S1x1024.size inb_S1x1024_S1x1024_0_0).toLoadRect (h2.unread g))
      (View.readAt (Elt F) a3.view (Rect.unit (s := S1024x2048) ![0, 0] S1024x2048.size inb_S1024x2048_S1024x2048_0_0).toLoadRect (h3.unread w))
      = k0_pay3 (F := F) x g w := by
  rw [load_whole a1 h1, load_whole a2 h2, load_whole a3 h3]

/-- The stores of the body leave the projected rows in the first buffer, whatever it held. -/
theorem left_3 (f : a4.view.ty.Contents (Elt F)) :
    a4.view.read (Elt F) (a4.view.writes (Elt F) f (kernelRun0_A c i a1 h1 a2 h2 a3 h3 a4 h4 a5 h5 a6 h6 x g w).1) = k0_pay3 (F := F) x g w := by
  funext y
  refine View.read_writes_apply_of_pieces a4.view f (k0_pay3 (F := F) x g w) _ (fun pc hpc z => ?_) y
    (View.cover_of_tiledBy _ ![512, 2048] (by sl_kernel_rfl) y)
  dsimp only [kernelRun0_A] at hpc
  obtain rfl := List.mem_singleton.mp hpc
  refine (congrFun (prod_load a1 h1 a2 h2 a3 h3 x g w) z).trans (congrArg (k0_pay3 (F := F) x g w) ?_)
  exact (Rect.emb_unit_full inb_S512x2048_S512x2048_0_0 z).symm

/-- They leave the keys by heads in the second. -/
theorem left_4 (f : a5.view.ty.Contents (Elt F)) :
    a5.view.read (Elt F) (a5.view.writes (Elt F) f (kernelRun0_A c i a1 h1 a2 h2 a3 h3 a4 h4 a5 h5 a6 h6 x g w).2.1)
      = headsOf 0 (by omega) (k0_pay3 (F := F) x g w) := by
  funext y
  refine View.read_writes_apply_of_pieces a5.view f (headsOf 0 (by omega) (k0_pay3 (F := F) x g w)) _ ?_ y
    (View.cover_of_tiledBy _ ![1, 512, 1, 256] (by sl_kernel_rfl) y)
  dsimp only [kernelRun0_A, kernelRun0_A.sl.r, kernelRun0_A.sl.r_1, k0_pay4, k0_pay5, k0_pay6, k0_pay7, k0_pay8]
  rw [prod_load]
  simp only [List.forall_mem_cons]
  refine ⟨fun z => ?_, fun z => ?_, fun z => ?_, fun z => ?_, fun _ h => absurd h List.not_mem_nil⟩
  · exact head_piece 0 (by omega) _ 3 (by omega) _ (fun r d => cut_at 768 (by omega) _ _ r d _ (by dsimp only; omega)) _ _ _ _ _ _ z
  · exact head_piece 0 (by omega) _ 2 (by omega) _ (fun r d => cut_at 512 (by omega) _ _ r d _ (by dsimp only; omega)) _ _ _ _ _ _ z
  · exact head_piece 0 (by omega) _ 1 (by omega) _ (fun r d => cut_at 256 (by omega) _ _ r d _ (by dsimp only; omega)) _ _ _ _ _ _ z
  · exact head_piece 0 (by omega) _ 0 (by omega) _ (fun r d => cut_at 0 (by omega) _ _ r d _ (by dsimp only; omega)) _ _ _ _ _ _ z

/-- They leave the values by heads in the third. -/
theorem left_5 (f : a6.view.ty.Contents (Elt F)) :
    a6.view.read (Elt F) (a6.view.writes (Elt F) f (kernelRun0_A c i a1 h1 a2 h2 a3 h3 a4 h4 a5 h5 a6 h6 x g w).2.2.1)
      = headsOf 1024 (by omega) (k0_pay3 (F := F) x g w) := by
  funext y
  refine View.read_writes_apply_of_pieces a6.view f (headsOf 1024 (by omega) (k0_pay3 (F := F) x g w)) _ ?_ y
    (View.cover_of_tiledBy _ ![1, 512, 1, 256] (by sl_kernel_rfl) y)
  dsimp only [kernelRun0_A, kernelRun0_A.sl.r, kernelRun0_A.sl.r_2, kernelRun0_A.sl.r_3, k0_pay1, k0_pay2, k0_pay9, k0_pay10, k0_pay11]
  rw [prod_load]
  simp only [List.forall_mem_cons]
  refine ⟨fun z => ?_, fun z => ?_, fun z => ?_, fun z => ?_, fun _ h => absurd h List.not_mem_nil⟩
  · exact head_piece 1024 (by omega) _ 3 (by omega) _ (fun r d => cut_at 1792 (by omega) _ _ r d _ (by dsimp only; omega)) _ _ _ _ _ _ z
  · exact head_piece (F := F) 1024 (by omega) _ 2 (by omega) _ (fun r d => cut_at (F := F) 1536 (by omega) _ _ r d _ (by dsimp only; omega)) _ _ _ _ _ _ z
  · exact head_piece 1024 (by omega) _ 1 (by omega) _ (fun r d => cut_at 1280 (by omega) _ _ r d _ (by dsimp only; omega)) _ _ _ _ _ _ z
  · exact head_piece 1024 (by omega) _ 0 (by omega) _ (fun r d => cut_at 1024 (by omega) _ _ r d _ (by dsimp only; omega)) _ _ _ _ _ _ z

end

end Cert.Mem

end
-- ==== Proof.MemFrame.lean ====
/-
  The memory's keys and values as a whole: what the blocks hold after every row tile, that the body keeps to it, and so
  the run of the program, at any floats.
-/
module

public import proofs.«01_k».proof.Defs
public import proofs.«01_k».proof.Proof.MemOut
public import Idealize.ShloMosaic.Lib.Claim

@[expose] public section

set_option maxRecDepth 16384

noncomputable section

namespace Cert.Mem

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal Cert.Kernel4Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The projected rows of a tile. -/
def prodOf (c : Dev nD) (t : Fin cfg0.N) : Vec F S512x2048 .f32 := k0_pay3 (F := F) (iblk m c 0 t) (iblk m c 1 t) (iblk m c 2 t)

/-- The arrays at entry and what each buffer holds after each tile. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => prodOf m c t
    | ⟨4, _⟩ => headsOf 0 (by omega) (prodOf m c t)
    | ⟨5, _⟩ => headsOf 1024 (by omega) (prodOf m c t)
  Φ _ := Pipeline.ΦA spec0 c
  q _ := fullShare
  owed _ := 0

theorem dats_A (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = prodOf m c t := by dsimp only [dats]
theorem after_4 (c : Dev nD) (t : Fin cfg0.N) : (dats m 0 c).after 4 t = headsOf 0 (by omega) (prodOf m c t) := by dsimp only [dats]
theorem after_5 (c : Dev nD) (t : Fin cfg0.N) : (dats m 0 c).after 5 t = headsOf 1024 (by omega) (prodOf m c t) := by dsimp only [dats]

/-- Every input's buffer holds its block when the body starts. -/
theorem before_0 (c : Dev nD) (t : Fin cfg0.N) (d) : (dats m 0 c).before 0 t d = iblk m c 0 t :=
  before0_0_of m (dats m 0 c) (dats_A m c 0) (after_0 m c) t d
theorem before_1 (c : Dev nD) (t : Fin cfg0.N) (d) : (dats m 0 c).before 1 t d = iblk m c 1 t :=
  before0_1_of m (dats m 0 c) (dats_A m c 1) (after_1 m c) t d
theorem before_2 (c : Dev nD) (t : Fin cfg0.N) (d) : (dats m 0 c).before 2 t d = iblk m c 2 t :=
  before0_2_of m (dats m 0 c) (dats_A m c 2) (after_2 m c) t d

/-- What the body is given, -/
def given (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def returned (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 4000000 in
/-- The body at any tile. -/
theorem body_any (c : Dev nD) (t : Fin cfg0.N) :
    given m c t ⊢ wp frame (wpE (defs₀ (F := F)) Variants.none c none) Set.univ (bodyAt0 t) (fun _ => returned m c t) := by
  unfold given returned bodyAt0
  simp only [before_0, before_1, before_2]
  rw [show (dats m 0 c).Φ t.succ = (dats m 0 c).Φ t.castSucc from rfl, show (dats m 0 c).owesAt () t.succ = (dats m 0 c).owesAt () t.castSucc from rfl]
  rw [after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply ((kernelRun0_A c (grid0.coords t) _ _ _ _ _ _ _ _ _ _ _ _ (iblk m c 0 t) (iblk m c 1 t) (iblk m c 2 t)).2.2.2 Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, ⟨%e3, H3⟩, ⟨%e4, H4⟩, ⟨%e5, H5⟩⟩
  isplitl [HΦ]; · iexact HΦ
  isplitl [Ho]; · iexact Ho
  isplitl [H0]; · iexact H0
  isplitl [H1]; · iexact H1
  isplitl [H2]; · iexact H2
  isplitl [H3]
  · unfold owns; iexists _; isplitr; swap; · iexact H3
    ipureintro
    exact left_3 c (grid0.coords t) _ _ _ _ _ _ _ _ _ _ _ _ _ _ _ _
  isplitl [H4]
  · unfold owns; iexists _; isplitr; swap; · iexact H4
    ipureintro
    exact left_4 c (grid0.coords t) _ _ _ _ _ _ _ _ _ _ _ _ _ _ _ _
  unfold owns; iexists _; isplitr; swap; · iexact H5
  ipureintro
  exact left_5 c (grid0.coords t) _ _ _ _ _ _ _ _ _ _ _ _ _ _ _ _

theorem body_row (t : Fin cfg0.N) : defs₀ (F := F) .tc cfg0.body (cfg0.bodyArgs t (cfg0.slots t)) = bodyAt0 t := by
  unfold defs₀; rw [Defs.onTc_tc]

/-- The body's obligation at every tile. -/
theorem obligation (c : Dev nD) : BodyObligation (dats (F := F) m 0 c) (defs₀ (F := F)) Variants.none () Set.univ := fun t => by
  rw [bigSep_W0, bigSep_W0, body_row]
  exact triple_restated (body_any m c t) rfl .rfl fun _ => .rfl

/-! ## The run -/

set_option backward.isDefEq.respectTransparency.types false in
/-- Every execution ends, with the arrays at what the data says and all counters at zero. -/
theorem run_quiet : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := dats_A m) (hΦ := fun _ _ => rfl)

/-- The arguments end unchanged and the counters at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (dats_A m) ((θ_run defs _ _).mono (fun _ h => h.1) (run_quiet m ρ)))
    ((θ_run defs _ _).mono (fun _ h => h.2) (run_quiet m ρ))

/-- The idealized call's frame. -/
theorem frame_ideal [Cert.Kernel4Ideal.Facts] : Cert.quiescent_Kernel4Ideal := fun m g _ => run_frame (F := Ideal) m g

end Cert.Mem

end
-- ==== Proof.MemBits.lean ====
/-
  The frame of the memory projection's call at the machine's floats, from the idealized call's run, which has the same text.
-/
module

public import proofs.«01_k».proof.Proof.MemFrame
public import proofs.«01_k».proof.Proof.Gen.Kernel4

@[expose] public section

set_option maxRecDepth 16384

noncomputable section

namespace Cert.Mem

open Idealize.ShloMosaic Idealize.ShloMosaic.TcCoe
open Idealize.SL.Sem

variable [i1 : Cert.Kernel4.Facts] [i2 : Cert.Kernel4Ideal.Facts]
set_option maxHeartbeats 400000 in
/-- The two programs have the same bodies. -/
theorem bodies_eq : Cert.Kernel4.defs₀ (F := Bits) = Cert.Kernel4Ideal.defs₀ (F := Bits) := by
  unfold Cert.Kernel4.defs₀ Cert.Kernel4Ideal.defs₀
  refine congrArg Defs.onTc ?_
  funext l a
  match l, a with
  | 0, (t, s) => rfl

set_option maxHeartbeats 400000 in
/-- The two programs have the same declarations. -/
theorem defs_eq : Cert.Kernel4.defs (F := Bits) = Cert.Kernel4Ideal.defs (F := Bits) :=
  congrArg (Pipeline.defs (Cert.Kernel4Ideal.pcfgs (F := Bits))) bodies_eq

set_option maxHeartbeats 4000000 in
/-- The two programs have the same main program. -/
theorem main_eq : Cert.Kernel4.main (F := Bits) = Cert.Kernel4Ideal.main (F := Bits) := by
  unfold Cert.Kernel4.main Cert.Kernel4Ideal.main
  rfl

set_option maxHeartbeats 4000000 in
/-- The call's frame: the same run, at the machine's floats. -/
theorem frame_kernel : Cert.quiescent_Kernel4 := fun m g _ => by
  have h := run_frame (F := Bits) m g
  rw [defs_eq, main_eq]
  exact h

end Cert.Mem

end
-- ==== Proof.MemBlk.lean ====
/-
  The blocks of the memory's keys and values in terms of the launched arrays: point `t` works on the rows from `512 t`
  on, with all the weights.
-/
module

public import proofs.«01_k».proof.Proof.MemFrame
public import Idealize.ShloMosaic.Lib.Pipeline.ValueKit
public import Idealize.ShloMosaic.Lib.Pointwise
public import Idealize.ShloMosaic.Lib.IdealHost

@[expose] public section

set_option maxRecDepth 16384

noncomputable section

namespace Cert.Mem

open Idealize.ShloMosaic Idealize.ShloMosaic.TcCoe
open Idealize.SL.Sem
open Cert.Kernel4Ideal Cert.Kernel4Ideal.Gen

variable (m : (ℓ : Loc nD τ sig) → Buf (Elt Ideal) ℓ) (c : Dev nD)

/-! ## The arrays the host prepares -/

/-- The launched arguments. -/
def argX : FVec Ideal S4x256x1024 .f32 := m ((c : Thread nD τ).loc main_arg0)
def argG : FVec Ideal S1024 .f32 := m ((c : Thread nD τ).loc main_arg1)
def argW : FVec Ideal S1024x2048 .f32 := m ((c : Thread nD τ).loc main_arg2)

theorem V_x : (V m c main_v0 : FVec Ideal S1024x1024 .f32) = shapeCast S1024x1024 (argX m c) shapeCasts_S4x256x1024_S1024x1024 := by
  show StableHlo.after hostOps0 _ (Proc.devRef .tc main_v0) = _
  after_results
  rfl
theorem V_g : (V m c main_v2 : FVec Ideal S1x1024 .f32) = shapeCast S1x1024 (argG m c) shapeCasts_S1024_S1x1024 := by
  show StableHlo.after hostOps0 _ (Proc.devRef .tc main_v2) = _
  after_results
  rfl
theorem V_w : (V m c main_v1 : FVec Ideal S1024x2048 .bf16) = truncf .bf16 (argW m c) bitsLt_bf16_f32 := by
  show StableHlo.after hostOps0 _ (Proc.devRef .tc main_v1) = _
  after_results
  rfl

theorem V_x_at (i : Fin 1024) (k : Fin 1024) : (V m c main_v0 : FVec Ideal S1024x1024 .f32) (ix2 i k)
    = argX m c (ix3 ⟨i.val / 256, by omega⟩ ⟨i.val % 256, by omega⟩ k) := by
  rw [V_x]; pointwise
theorem V_g_at (k : Fin 1024) : (V m c main_v2 : FVec Ideal S1x1024 .f32) (ix2 0 k) = argG m c (ix1 k) := by
  rw [V_g]; pointwise
theorem V_w_at (k : Fin 1024) (n : Fin 2048) : (V m c main_v1 : FVec Ideal S1024x2048 .bf16) (ix2 k n) = argW m c (ix2 k n) := by
  rw [V_w]; pointwise

/-! ## The blocks -/

/-- The row tile of a point. -/
theorem coord (t : Fin grid0.N) : (grid0.coords t 0).val = t.val := by
  have ht : t.val < 2 := Nat.lt_of_lt_of_eq t.isLt N_0
  have e0 : (grid0.coords t 0).val = t.val / 1 % 2 := Pipeline.Grid.coords_val t 0 (by decide) rfl
  omega

theorem at_0 (t : Fin cfg0.N) (ht : t.val < 2) (r : Fin 512) (k : Fin 1024) :
    (show Vec Ideal S512x1024 .f32 from iblk m c 0 t) (ix2 r k) = (V m c main_v0 : FVec Ideal S1024x1024 .f32) (ix2 ⟨t.val * 512 + r.val, by omega⟩ k) := by
  show (V m c main_v0 : FVec Ideal S1024x1024 .f32) (((cfg0.win 0).blk t).view.emb (ix2 r k)) = _
  refine congrArg (V m c main_v0 : FVec Ideal S1024x1024 .f32) (funext fun a => Fin.ext ?_)
  refine (Pipeline.Window.rect_emb_val (cfg0.win 0) t (ix2 r k) a rfl).trans ?_
  have e := coord t
  fin_cases a
  · show (BitVec.ofNat 32 (grid0.coords t 0).val).toNat * 512 + r.val = t.val * 512 + r.val
    rw [e, BitVec.toNat_ofNat, Nat.mod_eq_of_lt (by omega)]
  · show 0 * 1024 + k.val = k.val
    omega

theorem at_1 (t : Fin cfg0.N) (k : Fin 1024) :
    (show Vec Ideal S1x1024 .f32 from iblk m c 1 t) (ix2 0 k) = argG m c (ix1 k) := by
  rw [← V_g_at]
  show (V m c main_v2 : FVec Ideal S1x1024 .f32) (((cfg0.win 1).blk t).view.emb (ix2 0 k)) = _
  refine congrArg (V m c main_v2 : FVec Ideal S1x1024 .f32) (funext fun a => Fin.ext ?_)
  refine (Pipeline.Window.rect_emb_val (cfg0.win 1) t (ix2 0 k) a rfl).trans ?_
  fin_cases a
  · show 0 * 1 + 0 = 0
    rfl
  · show 0 * 1024 + k.val = k.val
    omega

theorem at_2 (t : Fin cfg0.N) (k : Fin 1024) (n : Fin 2048) :
    (show Vec Ideal S1024x2048 .bf16 from iblk m c 2 t) (ix2 k n) = argW m c (ix2 k n) := by
  rw [← V_w_at]
  show (V m c main_v1 : FVec Ideal S1024x2048 .bf16) (((cfg0.win 2).blk t).view.emb (ix2 k n)) = _
  refine congrArg (V m c main_v1 : FVec Ideal S1024x2048 .bf16) (funext fun a => Fin.ext ?_)
  refine (Pipeline.Window.rect_emb_val (cfg0.win 2) t (ix2 k n) a rfl).trans ?_
  fin_cases a
  · show 0 * 1024 + k.val = k.val
    omega
  · show 0 * 2048 + n.val = n.val
    omega

/-- Where the result's blocks lie. -/
theorem at_3 (t : Fin cfg0.N) (ht : t.val < 2) (r : Fin 512) (n : Fin 2048) :
    ((cfg0.win 3).blk t).view.emb (ix2 r n) = ix2 (⟨t.val * 512 + r.val, by omega⟩ : Fin 1024) n := by
  refine funext fun a => Fin.ext ?_
  refine (Pipeline.Window.rect_emb_val (cfg0.win 3) t (ix2 r n) a rfl).trans ?_
  have e := coord t
  fin_cases a
  · show (BitVec.ofNat 32 (grid0.coords t 0).val).toNat * 512 + r.val = t.val * 512 + r.val
    rw [e, BitVec.toNat_ofNat, Nat.mod_eq_of_lt (by omega)]
  · show 0 * 2048 + n.val = n.val
    omega

theorem at_4 (t : Fin cfg0.N) (ht : t.val < 2) (l : Fin 1) (r : Fin 512) (h : Fin 4) (d : Fin 256) :
    ((cfg0.win 4).blk t).view.emb (ix4 l r h d) = ix4 l (⟨t.val * 512 + r.val, by omega⟩ : Fin 1024) h d := by
  refine funext fun a => Fin.ext ?_
  refine (Pipeline.Window.rect_emb_val (cfg0.win 4) t (ix4 l r h d) a rfl).trans ?_
  have e := coord t
  fin_cases a
  · show 0 * 1 + l.val = l.val
    omega
  · show (BitVec.ofNat 32 (grid0.coords t 0).val).toNat * 512 + r.val = t.val * 512 + r.val
    rw [e, BitVec.toNat_ofNat, Nat.mod_eq_of_lt (by omega)]
  · show 0 * 4 + h.val = h.val
    omega
  · show 0 * 256 + d.val = d.val
    omega

theorem at_5 (t : Fin cfg0.N) (ht : t.val < 2) (l : Fin 1) (r : Fin 512) (h : Fin 4) (d : Fin 256) :
    ((cfg0.win 5).blk t).view.emb (ix4 l r h d) = ix4 l (⟨t.val * 512 + r.val, by omega⟩ : Fin 1024) h d := at_4 t ht l r h d

end Cert.Mem

end
-- ==== Proof.MemRef.lean ====
/- The reference of the memory's keys and values, read at one entry over the extended reals. -/
module

public import proofs.«01_k».proof.Proof.Gen.Reference4Ideal.Read
public import Idealize.ShloMosaic.Lib.Pointwise
public import Idealize.ShloMosaic.Lib.IdealHost

@[expose] public section

set_option maxRecDepth 16384

noncomputable section

namespace Cert.MemRef

open Idealize.ShloMosaic Idealize.ShloMosaic.TcCoe Idealize.SL.Sem
open Cert.Reference4Ideal Cert.Reference4Ideal.Gen Cert.Reference4Ideal.Read

/-- A normalised entry of row `s` of memory `b`. -/
def hOf (x : FVec Ideal S4x256x1024 .f32) (g : FVec Ideal S1024 .f32) (b : Fin 4) (s : Fin 256) (k : Fin 1024) : EReal :=
  x (ix3 b s k) * Ideal.rsqrt (Ideal.div (∑ q : Fin 1024, x (ix3 b s q) * x (ix3 b s q)) (Ideal.ofBits .f32 0x44800000#32) + Ideal.ofBits .f32 0x358637BD#32) * g (ix1 k)

/-- An entry of the projection of flattened row `i`. -/
def projOf (x : FVec Ideal S4x256x1024 .f32) (g : FVec Ideal S1024 .f32) (w : FVec Ideal S1024x2048 .f32) (i : Fin 1024) (n : Fin 2048) : EReal :=
  ∑ k : Fin 1024, hOf x g ⟨i.val / 256, by omega⟩ ⟨i.val % 256, by omega⟩ k * w (ix2 k n)

theorem v1_at (x : FVec Ideal S4x256x1024 .f32) (b : Fin 4) (s : Fin 256) : val_main_v1 (F := Ideal) x (ix2 b s) = ∑ q : Fin 1024, x (ix3 b s q) * x (ix3 b s q) := by
  pointwise [val_main_v1, val_main_v0, val_main_cst]

/-- The reference's normalised rows. -/
theorem v12_at (x : FVec Ideal S4x256x1024 .f32) (g : FVec Ideal S1024 .f32) (b : Fin 4) (s : Fin 256) (k : Fin 1024) :
    val_main_v12 (F := Ideal) x g (ix3 b s k) = hOf x g b s k := by
  unfold hOf
  rw [← v1_at]
  generalize hv : val_main_v1 (F := Ideal) x = v
  pointwise [val_main_v12, val_main_v11, val_main_v10, val_main_v9, val_main_v8, val_main_v7, val_main_v6, val_main_v5, val_main_v4, val_main_v3, val_main_v2, val_main_cst_0, val_main_cst_1, hv]

theorem dot_at (h : FVec Ideal S4x256x1024 .f32) (u : FVec Ideal S1024x2048 .f32) (b : Fin 4) (s : Fin 256) (n : Fin 2048) :
    Host.dotGeneral (F := Ideal) dot_S4x256x1024_S1024x2048_S4x256x2048_2_0_01_1_n_n none h u (ix3 b s n) = ∑ k : Fin 1024, h (ix3 b s k) * u (ix2 k n) := by
  pointwise

/-- The projection by memories. -/
theorem v13_at (x : FVec Ideal S4x256x1024 .f32) (g : FVec Ideal S1024 .f32) (w : FVec Ideal S1024x2048 .f32) (i : Fin 1024) (n : Fin 2048) :
    val_main_v13 (F := Ideal) x g w (ix3 ⟨i.val / 256, by omega⟩ ⟨i.val % 256, by omega⟩ n) = projOf x g w i n := by
  unfold val_main_v13 projOf
  rw [dot_at]
  exact Finset.sum_congr rfl fun k _ => by rw [v12_at]

/-- The projection of the flattened rows. -/
theorem v16_at (x : FVec Ideal S4x256x1024 .f32) (g : FVec Ideal S1024 .f32) (w : FVec Ideal S1024x2048 .f32) (i : Fin 1024) (n : Fin 2048) :
    val_main_v16 (F := Ideal) x g w (ix2 i n) = projOf x g w i n := by
  rw [← v13_at]
  unfold val_main_v16
  generalize val_main_v13 (F := Ideal) x g w = v
  pointwise

/-- The keys by heads. -/
theorem v17_at (x : FVec Ideal S4x256x1024 .f32) (g : FVec Ideal S1024 .f32) (w : FVec Ideal S1024x2048 .f32) (i : Fin 1024) (h : Fin 4) (d : Fin 256) :
    val_main_v17 (F := Ideal) x g w (ix4 0 i h d) = projOf x g w i ⟨0 + (h.val * 256 + d.val), by omega⟩ := by
  rw [← v13_at]
  unfold val_main_v17 val_main_v14
  generalize val_main_v13 (F := Ideal) x g w = v
  pointwise

/-- The values by heads. -/
theorem v18_at (x : FVec Ideal S4x256x1024 .f32) (g : FVec Ideal S1024 .f32) (w : FVec Ideal S1024x2048 .f32) (i : Fin 1024) (h : Fin 4) (d : Fin 256) :
    val_main_v18 (F := Ideal) x g w (ix4 0 i h d) = projOf x g w i ⟨1024 + (h.val * 256 + d.val), by omega⟩ := by
  rw [← v13_at]
  unfold val_main_v18 val_main_v15
  generalize val_main_v13 (F := Ideal) x g w = v
  pointwise

end Cert.MemRef

end
-- ==== Proof.MemValue.lean ====
/-
  The memory's keys and values: the call's three result arrays are the reference's.
-/
module

public import proofs.«01_k».proof.Proof.MemBlk
public import proofs.«01_k».proof.Proof.MemRef

@[expose] public section

set_option maxRecDepth 16384

noncomputable section

namespace Cert.Mem

open Idealize.ShloMosaic Idealize.ShloMosaic.TcCoe
open Idealize.SL.Sem
open Idealize.ShloMosaic.Pipeline (Dat)
open Cert.Kernel4Ideal Cert.Kernel4Ideal.Gen
open Cert.MemRef (hOf projOf)

variable (m : (ℓ : Loc nD τ sig) → Buf (Elt Ideal) ℓ) (c : Dev nD)

/-- The projected rows of a tile: the normalised rows times the weights. -/
theorem prod_at (x : Vec Ideal S512x1024 .f32) (g : Vec Ideal S1x1024 .f32) (w : Vec Ideal S1024x2048 .bf16) (r : Fin 512) (n : Fin 2048) :
    k0_pay3 (F := Ideal) x g w (ix2 r n) = ∑ k : Fin 1024, x (ix2 r k) * Ideal.rsqrt (Ideal.div (∑ q : Fin 1024, x (ix2 r q) * x (ix2 r q)) (Ideal.ofBits .f32 0x44800000#32)
      + Ideal.ofBits .f32 0x358637BD#32) * g (ix2 0 k) * w (ix2 k n) := by
  pointwise [k0_pay3]

/-- A tile's projected rows are the reference's. -/
theorem prod_eq (t : Fin cfg0.N) (ht : t.val < 2) (r : Fin 512) (n : Fin 2048) (i : Fin 1024) (hi : i.val = t.val * 512 + r.val) :
    prodOf m c t (ix2 r n) = projOf (argX m c) (argG m c) (argW m c) i n := by
  have hrow : ∀ k, (show Vec Ideal S512x1024 .f32 from iblk m c 0 t) (ix2 r k) = argX m c (ix3 ⟨i.val / 256, by omega⟩ ⟨i.val % 256, by omega⟩ k) := fun k =>
    ((at_0 m c t ht r k).trans (congrArg (fun z => (V m c main_v0 : FVec Ideal S1024x1024 .f32) (ix2 z k)) (Fin.ext hi.symm))).trans (V_x_at m c i k)
  refine (prod_at (show Vec Ideal S512x1024 .f32 from iblk m c 0 t) (show Vec Ideal S1x1024 .f32 from iblk m c 1 t)
    (show Vec Ideal S1024x2048 .bf16 from iblk m c 2 t) r n).trans ?_
  simp only [hrow, at_1, at_2]
  rfl

/-- The reference's values of the launched arrays. -/
def refProj : FVec Ideal S1024x2048 .f32 := Cert.Reference4Ideal.Read.val_main_v16 (F := Ideal) (argX m c) (argG m c) (argW m c)
def refKeys : FVec Ideal S1x1024x4x256 .f32 := Cert.Reference4Ideal.Read.val_main_v17 (F := Ideal) (argX m c) (argG m c) (argW m c)
def refVals : FVec Ideal S1x1024x4x256 .f32 := Cert.Reference4Ideal.Read.val_main_v18 (F := Ideal) (argX m c) (argG m c) (argW m c)

/-! ## What a point writes back, at one entry of a block -/

theorem entry_3 (t : Fin cfg0.N) (ht : t.val < 2) (y : S512x2048.Idx) :
    prodOf m c t y = refProj m c (((cfg0.win 3).blk t).view.emb y) := by
  obtain ⟨y0, y1, rfl⟩ : ∃ (y0 : Fin 512) (y1 : Fin 2048), y = ix2 y0 y1 := ⟨y 0, y 1, eq_ix2 y⟩
  refine ((prod_eq m c t ht y0 y1 ⟨t.val * 512 + y0.val, by omega⟩ rfl).trans ?_).trans (congrArg (refProj m c) (at_3 t ht y0 y1).symm)
  exact (Cert.MemRef.v16_at _ _ _ _ _).symm

theorem entry_4 (t : Fin cfg0.N) (ht : t.val < 2) (y : S1x512x4x256.Idx) :
    headsOf 0 (by omega) (prodOf m c t) y = refKeys m c (((cfg0.win 4).blk t).view.emb y) := by
  obtain ⟨y1, y2, y3, rfl⟩ : ∃ (y1 : Fin 512) (y2 : Fin 4) (y3 : Fin 256), y = ix4 (0 : Fin 1) y1 y2 y3 :=
    ⟨y 1, y 2, y 3, (eq_ix4 y).trans (congrArg (fun z => ix4 z (y 1) (y 2) (y 3)) (show y 0 = (0 : Fin 1) from Fin.ext (Nat.lt_one_iff.mp (y 0).isLt)))⟩
  refine ((prod_eq m c t ht y1 _ ⟨t.val * 512 + y1.val, by omega⟩ rfl).trans ?_).trans (congrArg (refKeys m c) (at_4 t ht 0 y1 y2 y3).symm)
  exact (Cert.MemRef.v17_at _ _ _ _ _ _).symm

theorem entry_5 (t : Fin cfg0.N) (ht : t.val < 2) (y : S1x512x4x256.Idx) :
    headsOf 1024 (by omega) (prodOf m c t) y = refVals m c (((cfg0.win 5).blk t).view.emb y) := by
  obtain ⟨y1, y2, y3, rfl⟩ : ∃ (y1 : Fin 512) (y2 : Fin 4) (y3 : Fin 256), y = ix4 (0 : Fin 1) y1 y2 y3 :=
    ⟨y 1, y 2, y 3, (eq_ix4 y).trans (congrArg (fun z => ix4 z (y 1) (y 2) (y 3)) (show y 0 = (0 : Fin 1) from Fin.ext (Nat.lt_one_iff.mp (y 0).isLt)))⟩
  refine ((prod_eq m c t ht y1 _ ⟨t.val * 512 + y1.val, by omega⟩ rfl).trans ?_).trans (congrArg (refVals m c) (at_5 t ht 0 y1 y2 y3).symm)
  exact (Cert.MemRef.v18_at _ _ _ _ _ _).symm

/-! ## The result arrays -/

/-- THE PROJECTED ROWS are the reference's. -/
theorem final_3 : (dats m 0 c).arrAt 3 cfg0.N = refProj m c := by
  refine (dats m 0 c).arrAt_eq_of_covers 3 _ (by decide +kernel) fun t _ y => ?_
  rw [after_3]
  exact entry_3 m c t (Nat.lt_of_lt_of_eq t.isLt N_0) y

/-- THE KEYS are the reference's. -/
theorem final_4 : (dats m 0 c).arrAt 4 cfg0.N = refKeys m c := by
  refine (dats m 0 c).arrAt_eq_of_covers 4 _ (by decide +kernel) fun t _ y => ?_
  rw [after_4]
  exact entry_4 m c t (Nat.lt_of_lt_of_eq t.isLt N_0) y

/-- THE VALUES are the reference's. -/
theorem final_5 : (dats m 0 c).arrAt 5 cfg0.N = refVals m c := by
  refine (dats m 0 c).arrAt_eq_of_covers 5 _ (by decide +kernel) fun t _ y => ?_
  rw [after_5]
  exact entry_5 m c t (Nat.lt_of_lt_of_eq t.isLt N_0) y

end Cert.Mem

end
-- ==== Proof.Mem.lean ====
/- The memory's keys and values: the reference's frame and the value claim. -/
module

public import proofs.«01_k».proof.Defs
public import proofs.«01_k».proof.Proof.MemValue
public import proofs.«01_k».proof.Proof.Gen.Reference4Ideal.Run
public import proofs.«01_k».proof.Proof.Gen.Reference4Ideal.Read
public import Idealize.ShloMosaic.Lib.Claim

@[expose] public section

set_option maxRecDepth 16384

noncomputable section

namespace Cert.Mem

open Idealize.ShloMosaic Idealize.SL.Sem
open Cert.Reference4Ideal.Read (val_main_v16 val_main_v16_eq val_main_v17 val_main_v17_eq val_main_v18 val_main_v18_eq)

variable [Cert.Kernel4Ideal.Facts] [Cert.Reference4Ideal.Facts]

/-- The reference runs, leaves its arguments as they were and every semaphore at zero. -/
theorem frame_reference : Cert.quiescent_Reference4Ideal := fun m g _ =>
  (θ_run Cert.Reference4Ideal.defs _ _).mono (fun r h => ⟨fun c => (h c).2.2.2, sem_eq_zero_of_no_sems (by decide) r.2⟩)
    (Cert.Reference4Ideal.Value.run (F := Ideal) m g)

/-- THE VALUE CLAIM: the kernel's three results are the reference's. -/
theorem algebraic : Cert.algebraic_Kernel4Ideal_Reference4Ideal := fun m g m' g' hpre hargs => by
  refine ⟨fun c => refProj m c, fun c => refKeys m c, fun c => refVals m c,
    (θ_run Cert.Kernel4Ideal.defs _ _).mono
      (fun _ h c => ⟨((h.1.1 c).1 3).trans (final_3 m c), ((h.1.1 c).1 4).trans (final_4 m c), ((h.1.1 c).1 5).trans (final_5 m c), h.2.1 c⟩)
      (θ_run_and (run_quiet m g) (run_frame m g)),
    (θ_run Cert.Reference4Ideal.defs _ _).mono
      (fun _ h c => ⟨((h c).1.trans (val_main_v16_eq _ _ _)).trans ?_, ((h c).2.1.trans (val_main_v17_eq _ _ _)).trans ?_,
        ((h c).2.2.1.trans (val_main_v18_eq _ _ _)).trans ?_, (h c).2.2.2⟩)
      (Cert.Reference4Ideal.Value.run m' g')⟩
  all_goals obtain ⟨e0, e1, e2⟩ := hargs c
  · exact congr (congr (congrArg (val_main_v16 (F := Ideal)) e0) e1) e2
  · exact congr (congr (congrArg (val_main_v17 (F := Ideal)) e0) e1) e2
  · exact congr (congr (congrArg (val_main_v18 (F := Ideal)) e0) e1) e2

end Cert.Mem

end
-- ==== Proof.HeadsRef.lean ====
/- The reference of the mixer's projection, read at one entry over the extended reals. -/
module

public import proofs.«01_k».proof.Proof.Gen.Reference5Ideal.Read
public import Idealize.ShloMosaic.Lib.Pointwise
public import Idealize.ShloMosaic.Lib.IdealHost

@[expose] public section

set_option maxRecDepth 16384

noncomputable section

namespace Cert.HeadsRef

open Idealize.ShloMosaic Idealize.ShloMosaic.TcCoe Idealize.SL.Sem
open Cert.Reference5Ideal Cert.Reference5Ideal.Gen Cert.Reference5Ideal.Read

theorem sitofp_zero : FloatOps.sitofp (F := Ideal) FTy.f32 (0#32) = (0 : EReal) := by
  show ((((0#32 : BitVec 32).toInt : ℝ)) : EReal) = 0
  simp

/-- A normalised entry of row `s` of sequence `b`. -/
def hOf (x : FVec Ideal S4x4096x1024 .f32) (g : FVec Ideal S1024 .f32) (b : Fin 4) (s : Fin 4096) (k : Fin 1024) : EReal :=
  x (ix3 b s k) * Ideal.rsqrt (Ideal.div (∑ q : Fin 1024, x (ix3 b s q) * x (ix3 b s q)) (Ideal.ofBits .f32 0x44800000#32) + Ideal.ofBits .f32 0x358637BD#32) * g (ix1 k)

/-- An entry of the projection of flattened row `i`. -/
def projOf (x : FVec Ideal S4x4096x1024 .f32) (g : FVec Ideal S1024 .f32) (w : FVec Ideal S1024x3088 .f32) (i : Fin 16384) (n : Fin 3088) : EReal :=
  ∑ k : Fin 1024, hOf x g ⟨i.val / 4096, by omega⟩ ⟨i.val % 4096, by omega⟩ k * w (ix2 k n)

theorem v1_at (x : FVec Ideal S4x4096x1024 .f32) (b : Fin 4) (s : Fin 4096) : val_main_v1 (F := Ideal) x (ix2 b s) = ∑ q : Fin 1024, x (ix3 b s q) * x (ix3 b s q) := by
  pointwise [val_main_v1, val_main_v0, val_main_cst]

/-- The reference's normalised rows. -/
theorem v12_at (x : FVec Ideal S4x4096x1024 .f32) (g : FVec Ideal S1024 .f32) (b : Fin 4) (s : Fin 4096) (k : Fin 1024) :
    val_main_v12 (F := Ideal) x g (ix3 b s k) = hOf x g b s k := by
  unfold hOf
  rw [← v1_at]
  generalize hv : val_main_v1 (F := Ideal) x = v
  pointwise [val_main_v12, val_main_v11, val_main_v10, val_main_v9, val_main_v8, val_main_v7, val_main_v6, val_main_v5, val_main_v4, val_main_v3, val_main_v2, val_main_cst_0, val_main_cst_1, hv]

theorem dot_at (h : FVec Ideal S4x4096x1024 .f32) (u : FVec Ideal S1024x3088 .f32) (b : Fin 4) (s : Fin 4096) (n : Fin 3088) :
    Host.dotGeneral (F := Ideal) dot_S4x4096x1024_S1024x3088_S4x4096x3088_2_0_01_1_n_n none h u (ix3 b s n) = ∑ k : Fin 1024, h (ix3 b s k) * u (ix2 k n) := by
  pointwise

/-- The projection of the flattened rows. -/
theorem v14_at (x : FVec Ideal S4x4096x1024 .f32) (g : FVec Ideal S1024 .f32) (w : FVec Ideal S1024x3088 .f32) (i : Fin 16384) (n : Fin 3088) :
    val_main_v14 (F := Ideal) x g w (ix2 i n) = projOf x g w i n := by
  have e : val_main_v14 (F := Ideal) x g w (ix2 i n) = val_main_v13 (F := Ideal) x g w (ix3 ⟨i.val / 4096, by omega⟩ ⟨i.val % 4096, by omega⟩ n) := by
    unfold val_main_v14
    generalize val_main_v13 (F := Ideal) x g w = v
    pointwise
  rw [e]
  unfold val_main_v13 projOf
  rw [dot_at]
  exact Finset.sum_congr rfl fun k _ => by rw [v12_at]

/-- The padded projection. -/
theorem v19_at (x : FVec Ideal S4x4096x1024 .f32) (g : FVec Ideal S1024 .f32) (w : FVec Ideal S1024x3088 .f32) (i : Fin 16384) (n : Fin 3200) :
    val_main_v19 (F := Ideal) x g w (ix2 i n) = if h : n.val < 3088 then projOf x g w i ⟨n.val, h⟩ else 0 := by
  simp only [← v14_at]
  unfold val_main_v19
  generalize val_main_v14 (F := Ideal) x g w = v
  pointwise [val_main_call0_v0, val_main_c, sitofp_zero]

/-- The keys by heads as the first of two layers. -/
theorem v23_at (x : FVec Ideal S4x4096x1024 .f32) (g : FVec Ideal S1024 .f32) (w : FVec Ideal S1024x3088 .f32) (l : Fin 2) (i : Fin 16384) (h : Fin 4) (d : Fin 128) :
    val_main_v23 (F := Ideal) x g w (ix4 l i h d) = if l.val = 0 then projOf x g w i ⟨512 + (h.val * 128 + d.val), by omega⟩ else 0 := by
  simp only [← v14_at]
  generalize hv : val_main_v14 (F := Ideal) x g w = v
  pointwise [val_main_v23, val_main_v22, val_main_v21, val_main_v20, val_main_v16, val_main_v15, val_main_cst_2, hv]
  by_cases hl : l.val = 0
  · rw [dif_pos (by omega), if_pos hl]
  · rw [dif_neg (by omega), if_neg hl]

/-- The values likewise. -/
theorem v27_at (x : FVec Ideal S4x4096x1024 .f32) (g : FVec Ideal S1024 .f32) (w : FVec Ideal S1024x3088 .f32) (l : Fin 2) (i : Fin 16384) (h : Fin 4) (d : Fin 128) :
    val_main_v27 (F := Ideal) x g w (ix4 l i h d) = if l.val = 0 then projOf x g w i ⟨1024 + (h.val * 128 + d.val), by omega⟩ else 0 := by
  simp only [← v14_at]
  generalize hv : val_main_v14 (F := Ideal) x g w = v
  pointwise [val_main_v27, val_main_v26, val_main_v25, val_main_v24, val_main_v18, val_main_v17, val_main_cst_3, hv]
  by_cases hl : l.val = 0
  · rw [dif_pos (by omega), if_pos hl]
  · rw [dif_neg (by omega), if_neg hl]

end Cert.HeadsRef

end
-- ==== Proof.HeadsBlk.lean ====
/-
  The blocks of the mixer's projection in terms of the launched arrays: point `t` works on the rows from `512 t` on, with
  all the weights, whose columns past the last the host has filled with zeros.
-/
module

public import proofs.«01_k».proof.Proof.Gen.Kernel5Ideal.Frame
public import proofs.«01_k».proof.Proof.HeadsRef
public import Idealize.ShloMosaic.Lib.Pipeline.ValueKit
public import Idealize.ShloMosaic.Lib.Pointwise
public import Idealize.ShloMosaic.Lib.IdealHost

@[expose] public section

set_option maxRecDepth 16384

noncomputable section

namespace Cert.Heads

open Idealize.ShloMosaic Idealize.ShloMosaic.TcCoe
open Idealize.SL.Sem
open Cert.Kernel5Ideal Cert.Kernel5Ideal.Gen
open Cert.HeadsRef (sitofp_zero)

variable (m : (ℓ : Loc nD τ sig) → Buf (Elt Ideal) ℓ) (c : Dev nD)

/-! ## The arrays the host prepares -/

/-- The launched arguments. -/
def argX : FVec Ideal S4x4096x1024 .f32 := m ((c : Thread nD τ).loc main_arg0)
def argG : FVec Ideal S1024 .f32 := m ((c : Thread nD τ).loc main_arg1)
def argW : FVec Ideal S1024x3088 .f32 := m ((c : Thread nD τ).loc main_arg2)

/-- The weights with their padding. -/
def padW (w : FVec Ideal S1024x3088 .f32) (k : Fin 1024) (n : Fin 3200) : EReal :=
  if h : n.val < 3088 then w (ix2 k ⟨n.val, h⟩) else 0

theorem V_x : (V m c main_v2 : FVec Ideal S16384x1024 .f32) = shapeCast S16384x1024 (argX m c) shapeCasts_S4x4096x1024_S16384x1024 := by
  show StableHlo.after (List.flatten [hostOps0, hostOps0_1, hostOps0_2]) _ (Proc.devRef .tc main_v2) = _
  simp only [List.flatten_cons, List.flatten_nil, List.append_nil, List.cons_append, List.nil_append]
  after_results
  rfl
theorem V_g : (V m c main_v3 : FVec Ideal S1x1024 .f32) = shapeCast S1x1024 (argG m c) shapeCasts_S1024_S1x1024 := by
  show StableHlo.after (List.flatten [hostOps0, hostOps0_1, hostOps0_2]) _ (Proc.devRef .tc main_v3) = _
  simp only [List.flatten_cons, List.flatten_nil, List.append_nil, List.cons_append, List.nil_append]
  after_results
  rfl
theorem V_w : (V m c main_v1 : FVec Ideal S1024x3200 .bf16) = truncf .bf16 (pad S1024x3200 ![0, 0] ![0, 112] ![0, 0] (argW m c)
    (sitofp .f32 (constantI S_ 32 0#32)) pads_S1024x3088_S1024x3200_000_01120 h_S_) bitsLt_bf16_f32 := by
  show StableHlo.after (List.flatten [hostOps0, hostOps0_1, hostOps0_2]) _ (Proc.devRef .tc main_v1) = _
  simp only [List.flatten_cons, List.flatten_nil, List.append_nil, List.cons_append, List.nil_append]
  after_results
  rfl

theorem V_x_at (i : Fin 16384) (k : Fin 1024) : (V m c main_v2 : FVec Ideal S16384x1024 .f32) (ix2 i k)
    = argX m c (ix3 ⟨i.val / 4096, by omega⟩ ⟨i.val % 4096, by omega⟩ k) := by
  rw [V_x]; pointwise
theorem V_g_at (k : Fin 1024) : (V m c main_v3 : FVec Ideal S1x1024 .f32) (ix2 0 k) = argG m c (ix1 k) := by
  rw [V_g]; pointwise
theorem V_w_at (k : Fin 1024) (n : Fin 3200) : (V m c main_v1 : FVec Ideal S1024x3200 .bf16) (ix2 k n) = padW (argW m c) k n := by
  rw [V_w]; pointwise [padW, sitofp_zero]

/-! ## The blocks -/

/-- The row tile of a point. -/
theorem coord (t : Fin grid0.N) : (grid0.coords t 0).val = t.val := by
  have ht : t.val < 32 := Nat.lt_of_lt_of_eq t.isLt N_0
  have e0 : (grid0.coords t 0).val = t.val / 1 % 32 := Pipeline.Grid.coords_val t 0 (by decide) rfl
  omega

theorem at_0 (t : Fin cfg0.N) (ht : t.val < 32) (r : Fin 512) (k : Fin 1024) :
    (show Vec Ideal S512x1024 .f32 from iblk m c 0 t) (ix2 r k) = (V m c main_v2 : FVec Ideal S16384x1024 .f32) (ix2 ⟨t.val * 512 + r.val, by omega⟩ k) := by
  show (V m c main_v2 : FVec Ideal S16384x1024 .f32) (((cfg0.win 0).blk t).view.emb (ix2 r k)) = _
  refine congrArg (V m c main_v2 : FVec Ideal S16384x1024 .f32) (funext fun a => Fin.ext ?_)
  refine (Pipeline.Window.rect_emb_val (cfg0.win 0) t (ix2 r k) a rfl).trans ?_
  have e := coord t
  fin_cases a
  · show (BitVec.ofNat 32 (grid0.coords t 0).val).toNat * 512 + r.val = t.val * 512 + r.val
    rw [e, BitVec.toNat_ofNat, Nat.mod_eq_of_lt (by omega)]
  · show 0 * 1024 + k.val = k.val
    omega

theorem at_1 (t : Fin cfg0.N) (k : Fin 1024) :
    (show Vec Ideal S1x1024 .f32 from iblk m c 1 t) (ix2 0 k) = argG m c (ix1 k) := by
  rw [← V_g_at]
  show (V m c main_v3 : FVec Ideal S1x1024 .f32) (((cfg0.win 1).blk t).view.emb (ix2 0 k)) = _
  refine congrArg (V m c main_v3 : FVec Ideal S1x1024 .f32) (funext fun a => Fin.ext ?_)
  refine (Pipeline.Window.rect_emb_val (cfg0.win 1) t (ix2 0 k) a rfl).trans ?_
  fin_cases a
  · show 0 * 1 + 0 = 0
    rfl
  · show 0 * 1024 + k.val = k.val
    omega

theorem at_2 (t : Fin cfg0.N) (k : Fin 1024) (n : Fin 3200) :
    (show Vec Ideal S1024x3200 .bf16 from iblk m c 2 t) (ix2 k n) = padW (argW m c) k n := by
  rw [← V_w_at]
  show (V m c main_v1 : FVec Ideal S1024x3200 .bf16) (((cfg0.win 2).blk t).view.emb (ix2 k n)) = _
  refine congrArg (V m c main_v1 : FVec Ideal S1024x3200 .bf16) (funext fun a => Fin.ext ?_)
  refine (Pipeline.Window.rect_emb_val (cfg0.win 2) t (ix2 k n) a rfl).trans ?_
  fin_cases a
  · show 0 * 1024 + k.val = k.val
    omega
  · show 0 * 3200 + n.val = n.val
    omega

/-- Where the result's blocks lie. -/
theorem at_3 (t : Fin cfg0.N) (ht : t.val < 32) (r : Fin 512) (n : Fin 3200) :
    ((cfg0.win 3).blk t).view.emb (ix2 r n) = ix2 (⟨t.val * 512 + r.val, by omega⟩ : Fin 16384) n := by
  refine funext fun a => Fin.ext ?_
  refine (Pipeline.Window.rect_emb_val (cfg0.win 3) t (ix2 r n) a rfl).trans ?_
  have e := coord t
  fin_cases a
  · show (BitVec.ofNat 32 (grid0.coords t 0).val).toNat * 512 + r.val = t.val * 512 + r.val
    rw [e, BitVec.toNat_ofNat, Nat.mod_eq_of_lt (by omega)]
  · show 0 * 3200 + n.val = n.val
    omega

theorem at_4 (t : Fin cfg0.N) (ht : t.val < 32) (l : Fin 2) (r : Fin 512) (h : Fin 4) (d : Fin 128) :
    ((cfg0.win 4).blk t).view.emb (ix4 l r h d) = ix4 l (⟨t.val * 512 + r.val, by omega⟩ : Fin 16384) h d := by
  refine funext fun a => Fin.ext ?_
  refine (Pipeline.Window.rect_emb_val (cfg0.win 4) t (ix4 l r h d) a rfl).trans ?_
  have e := coord t
  fin_cases a
  · show 0 * 2 + l.val = l.val
    omega
  · show (BitVec.ofNat 32 (grid0.coords t 0).val).toNat * 512 + r.val = t.val * 512 + r.val
    rw [e, BitVec.toNat_ofNat, Nat.mod_eq_of_lt (by omega)]
  · show 0 * 4 + h.val = h.val
    omega
  · show 0 * 128 + d.val = d.val
    omega

theorem at_5 (t : Fin cfg0.N) (ht : t.val < 32) (l : Fin 2) (r : Fin 512) (h : Fin 4) (d : Fin 128) :
    ((cfg0.win 5).blk t).view.emb (ix4 l r h d) = ix4 l (⟨t.val * 512 + r.val, by omega⟩ : Fin 16384) h d := at_4 t ht l r h d

end Cert.Heads

end
-- ==== Proof.HeadsOut.lean ====
/-
  What one row tile of the mixer's projection leaves in its three blocks, over the extended reals: the projected rows,
  and the projected rows' key and value columns by heads, with zeros for the other layer.
-/
module

public import proofs.«01_k».proof.Proof.Gen.Kernel5Ideal.Value
public import Idealize.ShloMosaic.Lib.Pipeline.ValueKit
public import Idealize.ShloMosaic.Lib.VecWindow
public import Idealize.ShloMosaic.Lib.Pointwise
public import Idealize.ShloMosaic.Lib.IdealHost

@[expose] public section

set_option maxRecDepth 16384

noncomputable section

namespace Cert.Heads

open Idealize.ShloMosaic Idealize.ShloMosaic.TcCoe Idealize.SL.Sem
open Cert.Kernel5Ideal Cert.Kernel5Ideal.Gen

/-- The projected rows of a tile: the normalised rows times the weights. -/
theorem prod_at (x : Vec Ideal S512x1024 .f32) (g : Vec Ideal S1x1024 .f32) (w : Vec Ideal S1024x3200 .bf16) (r : Fin 512) (n : Fin 3200) :
    k0_pay5 (F := Ideal) x g w (ix2 r n) = ∑ k : Fin 1024, x (ix2 r k) * Ideal.rsqrt (Ideal.div (∑ q : Fin 1024, x (ix2 r q) * x (ix2 r q)) (Ideal.ofBits .f32 0x44800000#32)
      + Ideal.ofBits .f32 0x358637BD#32) * g (ix2 0 k) * w (ix2 k n) := by
  pointwise [k0_pay5]

/-- Four heads of 128 columns from column `o` on as the first of two layers, zeros as the second. -/
def headsOf (o : ℕ) (ho : o + 512 ≤ 3200) (p : Vec Ideal S512x3200 .f32) : Vec Ideal S2x512x4x128 .f32 := fun y =>
  if (y 0).val = 0 then p (ix2 (n0 := 512) (n1 := 3200) ⟨(y 1).val, (y 1).isLt⟩ ⟨o + ((y 2).val * 128 + (y 3).val), by
    have h2 : (y 2).val < 4 := (y 2).isLt
    have h3 : (y 3).val < 128 := (y 3).isLt
    omega⟩) else 0

/-- A head stored through the first layer's slice holds that head's columns. -/
theorem head_piece (o : ℕ) (ho : o + 512 ≤ 3200) (p : Vec Ideal S512x3200 .f32) (h : ℕ) (hh : h < 4) (w : FVec Ideal S512x1x128 .f32)
    (hw : ∀ (r : Fin 512) (d : Fin 128), w (ix3 r 0 d) = p (ix2 r ⟨o + (h * 128 + d.val), by omega⟩))
    (i0 : ∀ a, (![0, 0, 0, 0] : Fin 4 → ℕ) a + (![1, 512, 4, 128] : Fin 4 → ℕ) a ≤ S2x512x4x128.size a)
    (i1 : ∀ a, (![0, h, 0] : Fin 3 → ℕ) a + (![512, 1, 128] : Fin 3 → ℕ) a ≤ S512x4x128.size a)
    (p2 : (![1, 512, 4, 128] : Fin 4 → ℕ) 0 = 1) (p3 : ∀ i : Fin 3, (![1, 512, 4, 128] : Fin 4 → ℕ) i.succ = S512x4x128.size i)
    (p1 : ∀ a, (Rect.unit (s := S2x512x4x128) ![0, 0, 0, 0] ![1, 512, 4, 128] i0).stride a = 1)
    (hR : (((Rect.unit (s := S2x512x4x128) ![0, 0, 0, 0] ![1, 512, 4, 128] i0).within ((Rect.unit (s := S512x4x128) ![0, h, 0] ![512, 1, 128] i1).consLift ![1, 512, 4, 128] p2 p3) p1)).shape.numel
      = (Rect.unit (s := S512x4x128) ![0, h, 0] ![512, 1, 128] i1).shape.numel)
    (x : (((Rect.unit (s := S2x512x4x128) ![0, 0, 0, 0] ![1, 512, 4, 128] i0).within ((Rect.unit (s := S512x4x128) ![0, h, 0] ![512, 1, 128] i1).consLift ![1, 512, 4, 128] p2 p3) p1)).shape.Idx) :
    Rect.payAlong hR w x = headsOf o ho p ((((Rect.unit (s := S2x512x4x128) ![0, 0, 0, 0] ![1, 512, 4, 128] i0).within ((Rect.unit (s := S512x4x128) ![0, h, 0] ![512, 1, 128] i1).consLift ![1, 512, 4, 128] p2 p3) p1)).emb x) := by
  have h0 : (x 0).val = 0 := Nat.lt_one_iff.mp (x 0).isLt
  have h1 : (x 1).val < 512 := (x 1).isLt
  have h2 : (x 2).val = 0 := Nat.lt_one_iff.mp (x 2).isLt
  have h3 : (x 3).val < 128 := (x 3).isLt
  refine (Rect.payAlong_consLift (Rect.unit (s := S512x4x128) ![0, h, 0] ![512, 1, 128] i1) ![1, 512, 4, 128] p2 p3 w hR x
    (ix3 (⟨(x 1).val, h1⟩ : Fin 512) (0 : Fin 1) (⟨(x 3).val, h3⟩ : Fin 128)) (fun i => by fin_cases i <;> first | rfl | exact h2.symm)).trans ?_
  refine (hw _ _).trans ?_
  unfold headsOf
  rw [if_pos (by show 0 + 0 + 1 * (x 0).val = 0; omega)]
  refine congrArg p ((ix2_inj ..).2 ⟨Fin.ext ?_, Fin.ext ?_⟩)
  · show (x 1).val = 0 + 0 + 1 * (x 1).val
    omega
  · show o + (h * 128 + (x 3).val) = o + ((0 + h + 1 * (x 2).val) * 128 + (0 + 0 + 1 * (x 3).val))
    omega

/-- The other layer's slice holds zeros. -/
theorem zero_piece (o : ℕ) (ho : o + 512 ≤ 3200) (p : Vec Ideal S512x3200 .f32) (w : FVec Ideal S1x512x4x128 .f32) (hw : ∀ y, w y = 0)
    (i0 : ∀ a, (![1, 0, 0, 0] : Fin 4 → ℕ) a + (![1, 512, 4, 128] : Fin 4 → ℕ) a ≤ S2x512x4x128.size a)
    (x : (Rect.unit (s := S2x512x4x128) ![1, 0, 0, 0] ![1, 512, 4, 128] i0).shape.Idx) :
    w x = headsOf o ho p ((Rect.unit (s := S2x512x4x128) ![1, 0, 0, 0] ![1, 512, 4, 128] i0).emb x) := by
  unfold headsOf
  rw [if_neg (by show ¬ (1 + 1 * (x 0).val = 0); omega)]
  exact hw x

theorem pay6_zero (y : S1x512x4x128.Idx) : k0_pay6 (F := Ideal) y = (0 : EReal) := by
  pointwise [k0_pay6]
theorem pay12_zero (y : S1x512x4x128.Idx) : k0_pay12 (F := Ideal) y = (0 : EReal) := by
  pointwise [k0_pay12]

/-- A head's columns, cut from the projected rows. -/
theorem cut_at (o : ℕ) (ho : o + 128 ≤ 3200) (p : FVec Ideal S512x3200 .f32) (hs : S512x3200.Slices ![0, o] S512x128) (r : Fin 512) (d : Fin 128)
    (n : Fin 3200) (hn : n.val = o + d.val) :
    shapeCast S512x1x128 (extractStridedSlice S512x128 ![0, o] p hs) shapeCasts_S512x128_S512x1x128 (ix3 r 0 d) = p (ix2 r n) := by
  have e : n = ⟨o + d.val, by omega⟩ := Fin.ext hn
  rw [e]
  pointwise

variable (m : (ℓ : Loc nD τ sig) → Buf (Elt Ideal) ℓ) (c : Dev nD)

/-- The projected rows of a point's tile. -/
def prodOf (t : Fin cfg0.N) : Vec Ideal S512x3200 .f32 := k0_pay5 (F := Ideal) (iblk m c 0 t) (iblk m c 1 t) (iblk m c 2 t)

/-- A load of a whole buffer known by its contents. -/
theorem load_whole {S : Shape} {e : EltTy} (M : Memref sig .tc .vmem S e) (hM : M.IsWhole) (x : Vec Ideal S e) (o : Fin S.rank → ℕ)
    (h : ∀ a, o a + S.size a ≤ S.size a) :
    M.view.readAt (Elt Ideal) (Rect.unit (s := S) o S.size h).toLoadRect (hM.unread x) = x :=
  funext fun j => (congrFun (hM.read_unread x) _).trans (congrArg x (Rect.emb_unit_full h j))

/-- The projected rows, from what the loads of the body read. -/
theorem prod_load (t : Fin cfg0.N) :
    k0_pay5 (F := Ideal)
      (View.readAt (Elt Ideal) (ms0_0 t).view (Rect.unit (s := S512x1024) ![0, 0] S512x1024.size inb_S512x1024_S512x1024_0_0).toLoadRect ((hs0_0 t).unread (iblk m c 0 t)))
      (View.readAt (Elt Ideal) (ms0_1 t).view (Rect.unit (s := S1x1024) ![0, 0] S1x1024.size inb_S1x1024_S1x1024_0_0).toLoadRect ((hs0_1 t).unread (iblk m c 1 t)))
      (View.readAt (Elt Ideal) (ms0_2 t).view (Rect.unit (s := S1024x3200) ![0, 0] S1024x3200.size inb_S1024x3200_S1024x3200_0_0).toLoadRect ((hs0_2 t).unread (iblk m c 2 t)))
      = prodOf m c t := by
  unfold prodOf
  rw [load_whole (ms0_0 t) (hs0_0 t), load_whole (ms0_1 t) (hs0_1 t), load_whole (ms0_2 t) (hs0_2 t)]

/-- The first block is the projected rows. -/
theorem out3 (t : Fin cfg0.N) : (outsAt0 m c t).1 = prodOf m c t := by
  funext y
  unfold outsAt0
  dsimp only
  unfold out0_A_3
  refine View.read_writes_apply_of_pieces VO0_3 _ (prodOf m c t) _ (fun pc hpc x => ?_) y (cover0_A_3 ..)
  dsimp only [kernelRun0_A] at hpc
  obtain rfl := List.mem_singleton.mp hpc
  refine (congrFun (prod_load m c t) x).trans (congrArg (prodOf m c t) ?_)
  exact (Rect.emb_unit_full inb_S512x3200_S512x3200_0_0 x).symm

/-- The second block is the keys by heads. -/
theorem out4 (t : Fin cfg0.N) : (outsAt0 m c t).2.1 = headsOf 512 (by omega) (prodOf m c t) := by
  funext y
  unfold outsAt0
  dsimp only
  unfold out0_A_4
  refine View.read_writes_apply_of_pieces VO0_4 _ (headsOf 512 (by omega) (prodOf m c t)) _ ?_ y (cover0_A_4 ..)
  dsimp only [kernelRun0_A, kernelRun0_A.sl.r, kernelRun0_A.sl.r_1, k0_pay7, k0_pay8, k0_pay9, k0_pay10, k0_pay11]
  rw [prod_load]
  simp only [List.forall_mem_cons]
  refine ⟨fun x => ?_, fun x => ?_, fun x => ?_, fun x => ?_, fun x => ?_, fun _ h => absurd h List.not_mem_nil⟩
  · exact head_piece 512 (by omega) _ 3 (by omega) _ (fun r d => cut_at 896 (by omega) _ _ r d _ (by dsimp only; omega)) _ _ _ _ _ _ x
  · exact head_piece 512 (by omega) _ 2 (by omega) _ (fun r d => cut_at 768 (by omega) _ _ r d _ (by dsimp only; omega)) _ _ _ _ _ _ x
  · exact head_piece 512 (by omega) _ 1 (by omega) _ (fun r d => cut_at 640 (by omega) _ _ r d _ (by dsimp only; omega)) _ _ _ _ _ _ x
  · exact head_piece 512 (by omega) _ 0 (by omega) _ (fun r d => cut_at 512 (by omega) _ _ r d _ (by dsimp only; omega)) _ _ _ _ _ _ x
  · exact zero_piece 512 (by omega) _ _ pay6_zero _ x

/-- The third block is the values by heads. -/
theorem out5 (t : Fin cfg0.N) : (outsAt0 m c t).2.2 = headsOf 1024 (by omega) (prodOf m c t) := by
  funext y
  unfold outsAt0
  dsimp only
  unfold out0_A_5
  refine View.read_writes_apply_of_pieces VO0_5 _ (headsOf 1024 (by omega) (prodOf m c t)) _ ?_ y (cover0_A_5 ..)
  dsimp only [kernelRun0_A, kernelRun0_A.sl.r, kernelRun0_A.sl.r_2, k0_pay1, k0_pay2, k0_pay3, k0_pay4, k0_pay13]
  rw [prod_load]
  simp only [List.forall_mem_cons]
  refine ⟨fun x => ?_, fun x => ?_, fun x => ?_, fun x => ?_, fun x => ?_, fun _ h => absurd h List.not_mem_nil⟩
  · exact head_piece 1024 (by omega) _ 3 (by omega) _ (fun r d => cut_at 1408 (by omega) _ _ r d _ (by dsimp only; omega)) _ _ _ _ _ _ x
  · exact head_piece 1024 (by omega) _ 2 (by omega) _ (fun r d => cut_at 1280 (by omega) _ _ r d _ (by dsimp only; omega)) _ _ _ _ _ _ x
  · exact head_piece 1024 (by omega) _ 1 (by omega) _ (fun r d => cut_at 1152 (by omega) _ _ r d _ (by dsimp only; omega)) _ _ _ _ _ _ x
  · exact head_piece 1024 (by omega) _ 0 (by omega) _ (fun r d => cut_at 1024 (by omega) _ _ r d _ (by dsimp only; omega)) _ _ _ _ _ _ x
  · exact zero_piece 1024 (by omega) _ _ pay12_zero _ x

end Cert.Heads

end
-- ==== Proof.HeadsValue.lean ====
/-
  The mixer's projection: its three result arrays are the reference's.
-/
module

public import proofs.«01_k».proof.Proof.HeadsBlk
public import proofs.«01_k».proof.Proof.HeadsOut
public import proofs.«01_k».proof.Proof.HeadsRef

@[expose] public section

set_option maxRecDepth 16384

noncomputable section

namespace Cert.Heads

open Idealize.ShloMosaic Idealize.ShloMosaic.TcCoe
open Idealize.SL.Sem
open Idealize.ShloMosaic.Pipeline (Dat)
open Cert.Kernel5Ideal Cert.Kernel5Ideal.Gen
open Cert.HeadsRef (hOf projOf)

variable (m : (ℓ : Loc nD τ sig) → Buf (Elt Ideal) ℓ) (c : Dev nD)

/-- A tile's projected rows are the reference's, and zero in the padding. -/
theorem prod_eq (t : Fin cfg0.N) (ht : t.val < 32) (r : Fin 512) (n : Fin 3200) (i : Fin 16384) (hi : i.val = t.val * 512 + r.val) :
    prodOf m c t (ix2 r n) = if h : n.val < 3088 then projOf (argX m c) (argG m c) (argW m c) i ⟨n.val, h⟩ else 0 := by
  have hrow : ∀ k, (show Vec Ideal S512x1024 .f32 from iblk m c 0 t) (ix2 r k) = argX m c (ix3 ⟨i.val / 4096, by omega⟩ ⟨i.val % 4096, by omega⟩ k) := fun k =>
    ((at_0 m c t ht r k).trans (congrArg (fun z => (V m c main_v2 : FVec Ideal S16384x1024 .f32) (ix2 z k)) (Fin.ext hi.symm))).trans (V_x_at m c i k)
  refine (prod_at (show Vec Ideal S512x1024 .f32 from iblk m c 0 t) (show Vec Ideal S1x1024 .f32 from iblk m c 1 t)
    (show Vec Ideal S1024x3200 .bf16 from iblk m c 2 t) r n).trans ?_
  simp only [hrow, at_1, at_2]
  by_cases h : n.val < 3088
  · simp only [padW, dif_pos h]
    rfl
  · simp only [padW, dif_neg h, mul_zero, Finset.sum_const_zero]

/-- The reference's values of the launched arrays. -/
def refProj : FVec Ideal S16384x3200 .f32 := Cert.Reference5Ideal.Read.val_main_v19 (F := Ideal) (argX m c) (argG m c) (argW m c)
def refKeys : FVec Ideal S2x16384x4x128 .f32 := Cert.Reference5Ideal.Read.val_main_v23 (F := Ideal) (argX m c) (argG m c) (argW m c)
def refVals : FVec Ideal S2x16384x4x128 .f32 := Cert.Reference5Ideal.Read.val_main_v27 (F := Ideal) (argX m c) (argG m c) (argW m c)

/-- An entry of a tile's heads is the projection's entry, or the other layer's zero. -/
theorem heads_eq (o : ℕ) (ho : o + 512 ≤ 3088) (t : Fin cfg0.N) (ht : t.val < 32) (l : Fin 2) (r : Fin 512) (h : Fin 4) (d : Fin 128) :
    headsOf o (by omega) (prodOf m c t) (ix4 l r h d)
      = if l.val = 0 then projOf (argX m c) (argG m c) (argW m c) ⟨t.val * 512 + r.val, by omega⟩ ⟨o + (h.val * 128 + d.val), by omega⟩ else 0 := by
  unfold headsOf
  by_cases hl : l.val = 0
  · rw [if_pos hl, if_pos (show ((ix4 l r h d : (⟨4, ![2, 512, 4, 128]⟩ : Shape).Idx) 0).val = 0 from hl)]
    refine (prod_eq m c t ht r _ ⟨t.val * 512 + r.val, by omega⟩ rfl).trans ?_
    exact dif_pos (show o + (h.val * 128 + d.val) < 3088 by omega)
  · rw [if_neg hl, if_neg (show ¬ ((ix4 l r h d : (⟨4, ![2, 512, 4, 128]⟩ : Shape).Idx) 0).val = 0 from hl)]

/-! ## What a point writes back, at one entry of a block -/

theorem entry_3 (t : Fin cfg0.N) (ht : t.val < 32) (y : S512x3200.Idx) :
    prodOf m c t y = refProj m c (((cfg0.win 3).blk t).view.emb y) := by
  obtain ⟨y0, y1, rfl⟩ : ∃ (y0 : Fin 512) (y1 : Fin 3200), y = ix2 y0 y1 := ⟨y 0, y 1, eq_ix2 y⟩
  refine ((prod_eq m c t ht y0 y1 ⟨t.val * 512 + y0.val, by omega⟩ rfl).trans ?_).trans (congrArg (refProj m c) (at_3 t ht y0 y1).symm)
  exact (Cert.HeadsRef.v19_at _ _ _ _ _).symm

theorem entry_4 (t : Fin cfg0.N) (ht : t.val < 32) (y : S2x512x4x128.Idx) :
    headsOf 512 (by omega) (prodOf m c t) y = refKeys m c (((cfg0.win 4).blk t).view.emb y) := by
  obtain ⟨y0, y1, y2, y3, rfl⟩ : ∃ (y0 : Fin 2) (y1 : Fin 512) (y2 : Fin 4) (y3 : Fin 128), y = ix4 y0 y1 y2 y3 := ⟨y 0, y 1, y 2, y 3, eq_ix4 y⟩
  refine ((heads_eq m c 512 (by omega) t ht y0 y1 y2 y3).trans ?_).trans (congrArg (refKeys m c) (at_4 t ht y0 y1 y2 y3).symm)
  exact (Cert.HeadsRef.v23_at _ _ _ _ _ _ _).symm

theorem entry_5 (t : Fin cfg0.N) (ht : t.val < 32) (y : S2x512x4x128.Idx) :
    headsOf 1024 (by omega) (prodOf m c t) y = refVals m c (((cfg0.win 5).blk t).view.emb y) := by
  obtain ⟨y0, y1, y2, y3, rfl⟩ : ∃ (y0 : Fin 2) (y1 : Fin 512) (y2 : Fin 4) (y3 : Fin 128), y = ix4 y0 y1 y2 y3 := ⟨y 0, y 1, y 2, y 3, eq_ix4 y⟩
  refine ((heads_eq m c 1024 (by omega) t ht y0 y1 y2 y3).trans ?_).trans (congrArg (refVals m c) (at_5 t ht y0 y1 y2 y3).symm)
  exact (Cert.HeadsRef.v27_at _ _ _ _ _ _ _).symm

/-! ## The result arrays -/

/-- THE PROJECTED ROWS are the reference's. -/
theorem final_3 : (dats m 0 c).arrAt 3 cfg0.N = refProj m c := by
  refine (dats m 0 c).arrAt_eq_of_covers 3 _ (by decide +kernel) fun t _ y => ?_
  rw [after0_3, out3]
  exact entry_3 m c t (Nat.lt_of_lt_of_eq t.isLt N_0) y

/-- THE KEYS are the reference's. -/
theorem final_4 : (dats m 0 c).arrAt 4 cfg0.N = refKeys m c := by
  refine (dats m 0 c).arrAt_eq_of_covers 4 _ (by decide +kernel) fun t _ y => ?_
  rw [after0_4, out4]
  exact entry_4 m c t (Nat.lt_of_lt_of_eq t.isLt N_0) y

/-- THE VALUES are the reference's. -/
theorem final_5 : (dats m 0 c).arrAt 5 cfg0.N = refVals m c := by
  refine (dats m 0 c).arrAt_eq_of_covers 5 _ (by decide +kernel) fun t _ y => ?_
  rw [after0_5, out5]
  exact entry_5 m c t (Nat.lt_of_lt_of_eq t.isLt N_0) y

end Cert.Heads

end
-- ==== Proof.Heads.lean ====
/- The mixer's projection: the reference's frame and the value claim. -/
module

public import proofs.«01_k».proof.Defs
public import proofs.«01_k».proof.Proof.HeadsValue
public import proofs.«01_k».proof.Proof.Gen.Reference5Ideal.Run
public import proofs.«01_k».proof.Proof.Gen.Reference5Ideal.Read
public import Idealize.ShloMosaic.Lib.Claim

@[expose] public section

set_option maxRecDepth 16384

noncomputable section

namespace Cert.Heads

open Idealize.ShloMosaic Idealize.SL.Sem
open Cert.Reference5Ideal.Read (val_main_v19 val_main_v19_eq val_main_v23 val_main_v23_eq val_main_v27 val_main_v27_eq)

variable [Cert.Kernel5Ideal.Facts] [Cert.Reference5Ideal.Facts]

/-- The reference runs, leaves its arguments as they were and every semaphore at zero. -/
theorem frame_reference : Cert.quiescent_Reference5Ideal := fun m g _ =>
  (θ_run Cert.Reference5Ideal.defs _ _).mono (fun r h => ⟨fun c => (h c).2.2.2, sem_eq_zero_of_no_sems (by decide) r.2⟩)
    (Cert.Reference5Ideal.Value.run (F := Ideal) m g)

/-- THE VALUE CLAIM: the kernel's three results are the reference's. -/
theorem algebraic : Cert.algebraic_Kernel5Ideal_Reference5Ideal := fun m g m' g' hpre hargs => by
  refine ⟨fun c => refProj m c, fun c => refKeys m c, fun c => refVals m c,
    (θ_run Cert.Kernel5Ideal.defs _ _).mono
      (fun _ h c => ⟨(h c).1.trans (final_3 m c), (h c).2.1.trans (final_4 m c), (h c).2.2.1.trans (final_5 m c), (h c).2.2.2⟩)
      (Cert.Kernel5Ideal.Value.run_blocks m g),
    (θ_run Cert.Reference5Ideal.defs _ _).mono
      (fun _ h c => ⟨((h c).1.trans (val_main_v19_eq _ _ _)).trans ?_, ((h c).2.1.trans (val_main_v23_eq _ _ _)).trans ?_,
        ((h c).2.2.1.trans (val_main_v27_eq _ _ _)).trans ?_, (h c).2.2.2⟩)
      (Cert.Reference5Ideal.Value.run m' g')⟩
  all_goals obtain ⟨e0, e1, e2⟩ := hargs c
  · exact congr (congr (congrArg (val_main_v19 (F := Ideal)) e0) e1) e2
  · exact congr (congr (congrArg (val_main_v23 (F := Ideal)) e0) e1) e2
  · exact congr (congr (congrArg (val_main_v27 (F := Ideal)) e0) e1) e2

end Cert.Heads

end
-- ==== Proof.SampleBlk.lean ====
/-
  The blocks of the sample's mixer projection at the second layer in terms of the launched arrays: point `t` works on the rows from `512 t` on, with
  all the weights, whose columns past the last the host has filled with zeros.
-/
module

public import proofs.«01_k».proof.Proof.Gen.Kernel6Ideal.Frame
public import proofs.«01_k».proof.Proof.HeadsBlk
public import Idealize.ShloMosaic.Lib.Pipeline.ValueKit
public import Idealize.ShloMosaic.Lib.Pointwise
public import Idealize.ShloMosaic.Lib.IdealHost

@[expose] public section

set_option maxRecDepth 1024

noncomputable section

namespace Cert.Sample

open Idealize.ShloMosaic Idealize.ShloMosaic.TcCoe
open Idealize.SL.Sem
open Cert.Kernel6Ideal Cert.Kernel6Ideal.Gen
open Cert.HeadsRef (sitofp_zero)
open Cert.Heads (padW)

variable (m : (ℓ : Loc nD τ sig) → Buf (Elt Ideal) ℓ) (c : Dev nD)

/-! ## The arrays the host prepares -/

/-- The launched arguments. -/
def argX : FVec Ideal S128x8x1024 .f32 := m ((c : Thread nD τ).loc main_arg0)
def argG : FVec Ideal S1024 .f32 := m ((c : Thread nD τ).loc main_arg1)
def argW : FVec Ideal S1024x3088 .f32 := m ((c : Thread nD τ).loc main_arg2)
def argK : FVec Ideal S2x1024x4x128 .f32 := m ((c : Thread nD τ).loc main_arg3)
def argV : FVec Ideal S2x1024x4x128 .f32 := m ((c : Thread nD τ).loc main_arg4)

theorem V_x : (V m c main_v2 : FVec Ideal S1024x1024 .f32) = shapeCast S1024x1024 (argX m c) shapeCasts_S128x8x1024_S1024x1024 := by
  show StableHlo.after (List.flatten [hostOps0, hostOps0_1, hostOps0_2]) _ (Proc.devRef .tc main_v2) = _
  simp only [List.flatten_cons, List.flatten_nil, List.append_nil, List.cons_append, List.nil_append]
  after_results
  rfl
theorem V_g : (V m c main_v3 : FVec Ideal S1x1024 .f32) = shapeCast S1x1024 (argG m c) shapeCasts_S1024_S1x1024 := by
  show StableHlo.after (List.flatten [hostOps0, hostOps0_1, hostOps0_2]) _ (Proc.devRef .tc main_v3) = _
  simp only [List.flatten_cons, List.flatten_nil, List.append_nil, List.cons_append, List.nil_append]
  after_results
  rfl
theorem V_w : (V m c main_v1 : FVec Ideal S1024x3200 .bf16) = truncf .bf16 (pad S1024x3200 ![0, 0] ![0, 112] ![0, 0] (argW m c)
    (sitofp .f32 (constantI S_ 32 0#32)) pads_S1024x3088_S1024x3200_000_01120 h_S_) bitsLt_bf16_f32 := by
  show StableHlo.after (List.flatten [hostOps0, hostOps0_1, hostOps0_2]) _ (Proc.devRef .tc main_v1) = _
  simp only [List.flatten_cons, List.flatten_nil, List.append_nil, List.cons_append, List.nil_append]
  after_results
  rfl

/-- The call's copies of the stacks. -/
theorem V_k : (V m c main_v4_1 : FVec Ideal S2x1024x4x128 .f32) = argK m c := by
  show StableHlo.after (List.flatten [hostOps0, hostOps0_1, hostOps0_2]) _ (Proc.devRef .tc main_v4_1) = _
  simp only [List.flatten_cons, List.flatten_nil, List.append_nil, List.cons_append, List.nil_append]
  after_results
  rfl
theorem V_v : (V m c main_v4_2 : FVec Ideal S2x1024x4x128 .f32) = argV m c := by
  show StableHlo.after (List.flatten [hostOps0, hostOps0_1, hostOps0_2]) _ (Proc.devRef .tc main_v4_2) = _
  simp only [List.flatten_cons, List.flatten_nil, List.append_nil, List.cons_append, List.nil_append]
  after_results
  rfl

theorem V_x_at (i : Fin 1024) (k : Fin 1024) : (V m c main_v2 : FVec Ideal S1024x1024 .f32) (ix2 i k)
    = argX m c (ix3 ⟨i.val / 8, by omega⟩ ⟨i.val % 8, by omega⟩ k) := by
  rw [V_x]; pointwise
theorem V_g_at (k : Fin 1024) : (V m c main_v3 : FVec Ideal S1x1024 .f32) (ix2 0 k) = argG m c (ix1 k) := by
  rw [V_g]; pointwise
theorem V_w_at (k : Fin 1024) (n : Fin 3200) : (V m c main_v1 : FVec Ideal S1024x3200 .bf16) (ix2 k n) = padW (argW m c) k n := by
  rw [V_w]; pointwise [padW, sitofp_zero]

/-! ## The blocks -/

/-- The row tile of a point. -/
theorem coord (t : Fin grid0.N) : (grid0.coords t 0).val = t.val := by
  have ht : t.val < 2 := Nat.lt_of_lt_of_eq t.isLt N_0
  have e0 : (grid0.coords t 0).val = t.val / 1 % 2 := Pipeline.Grid.coords_val t 0 (by decide) rfl
  omega

theorem at_0 (t : Fin cfg0.N) (ht : t.val < 2) (r : Fin 512) (k : Fin 1024) :
    (show Vec Ideal S512x1024 .f32 from iblk m c 0 t) (ix2 r k) = (V m c main_v2 : FVec Ideal S1024x1024 .f32) (ix2 ⟨t.val * 512 + r.val, by omega⟩ k) := by
  show (V m c main_v2 : FVec Ideal S1024x1024 .f32) (((cfg0.win 0).blk t).view.emb (ix2 r k)) = _
  refine congrArg (V m c main_v2 : FVec Ideal S1024x1024 .f32) (funext fun a => Fin.ext ?_)
  refine (Pipeline.Window.rect_emb_val (cfg0.win 0) t (ix2 r k) a rfl).trans ?_
  have e := coord t
  fin_cases a
  · show (BitVec.ofNat 32 (grid0.coords t 0).val).toNat * 512 + r.val = t.val * 512 + r.val
    rw [e, BitVec.toNat_ofNat, Nat.mod_eq_of_lt (by omega)]
  · show 0 * 1024 + k.val = k.val
    omega

theorem at_1 (t : Fin cfg0.N) (k : Fin 1024) :
    (show Vec Ideal S1x1024 .f32 from iblk m c 1 t) (ix2 0 k) = argG m c (ix1 k) := by
  rw [← V_g_at]
  show (V m c main_v3 : FVec Ideal S1x1024 .f32) (((cfg0.win 1).blk t).view.emb (ix2 0 k)) = _
  refine congrArg (V m c main_v3 : FVec Ideal S1x1024 .f32) (funext fun a => Fin.ext ?_)
  refine (Pipeline.Window.rect_emb_val (cfg0.win 1) t (ix2 0 k) a rfl).trans ?_
  fin_cases a
  · show 0 * 1 + 0 = 0
    rfl
  · show 0 * 1024 + k.val = k.val
    omega

theorem at_2 (t : Fin cfg0.N) (k : Fin 1024) (n : Fin 3200) :
    (show Vec Ideal S1024x3200 .bf16 from iblk m c 2 t) (ix2 k n) = padW (argW m c) k n := by
  rw [← V_w_at]
  show (V m c main_v1 : FVec Ideal S1024x3200 .bf16) (((cfg0.win 2).blk t).view.emb (ix2 k n)) = _
  refine congrArg (V m c main_v1 : FVec Ideal S1024x3200 .bf16) (funext fun a => Fin.ext ?_)
  refine (Pipeline.Window.rect_emb_val (cfg0.win 2) t (ix2 k n) a rfl).trans ?_
  fin_cases a
  · show 0 * 1024 + k.val = k.val
    omega
  · show 0 * 3200 + n.val = n.val
    omega

/-- Where the result's blocks lie. -/
theorem at_3 (t : Fin cfg0.N) (ht : t.val < 2) (r : Fin 512) (n : Fin 3200) :
    ((cfg0.win 3).blk t).view.emb (ix2 r n) = ix2 (⟨t.val * 512 + r.val, by omega⟩ : Fin 1024) n := by
  refine funext fun a => Fin.ext ?_
  refine (Pipeline.Window.rect_emb_val (cfg0.win 3) t (ix2 r n) a rfl).trans ?_
  have e := coord t
  fin_cases a
  · show (BitVec.ofNat 32 (grid0.coords t 0).val).toNat * 512 + r.val = t.val * 512 + r.val
    rw [e, BitVec.toNat_ofNat, Nat.mod_eq_of_lt (by omega)]
  · show 0 * 3200 + n.val = n.val
    omega

/-- The stacks' blocks lie in the second layer. -/
theorem at_4 (t : Fin cfg0.N) (ht : t.val < 2) (r : Fin 512) (h : Fin 4) (d : Fin 128) :
    ((cfg0.win 4).blk t).view.emb (ix4 0 r h d) = ix4 1 (⟨t.val * 512 + r.val, by omega⟩ : Fin 1024) h d := by
  refine funext fun a => Fin.ext ?_
  refine (Pipeline.Window.rect_emb_val (cfg0.win 4) t (ix4 0 r h d) a rfl).trans ?_
  have e := coord t
  fin_cases a
  · show (1#32).toNat * 1 + 0 = 1
    rfl
  · show (BitVec.ofNat 32 (grid0.coords t 0).val).toNat * 512 + r.val = t.val * 512 + r.val
    rw [e, BitVec.toNat_ofNat, Nat.mod_eq_of_lt (by omega)]
  · show 0 * 4 + h.val = h.val
    omega
  · show 0 * 128 + d.val = d.val
    omega

theorem at_5 (t : Fin cfg0.N) (ht : t.val < 2) (r : Fin 512) (h : Fin 4) (d : Fin 128) :
    ((cfg0.win 5).blk t).view.emb (ix4 0 r h d) = ix4 1 (⟨t.val * 512 + r.val, by omega⟩ : Fin 1024) h d := at_4 t ht r h d

end Cert.Sample

end
-- ==== Proof.SampleOut.lean ====
/-
  What one row tile of the sample's mixer projection leaves in its three blocks, over the extended reals: the projected
  rows, and the projected rows' key and value columns by heads.
-/
module

public import proofs.«01_k».proof.Proof.Gen.Kernel6Ideal.Value
public import Idealize.ShloMosaic.Lib.Pipeline.ValueKit
public import Idealize.ShloMosaic.Lib.VecWindow
public import Idealize.ShloMosaic.Lib.Pointwise
public import Idealize.ShloMosaic.Lib.IdealHost

@[expose] public section

set_option maxRecDepth 16384

noncomputable section

namespace Cert.Sample

open Idealize.ShloMosaic Idealize.ShloMosaic.TcCoe Idealize.SL.Sem
open Cert.Kernel6Ideal Cert.Kernel6Ideal.Gen

/-- The projected rows of a tile: the normalised rows times the weights. -/
theorem prod_at (x : Vec Ideal S512x1024 .f32) (g : Vec Ideal S1x1024 .f32) (w : Vec Ideal S1024x3200 .bf16) (r : Fin 512) (n : Fin 3200) :
    k0_pay7 (F := Ideal) x g w (ix2 r n) = ∑ k : Fin 1024, x (ix2 r k) * Ideal.rsqrt (Ideal.div (∑ q : Fin 1024, x (ix2 r q) * x (ix2 r q)) (Ideal.ofBits .f32 0x44800000#32)
      + Ideal.ofBits .f32 0x358637BD#32) * g (ix2 0 k) * w (ix2 k n) := by
  pointwise [k0_pay7]

/-- Four heads of 128 columns from column `o` on. -/
def headsOf (o : ℕ) (ho : o + 512 ≤ 3200) (p : Vec Ideal S512x3200 .f32) : Vec Ideal S1x512x4x128 .f32 := fun y =>
  p (ix2 (n0 := 512) (n1 := 3200) ⟨(y 1).val, (y 1).isLt⟩ ⟨o + ((y 2).val * 128 + (y 3).val), by
    have h2 : (y 2).val < 4 := (y 2).isLt
    have h3 : (y 3).val < 128 := (y 3).isLt
    omega⟩)

/-- A stored head holds that head's columns, cut from the projected rows at column `q`. -/
theorem head_piece (o : ℕ) (ho : o + 512 ≤ 3200) (p : FVec Ideal S512x3200 .f32) (h q : ℕ) (hh : h < 4) (hq : q = o + h * 128)
    (hs : S512x3200.Slices ![0, q] S512x128)
    (i0 : ∀ a, (![0, 0, h, 0] : Fin 4 → ℕ) a + S1x512x1x128.size a ≤ S1x512x4x128.size a)
    (x : (Rect.unit (s := S1x512x4x128) ![0, 0, h, 0] S1x512x1x128.size i0).shape.Idx) :
    (shapeCast S1x512x1x128 (extractStridedSlice S512x128 ![0, q] p hs) shapeCasts_S512x128_S1x512x1x128 : FVec Ideal S1x512x1x128 .f32) x
      = headsOf o ho p ((Rect.unit (s := S1x512x4x128) ![0, 0, h, 0] S1x512x1x128.size i0).emb x) := by
  have h1 : (x 1).val < 512 := (x 1).isLt
  have h2 : (x 2).val = 0 := Nat.lt_one_iff.mp (x 2).isLt
  have h3 : (x 3).val < 128 := (x 3).isLt
  have ex : x = (ix4 (0 : Fin 1) (⟨(x 1).val, h1⟩ : Fin 512) (0 : Fin 1) (⟨(x 3).val, h3⟩ : Fin 128) : S1x512x1x128.Idx) := by
    funext a
    refine Fin.ext ?_
    fin_cases a
    · exact Nat.lt_one_iff.mp (x 0).isLt
    · rfl
    · exact h2
    · rfl
  have cut : ∀ (r : Fin 512) (d : Fin 128), (shapeCast S1x512x1x128 (extractStridedSlice S512x128 ![0, q] p hs) shapeCasts_S512x128_S1x512x1x128 : FVec Ideal S1x512x1x128 .f32) (ix4 0 r 0 d)
      = p (ix2 r ⟨q + d.val, by omega⟩) := fun r d => by pointwise
  refine (congrArg _ ex).trans ((cut _ _).trans ?_)
  unfold headsOf
  refine congrArg p ((ix2_inj ..).2 ⟨Fin.ext ?_, Fin.ext ?_⟩)
  · show (x 1).val = 0 + 1 * (x 1).val
    omega
  · show q + (x 3).val = o + ((h + 1 * (x 2).val) * 128 + (0 + 1 * (x 3).val))
    omega

variable (m : (ℓ : Loc nD τ sig) → Buf (Elt Ideal) ℓ) (c : Dev nD)

/-- The projected rows of a point's tile. -/
def prodOf (t : Fin cfg0.N) : Vec Ideal S512x3200 .f32 := k0_pay7 (F := Ideal) (iblk m c 0 t) (iblk m c 1 t) (iblk m c 2 t)

/-- A load of a whole buffer known by its contents. -/
theorem load_whole {S : Shape} {e : EltTy} (M : Memref sig .tc .vmem S e) (hM : M.IsWhole) (x : Vec Ideal S e) (o : Fin S.rank → ℕ)
    (h : ∀ a, o a + S.size a ≤ S.size a) :
    M.view.readAt (Elt Ideal) (Rect.unit (s := S) o S.size h).toLoadRect (hM.unread x) = x :=
  funext fun j => (congrFun (hM.read_unread x) _).trans (congrArg x (Rect.emb_unit_full h j))

/-- The projected rows, from what the loads of the body read. -/
theorem prod_load (t : Fin cfg0.N) :
    k0_pay7 (F := Ideal)
      (View.readAt (Elt Ideal) (ms0_0 t).view (Rect.unit (s := S512x1024) ![0, 0] S512x1024.size inb_S512x1024_S512x1024_0_0).toLoadRect ((hs0_0 t).unread (iblk m c 0 t)))
      (View.readAt (Elt Ideal) (ms0_1 t).view (Rect.unit (s := S1x1024) ![0, 0] S1x1024.size inb_S1x1024_S1x1024_0_0).toLoadRect ((hs0_1 t).unread (iblk m c 1 t)))
      (View.readAt (Elt Ideal) (ms0_2 t).view (Rect.unit (s := S1024x3200) ![0, 0] S1024x3200.size inb_S1024x3200_S1024x3200_0_0).toLoadRect ((hs0_2 t).unread (iblk m c 2 t)))
      = prodOf m c t := by
  unfold prodOf
  rw [load_whole (ms0_0 t) (hs0_0 t), load_whole (ms0_1 t) (hs0_1 t), load_whole (ms0_2 t) (hs0_2 t)]

/-- The first block is the projected rows. -/
theorem out3 (t : Fin cfg0.N) : (outsAt0 m c t).1 = prodOf m c t := by
  funext y
  unfold outsAt0
  dsimp only
  unfold out0_A_3
  refine View.read_writes_apply_of_pieces VO0_3 _ (prodOf m c t) _ (fun pc hpc x => ?_) y (cover0_A_3 ..)
  dsimp only [kernelRun0_A] at hpc
  obtain rfl := List.mem_singleton.mp hpc
  refine (congrFun (prod_load m c t) x).trans (congrArg (prodOf m c t) ?_)
  exact (Rect.emb_unit_full inb_S512x3200_S512x3200_0_0 x).symm

/-- The second block is the keys by heads. -/
theorem out4 (t : Fin cfg0.N) : (outsAt0 m c t).2.1 = headsOf 512 (by omega) (prodOf m c t) := by
  funext y
  unfold outsAt0
  dsimp only
  unfold out0_A_4
  refine View.read_writes_apply_of_pieces VO0_4 _ (headsOf 512 (by omega) (prodOf m c t)) _ ?_ y (cover0_A_4 ..)
  dsimp only [kernelRun0_A, kernelRun0_A.sl.r, kernelRun0_A.sl.r_1, k0_pay1, k0_pay2, k0_pay8, k0_pay9, k0_pay10]
  rw [prod_load]
  simp only [List.forall_mem_cons]
  refine ⟨fun x => ?_, fun x => ?_, fun x => ?_, fun x => ?_, fun _ h => absurd h List.not_mem_nil⟩
  · exact head_piece 512 (by omega) _ 3 896 (by omega) (by omega) _ _ x
  · exact head_piece 512 (by omega) _ 2 768 (by omega) (by omega) _ _ x
  · exact head_piece 512 (by omega) _ 1 640 (by omega) (by omega) _ _ x
  · exact head_piece 512 (by omega) _ 0 512 (by omega) (by omega) _ _ x

/-- The third block is the values by heads. -/
theorem out5 (t : Fin cfg0.N) : (outsAt0 m c t).2.2 = headsOf 1024 (by omega) (prodOf m c t) := by
  funext y
  unfold outsAt0
  dsimp only
  unfold out0_A_5
  refine View.read_writes_apply_of_pieces VO0_5 _ (headsOf 1024 (by omega) (prodOf m c t)) _ ?_ y (cover0_A_5 ..)
  dsimp only [kernelRun0_A, kernelRun0_A.sl.r, k0_pay3, k0_pay4, k0_pay5, k0_pay6]
  rw [prod_load]
  simp only [List.forall_mem_cons]
  refine ⟨fun x => ?_, fun x => ?_, fun x => ?_, fun x => ?_, fun _ h => absurd h List.not_mem_nil⟩
  · exact head_piece 1024 (by omega) _ 3 1408 (by omega) (by omega) _ _ x
  · exact head_piece 1024 (by omega) _ 2 1280 (by omega) (by omega) _ _ x
  · exact head_piece 1024 (by omega) _ 1 1152 (by omega) (by omega) _ _ x
  · exact head_piece 1024 (by omega) _ 0 1024 (by omega) (by omega) _ _ x

end Cert.Sample

end
-- ==== Proof.SampleRef.lean ====
/- The reference of the sample's mixer projection at the second layer, read at one entry over the extended reals. -/
module

public import proofs.«01_k».proof.Proof.Gen.Reference6Ideal.Read
public import proofs.«01_k».proof.Proof.HeadsRef
public import Idealize.ShloMosaic.Lib.Pointwise
public import Idealize.ShloMosaic.Lib.IdealHost

@[expose] public section

set_option maxRecDepth 1024

noncomputable section

namespace Cert.SampleRef

open Idealize.ShloMosaic Idealize.ShloMosaic.TcCoe Idealize.SL.Sem
open Cert.Reference6Ideal Cert.Reference6Ideal.Gen Cert.Reference6Ideal.Read
open Cert.HeadsRef (sitofp_zero)

/-- A normalised entry of row `s` of sequence `b`. -/
def hOf (x : FVec Ideal S128x8x1024 .f32) (g : FVec Ideal S1024 .f32) (b : Fin 128) (s : Fin 8) (k : Fin 1024) : EReal :=
  x (ix3 b s k) * Ideal.rsqrt (Ideal.div (∑ q : Fin 1024, x (ix3 b s q) * x (ix3 b s q)) (Ideal.ofBits .f32 0x44800000#32) + Ideal.ofBits .f32 0x358637BD#32) * g (ix1 k)

/-- An entry of the projection of flattened row `i`. -/
def projOf (x : FVec Ideal S128x8x1024 .f32) (g : FVec Ideal S1024 .f32) (w : FVec Ideal S1024x3088 .f32) (i : Fin 1024) (n : Fin 3088) : EReal :=
  ∑ k : Fin 1024, hOf x g ⟨i.val / 8, by omega⟩ ⟨i.val % 8, by omega⟩ k * w (ix2 k n)

theorem v1_at (x : FVec Ideal S128x8x1024 .f32) (b : Fin 128) (s : Fin 8) : val_main_v1 (F := Ideal) x (ix2 b s) = ∑ q : Fin 1024, x (ix3 b s q) * x (ix3 b s q) := by
  pointwise [val_main_v1, val_main_v0, val_main_cst]

/-- The reference's normalised rows. -/
theorem v12_at (x : FVec Ideal S128x8x1024 .f32) (g : FVec Ideal S1024 .f32) (b : Fin 128) (s : Fin 8) (k : Fin 1024) :
    val_main_v12 (F := Ideal) x g (ix3 b s k) = hOf x g b s k := by
  unfold hOf
  rw [← v1_at]
  generalize hv : val_main_v1 (F := Ideal) x = v
  pointwise [val_main_v12, val_main_v11, val_main_v10, val_main_v9, val_main_v8, val_main_v7, val_main_v6, val_main_v5, val_main_v4, val_main_v3, val_main_v2, val_main_cst_0, val_main_cst_1, hv]

theorem dot_at (h : FVec Ideal S128x8x1024 .f32) (u : FVec Ideal S1024x3088 .f32) (b : Fin 128) (s : Fin 8) (n : Fin 3088) :
    Host.dotGeneral (F := Ideal) dot_S128x8x1024_S1024x3088_S128x8x3088_2_0_01_1_n_n none h u (ix3 b s n) = ∑ k : Fin 1024, h (ix3 b s k) * u (ix2 k n) := by
  pointwise

/-- The projection of the flattened rows. -/
theorem v14_at (x : FVec Ideal S128x8x1024 .f32) (g : FVec Ideal S1024 .f32) (w : FVec Ideal S1024x3088 .f32) (i : Fin 1024) (n : Fin 3088) :
    val_main_v14 (F := Ideal) x g w (ix2 i n) = projOf x g w i n := by
  have e : val_main_v14 (F := Ideal) x g w (ix2 i n) = val_main_v13 (F := Ideal) x g w (ix3 ⟨i.val / 8, by omega⟩ ⟨i.val % 8, by omega⟩ n) := by
    unfold val_main_v14
    generalize val_main_v13 (F := Ideal) x g w = v
    pointwise
  rw [e]
  unfold val_main_v13 projOf
  rw [dot_at]
  exact Finset.sum_congr rfl fun k _ => by rw [v12_at]

/-- The padded projection. -/
theorem v19_at (x : FVec Ideal S128x8x1024 .f32) (g : FVec Ideal S1024 .f32) (w : FVec Ideal S1024x3088 .f32) (i : Fin 1024) (n : Fin 3200) :
    val_main_v19 (F := Ideal) x g w (ix2 i n) = if h : n.val < 3088 then projOf x g w i ⟨n.val, h⟩ else 0 := by
  simp only [← v14_at]
  unfold val_main_v19
  generalize val_main_v14 (F := Ideal) x g w = v
  pointwise [val_main_call0_v0, val_main_c, sitofp_zero]

/-- The stack of the keys by heads: the first layer as given, the second this layer's. -/
theorem v24_at (x : FVec Ideal S128x8x1024 .f32) (g : FVec Ideal S1024 .f32) (w : FVec Ideal S1024x3088 .f32) (u : FVec Ideal S2x1024x4x128 .f32)
    (l : Fin 2) (i : Fin 1024) (h : Fin 4) (d : Fin 128) :
    val_main_v24 (F := Ideal) x g w u (ix4 l i h d) = if l.val = 0 then u (ix4 0 i h d) else projOf x g w i ⟨512 + (h.val * 128 + d.val), by omega⟩ := by
  simp only [← v14_at]
  generalize hv : val_main_v14 (F := Ideal) x g w = v
  pointwise [val_main_v24, val_main_v23, val_main_v22, val_main_v21, val_main_v20, val_main_v16, val_main_v15, hv]
  by_cases hl : l.val = 0
  · rw [dif_pos (by omega), if_pos hl]
  · rw [dif_neg (by omega), if_neg hl]

/-- The stack of the values likewise. -/
theorem v29_at (x : FVec Ideal S128x8x1024 .f32) (g : FVec Ideal S1024 .f32) (w : FVec Ideal S1024x3088 .f32) (u : FVec Ideal S2x1024x4x128 .f32)
    (l : Fin 2) (i : Fin 1024) (h : Fin 4) (d : Fin 128) :
    val_main_v29 (F := Ideal) x g w u (ix4 l i h d) = if l.val = 0 then u (ix4 0 i h d) else projOf x g w i ⟨1024 + (h.val * 128 + d.val), by omega⟩ := by
  simp only [← v14_at]
  generalize hv : val_main_v14 (F := Ideal) x g w = v
  pointwise [val_main_v29, val_main_v28, val_main_v27, val_main_v26, val_main_v25, val_main_v18, val_main_v17, hv]
  by_cases hl : l.val = 0
  · rw [dif_pos (by omega), if_pos hl]
  · rw [dif_neg (by omega), if_neg hl]

end Cert.SampleRef

end
-- ==== Proof.SampleValue.lean ====
/-
  The sample's mixer projection at the second layer: its three result arrays are the reference's, the stacks' first layer as given.
-/
module

public import proofs.«01_k».proof.Proof.SampleBlk
public import proofs.«01_k».proof.Proof.SampleOut
public import proofs.«01_k».proof.Proof.SampleRef

@[expose] public section

set_option maxRecDepth 1024

noncomputable section

namespace Cert.Sample

open Idealize.ShloMosaic Idealize.ShloMosaic.TcCoe
open Idealize.SL.Sem
open Idealize.ShloMosaic.Pipeline (Dat)
open Cert.Kernel6Ideal Cert.Kernel6Ideal.Gen
open Cert.SampleRef (hOf projOf)
open Cert.Heads (padW)

variable (m : (ℓ : Loc nD τ sig) → Buf (Elt Ideal) ℓ) (c : Dev nD)

/-- A tile's projected rows are the reference's, and zero in the padding. -/
theorem prod_eq (t : Fin cfg0.N) (ht : t.val < 2) (r : Fin 512) (n : Fin 3200) (i : Fin 1024) (hi : i.val = t.val * 512 + r.val) :
    prodOf m c t (ix2 r n) = if h : n.val < 3088 then projOf (argX m c) (argG m c) (argW m c) i ⟨n.val, h⟩ else 0 := by
  have hrow : ∀ k, (show Vec Ideal S512x1024 .f32 from iblk m c 0 t) (ix2 r k) = argX m c (ix3 ⟨i.val / 8, by omega⟩ ⟨i.val % 8, by omega⟩ k) := fun k =>
    ((at_0 m c t ht r k).trans (congrArg (fun z => (V m c main_v2 : FVec Ideal S1024x1024 .f32) (ix2 z k)) (Fin.ext hi.symm))).trans (V_x_at m c i k)
  refine (prod_at (show Vec Ideal S512x1024 .f32 from iblk m c 0 t) (show Vec Ideal S1x1024 .f32 from iblk m c 1 t)
    (show Vec Ideal S1024x3200 .bf16 from iblk m c 2 t) r n).trans ?_
  simp only [hrow, at_1, at_2]
  by_cases h : n.val < 3088
  · simp only [padW, dif_pos h]
    rfl
  · simp only [padW, dif_neg h, mul_zero, Finset.sum_const_zero]

/-- The reference's values of the launched arrays. -/
def refProj : FVec Ideal S1024x3200 .f32 := Cert.Reference6Ideal.Read.val_main_v19 (F := Ideal) (argX m c) (argG m c) (argW m c)
def refKeys : FVec Ideal S2x1024x4x128 .f32 := Cert.Reference6Ideal.Read.val_main_v24 (F := Ideal) (argX m c) (argG m c) (argW m c) (argK m c)
def refVals : FVec Ideal S2x1024x4x128 .f32 := Cert.Reference6Ideal.Read.val_main_v29 (F := Ideal) (argX m c) (argG m c) (argW m c) (argV m c)

/-- An entry of a tile's heads is the projection's entry. -/
theorem heads_eq (o : ℕ) (ho : o + 512 ≤ 3088) (t : Fin cfg0.N) (ht : t.val < 2) (l : Fin 1) (r : Fin 512) (h : Fin 4) (d : Fin 128) :
    headsOf o (by omega) (prodOf m c t) (ix4 l r h d)
      = projOf (argX m c) (argG m c) (argW m c) ⟨t.val * 512 + r.val, by omega⟩ ⟨o + (h.val * 128 + d.val), by omega⟩ := by
  unfold headsOf
  refine (prod_eq m c t ht r _ ⟨t.val * 512 + r.val, by omega⟩ rfl).trans ?_
  exact dif_pos (show o + (h.val * 128 + d.val) < 3088 by omega)

/-! ## What a point writes back, at one entry of a block -/

theorem entry_3 (t : Fin cfg0.N) (ht : t.val < 2) (y : S512x3200.Idx) :
    prodOf m c t y = refProj m c (((cfg0.win 3).blk t).view.emb y) := by
  obtain ⟨y0, y1, rfl⟩ : ∃ (y0 : Fin 512) (y1 : Fin 3200), y = ix2 y0 y1 := ⟨y 0, y 1, eq_ix2 y⟩
  refine ((prod_eq m c t ht y0 y1 ⟨t.val * 512 + y0.val, by omega⟩ rfl).trans ?_).trans (congrArg (refProj m c) (at_3 t ht y0 y1).symm)
  exact (Cert.SampleRef.v19_at _ _ _ _ _).symm

theorem entry_4 (t : Fin cfg0.N) (ht : t.val < 2) (y : S1x512x4x128.Idx) :
    headsOf 512 (by omega) (prodOf m c t) y = refKeys m c (((cfg0.win 4).blk t).view.emb y) := by
  obtain ⟨y0, y1, y2, y3, rfl⟩ : ∃ (y0 : Fin 1) (y1 : Fin 512) (y2 : Fin 4) (y3 : Fin 128), y = ix4 y0 y1 y2 y3 := ⟨y 0, y 1, y 2, y 3, eq_ix4 y⟩
  obtain rfl : y0 = 0 := Subsingleton.elim _ _
  refine ((heads_eq m c 512 (by omega) t ht 0 y1 y2 y3).trans ?_).trans (congrArg (refKeys m c) (at_4 t ht y1 y2 y3).symm)
  exact ((Cert.SampleRef.v24_at _ _ _ _ 1 _ _ _).trans (if_neg (by decide))).symm

theorem entry_5 (t : Fin cfg0.N) (ht : t.val < 2) (y : S1x512x4x128.Idx) :
    headsOf 1024 (by omega) (prodOf m c t) y = refVals m c (((cfg0.win 5).blk t).view.emb y) := by
  obtain ⟨y0, y1, y2, y3, rfl⟩ : ∃ (y0 : Fin 1) (y1 : Fin 512) (y2 : Fin 4) (y3 : Fin 128), y = ix4 y0 y1 y2 y3 := ⟨y 0, y 1, y 2, y 3, eq_ix4 y⟩
  obtain rfl : y0 = 0 := Subsingleton.elim _ _
  refine ((heads_eq m c 1024 (by omega) t ht 0 y1 y2 y3).trans ?_).trans (congrArg (refVals m c) (at_5 t ht y1 y2 y3).symm)
  exact ((Cert.SampleRef.v29_at _ _ _ _ 1 _ _ _).trans (if_neg (by decide))).symm

/-! ## The result arrays -/

/-- THE PROJECTED ROWS are the reference's. -/
theorem final_3 : (dats m 0 c).arrAt 3 cfg0.N = refProj m c := by
  refine (dats m 0 c).arrAt_eq_of_covers 3 _ (by decide +kernel) fun t _ y => ?_
  rw [after0_3, out3]
  exact entry_3 m c t (Nat.lt_of_lt_of_eq t.isLt N_0) y

/-- The first layer of the keys is what the reference keeps. -/
theorem kept_4 (i : S2x1024x4x128.Idx) (hi : (i 0).val = 0) : argK m c i = refKeys m c i := by
  obtain ⟨l, r, h, d, rfl⟩ : ∃ (l : Fin 2) (r : Fin 1024) (h : Fin 4) (d : Fin 128), i = ix4 l r h d := ⟨i 0, i 1, i 2, i 3, eq_ix4 i⟩
  obtain rfl : l = 0 := Fin.ext hi
  exact ((Cert.SampleRef.v24_at _ _ _ _ 0 _ _ _).trans (if_pos rfl)).symm

/-- THE STACK OF THE KEYS is the reference's. -/
theorem final_4 : (dats m 0 c).arrAt 4 cfg0.N = refKeys m c := by
  refine (dats m 0 c).arrAt_eq_of_coversWhere_of_agree 4 _ (fun β => β (0 : Fin 4) = 1) (by decide +kernel) (fun t _ y => ?_) fun j hj => ?_
  · rw [after0_4, out4]
    exact entry_4 m c t (Nat.lt_of_lt_of_eq t.isLt N_0) y
  · refine (congrFun (V_k m c) j).trans (kept_4 m c j ?_)
    exact (Nat.le_one_iff_eq_zero_or_eq_one.mp (Nat.le_of_lt_succ (j 0).isLt)).resolve_right fun h => hj ((Nat.div_one _).trans h)

/-- The first layer of the values is what the reference keeps. -/
theorem kept_5 (i : S2x1024x4x128.Idx) (hi : (i 0).val = 0) : argV m c i = refVals m c i := by
  obtain ⟨l, r, h, d, rfl⟩ : ∃ (l : Fin 2) (r : Fin 1024) (h : Fin 4) (d : Fin 128), i = ix4 l r h d := ⟨i 0, i 1, i 2, i 3, eq_ix4 i⟩
  obtain rfl : l = 0 := Fin.ext hi
  exact ((Cert.SampleRef.v29_at _ _ _ _ 0 _ _ _).trans (if_pos rfl)).symm

/-- THE STACK OF THE VALUES is the reference's. -/
theorem final_5 : (dats m 0 c).arrAt 5 cfg0.N = refVals m c := by
  refine (dats m 0 c).arrAt_eq_of_coversWhere_of_agree 5 _ (fun β => β (0 : Fin 4) = 1) (by decide +kernel) (fun t _ y => ?_) fun j hj => ?_
  · rw [after0_5, out5]
    exact entry_5 m c t (Nat.lt_of_lt_of_eq t.isLt N_0) y
  · refine (congrFun (V_v m c) j).trans (kept_5 m c j ?_)
    exact (Nat.le_one_iff_eq_zero_or_eq_one.mp (Nat.le_of_lt_succ (j 0).isLt)).resolve_right fun h => hj ((Nat.div_one _).trans h)

end Cert.Sample

end
-- ==== Proof.Sample.lean ====
/- The sample's mixer projection at the second layer: the reference's frame and the value claim. -/
module

public import proofs.«01_k».proof.Defs
public import proofs.«01_k».proof.Proof.SampleValue
public import proofs.«01_k».proof.Proof.Gen.Reference6Ideal.Run
public import proofs.«01_k».proof.Proof.Gen.Reference6Ideal.Read
public import Idealize.ShloMosaic.Lib.Claim

@[expose] public section

set_option maxRecDepth 16384

noncomputable section

namespace Cert.Sample

open Idealize.ShloMosaic Idealize.SL.Sem
open Cert.Reference6Ideal.Read (val_main_v19 val_main_v19_eq val_main_v24 val_main_v24_eq val_main_v29 val_main_v29_eq)

variable [Cert.Kernel6Ideal.Facts] [Cert.Reference6Ideal.Facts]

/-- The reference runs, leaves its arguments as they were and every semaphore at zero. -/
theorem frame_reference : Cert.quiescent_Reference6Ideal := fun m g _ =>
  (θ_run Cert.Reference6Ideal.defs _ _).mono (fun r h => ⟨fun c => (h c).2.2.2, sem_eq_zero_of_no_sems (by decide) r.2⟩)
    (Cert.Reference6Ideal.Value.run (F := Ideal) m g)

/-- THE VALUE CLAIM: the kernel's three results are the reference's. -/
theorem algebraic : Cert.algebraic_Kernel6Ideal_Reference6Ideal := fun m g m' g' hpre hargs => by
  refine ⟨fun c => refProj m c, fun c => refKeys m c, fun c => refVals m c,
    (θ_run Cert.Kernel6Ideal.defs _ _).mono
      (fun _ h c => ⟨(h c).1.trans (final_3 m c), (h c).2.1.trans (final_4 m c), (h c).2.2.1.trans (final_5 m c), (h c).2.2.2⟩)
      (Cert.Kernel6Ideal.Value.run_blocks m g),
    (θ_run Cert.Reference6Ideal.defs _ _).mono
      (fun _ h c => ⟨((h c).1.trans (val_main_v19_eq _ _ _)).trans ?_, ((h c).2.1.trans (val_main_v24_eq _ _ _ _)).trans ?_,
        ((h c).2.2.1.trans (val_main_v29_eq _ _ _ _)).trans ?_, (h c).2.2.2⟩)
      (Cert.Reference6Ideal.Value.run m' g')⟩
  all_goals obtain ⟨e0, e1, e2, e3, e4⟩ := hargs c
  · exact congr (congr (congrArg (val_main_v19 (F := Ideal)) e0) e1) e2
  · exact congr (congr (congr (congrArg (val_main_v24 (F := Ideal)) e0) e1) e2) e3
  · exact congr (congr (congr (congrArg (val_main_v29 (F := Ideal)) e0) e1) e2) e4

end Cert.Sample

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Launch
public import proofs.«01_k».proof.Proof.Gen.Kernel2.Skeleton
public import proofs.«01_k».proof.Proof.Gen.Kernel2Ideal
public import proofs.«01_k».proof.Proof.Gen.Kernel2Ideal.Launch
public import proofs.«01_k».proof.Proof.Gen.Kernel2Ideal.Skeleton
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Launch
public import proofs.«01_k».proof.Proof.Gen.Kernel3Ideal
public import proofs.«01_k».proof.Proof.Gen.Kernel3Ideal.Frame.Runs
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Launch
public import proofs.«01_k».proof.Proof.Gen.Kernel4Ideal
public import proofs.«01_k».proof.Proof.Gen.Kernel4Ideal.Frame.RunA
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Attention
public import proofs.«01_k».proof.Proof.MoeBits
public import proofs.«01_k».proof.Proof.Moe
public import proofs.«01_k».proof.Proof.DenseBits
public import proofs.«01_k».proof.Proof.Dense
public import proofs.«01_k».proof.Proof.MemBits
public import proofs.«01_k».proof.Proof.Mem
public import proofs.«01_k».proof.Proof.Heads
public import proofs.«01_k».proof.Proof.Sample
public import Idealize.ShloMosaic.Adequacy
public import Idealize.ShloMosaic.Init

@[expose] public section

noncomputable section

namespace Cert.Proof

open Idealize.ShloMosaic Idealize.SL.Sem Cert.Kernel

/-- Every claim of the file. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts, Cert.Finite.facts, Moe.preFacts,
    fun m ρ _ => Cert.Kernel.Gen.frame m ρ,
    fun m ρ _ => Cert.KernelIdeal.Gen.frame m ρ,
    fun m ρ _ => Cert.KernelIdeal.Gen.frame m ρ,
    Attention.frame_reference,
    Attention.frame_reference_pre,
    Moe.frame_kernel,
    Moe.frame_ideal,
    Moe.frame_reference,
    Moe.frame_reference_pre,
    Dense.frame_kernel,
    Dense.frame_ideal,
    Dense.frame_reference,
    Mem.frame_kernel,
    Mem.frame_ideal,
    Mem.frame_reference,
    fun m ρ _ => Cert.Kernel5.Gen.frame m ρ,
    fun m ρ _ => Cert.Kernel5Ideal.Gen.frame m ρ,
    Heads.frame_reference,
    fun m ρ _ => Cert.Kernel6.Gen.frame m ρ,
    fun m ρ _ => Cert.Kernel6Ideal.Gen.frame m ρ,
    Sample.frame_reference,
    trivial,
    Attention.algebraic,
    trivial,
    Moe.algebraic,
    trivial,
    Dense.algebraic,
    trivial,
    Mem.algebraic,
    trivial,
    Heads.algebraic,
    trivial,
    Sample.algebraic⟩

end Cert.Proof

end
